-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S4096x20 : Shape := ⟨2, ![4096, 20]⟩
abbrev S1001x16 : Shape := ⟨2, ![1001, 16]⟩
abbrev S320x64 : Shape := ⟨2, ![320, 64]⟩
abbrev S64 : Shape := ⟨1, ![64]⟩
abbrev S64x1000 : Shape := ⟨2, ![64, 1000]⟩
abbrev S1000 : Shape := ⟨1, ![1000]⟩
abbrev S_ : Shape := ⟨0, ![]⟩

class Facts : Prop where
  bcast_S_S4096x20 : S_.BroadcastsInDim S4096x20 (![] : Fin 0 → Fin S4096x20.rank)
  reducesTo_S4096x20_S_d0_1 : S4096x20.ReducesTo [0, 1] S_
  h_S_ : 0 < S_.numel

variable [Facts]

def fn {F : FTy → Type} [FloatOps F] (main_arg0 : IVec S4096x20 32) (main_arg1 : FVec F S1001x16 .f32) (main_arg2 : FVec F S320x64 .f32) (main_arg3 : FVec F S64 .f32) (main_arg4 : FVec F S64x1000 .f32) (main_arg5 : FVec F S1000 .f32) : IVec S_ 1 :=
  let main_c : IVec S_ 32 := constantI S_ 32 0#32
  let main_v0 : IVec S4096x20 32 := broadcastInDim S4096x20 ![] bcast_S_S4096x20 main_c
  let main_v1 : IVec S4096x20 1 := cmpi .sge main_arg0 main_v0
  let main_c_0 : IVec S_ 32 := constantI S_ 32 1000#32
  let main_v2 : IVec S4096x20 32 := broadcastInDim S4096x20 ![] bcast_S_S4096x20 main_c_0
  let main_v3 : IVec S4096x20 1 := cmpi .slt main_arg0 main_v2
  let main_v4 : IVec S4096x20 1 := andi main_v1 main_v3
  let main_c_1 : IVec S_ 1 := constantI S_ 1 1#1
  let main_v5 : IVec S_ 1 := (fun x v => Host.reduce IntOp.andi x v reducesTo_S4096x20_S_d0_1 h_S_) main_v4 main_c_1
  main_v5
-- ==== Kernel.lean ====
abbrev S4096x20 : Shape := ⟨2, ![4096, 20]⟩
abbrev S1001x16 : Shape := ⟨2, ![1001, 16]⟩
abbrev S320x64 : Shape := ⟨2, ![320, 64]⟩
abbrev S64 : Shape := ⟨1, ![64]⟩
abbrev S64x1000 : Shape := ⟨2, ![64, 1000]⟩
abbrev S1000 : Shape := ⟨1, ![1000]⟩
abbrev S_ : Shape := ⟨0, ![]⟩
abbrev S1008x128 : Shape := ⟨2, ![1008, 128]⟩
abbrev S1024x20 : Shape := ⟨2, ![1024, 20]⟩
abbrev S20480 : Shape := ⟨1, ![20480]⟩
abbrev S1024x384 : Shape := ⟨2, ![1024, 384]⟩
abbrev S160 : Shape := ⟨1, ![160]⟩
abbrev S160x128 : Shape := ⟨2, ![160, 128]⟩
abbrev S8x384 : Shape := ⟨2, ![8, 384]⟩
abbrev S16 : Shape := ⟨1, ![16]⟩
abbrev S1x16 : Shape := ⟨2, ![1, 16]⟩
abbrev S80x128 : Shape := ⟨2, ![80, 128]⟩
abbrev S80 : Shape := ⟨1, ![80]⟩
abbrev S3072x20 : Shape := ⟨2, ![3072, 20]⟩
abbrev S61440 : Shape := ⟨1, ![61440]⟩
abbrev S3072x384 : Shape := ⟨2, ![3072, 384]⟩
abbrev S19x16 : Shape := ⟨2, ![19, 16]⟩
abbrev S304 : Shape := ⟨1, ![304]⟩
abbrev S1x304 : Shape := ⟨2, ![1, 304]⟩
abbrev S20x16x64 : Shape := ⟨3, ![20, 16, 64]⟩
abbrev S624x64 : Shape := ⟨2, ![624, 64]⟩
abbrev S624x1024 : Shape := ⟨2, ![624, 1024]⟩
abbrev S624x256 : Shape := ⟨2, ![624, 256]⟩
abbrev S624x1280 : Shape := ⟨2, ![624, 1280]⟩
abbrev S320x1280 : Shape := ⟨2, ![320, 1280]⟩
abbrev S1280x320 : Shape := ⟨2, ![1280, 320]⟩
abbrev S1280x384 : Shape := ⟨2, ![1280, 384]⟩
abbrev S304x1280 : Shape := ⟨2, ![304, 1280]⟩
abbrev S1280x304 : Shape := ⟨2, ![1280, 304]⟩
abbrev S1x64 : Shape := ⟨2, ![1, 64]⟩
abbrev S20x64 : Shape := ⟨2, ![20, 64]⟩
abbrev S1280 : Shape := ⟨1, ![1280]⟩
abbrev S1280x1 : Shape := ⟨2, ![1280, 1]⟩
abbrev S1000x64 : Shape := ⟨2, ![1000, 64]⟩
abbrev S1000x1 : Shape := ⟨2, ![1000, 1]⟩
abbrev S20x1000x4096 : Shape := ⟨3, ![20, 1000, 4096]⟩
abbrev S256x384 : Shape := ⟨2, ![256, 384]⟩
abbrev S640x384 : Shape := ⟨2, ![640, 384]⟩
abbrev S640x304 : Shape := ⟨2, ![640, 304]⟩
abbrev S640x1 : Shape := ⟨2, ![640, 1]⟩
abbrev S10x1000x256 : Shape := ⟨3, ![10, 1000, 256]⟩
abbrev S640x256 : Shape := ⟨2, ![640, 256]⟩
abbrev S64x256 : Shape := ⟨2, ![64, 256]⟩
abbrev S1000x256 : Shape := ⟨2, ![1000, 256]⟩
abbrev S1x1000x256 : Shape := ⟨3, ![1, 1000, 256]⟩
abbrev S4096x20x1000 : Shape := ⟨3, ![4096, 20, 1000]⟩

abbrev nBuf : Table → Nat
  | .hbm => 105
  | .local .tc .vmem => 26
  | .shared => 2
  | .local .scVector .vmem => 6
  | _ => 0

abbrev bufTy : (tb : Table) → Fin (nBuf tb) → BufTy
  | .hbm, ⟨0, _⟩ => ⟨S4096x20, .i32⟩
  | .hbm, ⟨1, _⟩ => ⟨S1001x16, .f32⟩
  | .hbm, ⟨2, _⟩ => ⟨S320x64, .f32⟩
  | .hbm, ⟨3, _⟩ => ⟨S64, .f32⟩
  | .hbm, ⟨4, _⟩ => ⟨S64x1000, .f32⟩
  | .hbm, ⟨5, _⟩ => ⟨S1000, .f32⟩
  | .hbm, ⟨6, _⟩ => ⟨S_, .i32⟩
  | .hbm, ⟨7, _⟩ => ⟨S_, .f32⟩
  | .hbm, ⟨8, _⟩ => ⟨S1008x128, .f32⟩
  | .hbm, ⟨9, _⟩ => ⟨S1024x20, .i32⟩
  | .hbm, ⟨10, _⟩ => ⟨S20480, .i32⟩
  | .hbm, ⟨11, _⟩ => ⟨S1024x384, .f32⟩
  | .hbm, ⟨12, _⟩ => ⟨S3072x20, .i32⟩
  | .hbm, ⟨13, _⟩ => ⟨S61440, .i32⟩
  | .hbm, ⟨14, _⟩ => ⟨S3072x384, .f32⟩
  | .hbm, ⟨15, _⟩ => ⟨S1x16, .f32⟩
  | .hbm, ⟨16, _⟩ => ⟨S16, .f32⟩
  | .hbm, ⟨17, _⟩ => ⟨S1x16, .f32⟩
  | .hbm, ⟨18, _⟩ => ⟨S19x16, .f32⟩
  | .hbm, ⟨19, _⟩ => ⟨S304, .f32⟩
  | .hbm, ⟨20, _⟩ => ⟨S1x304, .f32⟩
  | .hbm, ⟨21, _⟩ => ⟨S20x16x64, .f32⟩
  | .hbm, ⟨22, _⟩ => ⟨S20x16x64, .f32⟩
  | .hbm, ⟨23, _⟩ => ⟨S320x64, .f32⟩
  | .hbm, ⟨24, _⟩ => ⟨S_, .i32⟩
  | .hbm, ⟨25, _⟩ => ⟨S_, .f32⟩
  | .hbm, ⟨26, _⟩ => ⟨S624x64, .f32⟩
  | .hbm, ⟨27, _⟩ => ⟨S_, .i32⟩
  | .hbm, ⟨28, _⟩ => ⟨S_, .f32⟩
  | .hbm, ⟨29, _⟩ => ⟨S624x64, .f32⟩
  | .hbm, ⟨30, _⟩ => ⟨S_, .i32⟩
  | .hbm, ⟨31, _⟩ => ⟨S_, .f32⟩
  | .hbm, ⟨32, _⟩ => ⟨S624x64, .f32⟩
  | .hbm, ⟨33, _⟩ => ⟨S_, .i32⟩
  | .hbm, ⟨34, _⟩ => ⟨S_, .f32⟩
  | .hbm, ⟨35, _⟩ => ⟨S624x64, .f32⟩
  | .hbm, ⟨36, _⟩ => ⟨S_, .i32⟩
  | .hbm, ⟨37, _⟩ => ⟨S_, .f32⟩
  | .hbm, ⟨38, _⟩ => ⟨S624x64, .f32⟩
  | .hbm, ⟨39, _⟩ => ⟨S_, .i32⟩
  | .hbm, ⟨40, _⟩ => ⟨S_, .f32⟩
  | .hbm, ⟨41, _⟩ => ⟨S624x64, .f32⟩
  | .hbm, ⟨42, _⟩ => ⟨S_, .i32⟩
  | .hbm, ⟨43, _⟩ => ⟨S_, .f32⟩
  | .hbm, ⟨44, _⟩ => ⟨S624x64, .f32⟩
  | .hbm, ⟨45, _⟩ => ⟨S_, .i32⟩
  | .hbm, ⟨46, _⟩ => ⟨S_, .f32⟩
  | .hbm, ⟨47, _⟩ => ⟨S624x64, .f32⟩
  | .hbm, ⟨48, _⟩ => ⟨S_, .i32⟩
  | .hbm, ⟨49, _⟩ => ⟨S_, .f32⟩
  | .hbm, ⟨50, _⟩ => ⟨S624x64, .f32⟩
  | .hbm, ⟨51, _⟩ => ⟨S_, .i32⟩
  | .hbm, ⟨52, _⟩ => ⟨S_, .f32⟩
  | .hbm, ⟨53, _⟩ => ⟨S624x64, .f32⟩
  | .hbm, ⟨54, _⟩ => ⟨S_, .i32⟩
  | .hbm, ⟨55, _⟩ => ⟨S_, .f32⟩
  | .hbm, ⟨56, _⟩ => ⟨S624x64, .f32⟩
  | .hbm, ⟨57, _⟩ => ⟨S_, .i32⟩
  | .hbm, ⟨58, _⟩ => ⟨S_, .f32⟩
  | .hbm, ⟨59, _⟩ => ⟨S624x64, .f32⟩
  | .hbm, ⟨60, _⟩ => ⟨S_, .i32⟩
  | .hbm, ⟨61, _⟩ => ⟨S_, .f32⟩
  | .hbm, ⟨62, _⟩ => ⟨S624x64, .f32⟩
  | .hbm, ⟨63, _⟩ => ⟨S_, .i32⟩
  | .hbm, ⟨64, _⟩ => ⟨S_, .f32⟩
  | .hbm, ⟨65, _⟩ => ⟨S624x64, .f32⟩
  | .hbm, ⟨66, _⟩ => ⟨S_, .i32⟩
  | .hbm, ⟨67, _⟩ => ⟨S_, .f32⟩
  | .hbm, ⟨68, _⟩ => ⟨S624x64, .f32⟩
  | .hbm, ⟨69, _⟩ => ⟨S_, .i32⟩
  | .hbm, ⟨70, _⟩ => ⟨S_, .f32⟩
  | .hbm, ⟨71, _⟩ => ⟨S624x64, .f32⟩
  | .hbm, ⟨72, _⟩ => ⟨S_, .i32⟩
  | .hbm, ⟨73, _⟩ => ⟨S_, .f32⟩
  | .hbm, ⟨74, _⟩ => ⟨S624x64, .f32⟩
  | .hbm, ⟨75, _⟩ => ⟨S_, .i32⟩
  | .hbm, ⟨76, _⟩ => ⟨S_, .f32⟩
  | .hbm, ⟨77, _⟩ => ⟨S624x64, .f32⟩
  | .hbm, ⟨78, _⟩ => ⟨S_, .i32⟩
  | .hbm, ⟨79, _⟩ => ⟨S_, .f32⟩
  | .hbm, ⟨80, _⟩ => ⟨S624x64, .f32⟩
  | .hbm, ⟨81, _⟩ => ⟨S_, .i32⟩
  | .hbm, ⟨82, _⟩ => ⟨S_, .f32⟩
  | .hbm, ⟨83, _⟩ => ⟨S624x64, .f32⟩
  | .hbm, ⟨84, _⟩ => ⟨S624x1024, .f32⟩
  | .hbm, ⟨85, _⟩ => ⟨S624x256, .f32⟩
  | .hbm, ⟨86, _⟩ => ⟨S624x1280, .f32⟩
  | .hbm, ⟨87, _⟩ => ⟨S320x1280, .f32⟩
  | .hbm, ⟨88, _⟩ => ⟨S1280x320, .f32⟩
  | .hbm, ⟨89, _⟩ => ⟨S1280x320, .bf16⟩
  | .hbm, ⟨90, _⟩ => ⟨S_, .i32⟩
  | .hbm, ⟨91, _⟩ => ⟨S_, .bf16⟩
  | .hbm, ⟨92, _⟩ => ⟨S1280x384, .bf16⟩
  | .hbm, ⟨93, _⟩ => ⟨S304x1280, .f32⟩
  | .hbm, ⟨94, _⟩ => ⟨S1280x304, .f32⟩
  | .hbm, ⟨95, _⟩ => ⟨S1x64, .f32⟩
  | .hbm, ⟨96, _⟩ => ⟨S20x64, .f32⟩
  | .hbm, ⟨97, _⟩ => ⟨S1280, .f32⟩
  | .hbm, ⟨98, _⟩ => ⟨S1280x1, .f32⟩
  | .hbm, ⟨99, _⟩ => ⟨S1000x64, .f32⟩
  | .hbm, ⟨100, _⟩ => ⟨S1000x64, .bf16⟩
  | .hbm, ⟨101, _⟩ => ⟨S1000x1, .f32⟩
  | .hbm, ⟨102, _⟩ => ⟨S20x1000x4096, .f32⟩
  | .hbm, ⟨103, _⟩ => ⟨S20x1000x4096, .f32⟩
  | .hbm, ⟨104, _⟩ => ⟨S4096x20x1000, .f32⟩
  | .local .tc .vmem, ⟨0, _⟩ => ⟨S256x384, .f32⟩
  | .local .tc .vmem, ⟨1, _⟩ => ⟨S256x384, .f32⟩
  | .local .tc .vmem, ⟨2, _⟩ => ⟨S1x304, .f32⟩
  | .local .tc .vmem, ⟨3, _⟩ => ⟨S640x384, .bf16⟩
  | .local .tc .vmem, ⟨4, _⟩ => ⟨S640x384, .bf16⟩
  | .local .tc .vmem, ⟨5, _⟩ => ⟨S640x304, .f32⟩
  | .local .tc .vmem, ⟨6, _⟩ => ⟨S640x304, .f32⟩
  | .local .tc .vmem, ⟨7, _⟩ => ⟨S640x1, .f32⟩
  | .local .tc .vmem, ⟨8, _⟩ => ⟨S640x1, .f32⟩
  | .local .tc .vmem, ⟨9, _⟩ => ⟨S1000x64, .bf16⟩
  | .local .tc .vmem, ⟨10, _⟩ => ⟨S1000x1, .f32⟩
  | .local .tc .vmem, ⟨11, _⟩ => ⟨S10x1000x256, .f32⟩
  | .local .tc .vmem, ⟨12, _⟩ => ⟨S10x1000x256, .f32⟩
  | .local .tc .vmem, ⟨13, _⟩ => ⟨S256x384, .f32⟩
  | .local .tc .vmem, ⟨14, _⟩ => ⟨S256x384, .f32⟩
  | .local .tc .vmem, ⟨15, _⟩ => ⟨S1x304, .f32⟩
  | .local .tc .vmem, ⟨16, _⟩ => ⟨S640x384, .bf16⟩
  | .local .tc .vmem, ⟨17, _⟩ => ⟨S640x384, .bf16⟩
  | .local .tc .vmem, ⟨18, _⟩ => ⟨S640x304, .f32⟩
  | .local .tc .vmem, ⟨19, _⟩ => ⟨S640x304, .f32⟩
  | .local .tc .vmem, ⟨20, _⟩ => ⟨S640x1, .f32⟩
  | .local .tc .vmem, ⟨21, _⟩ => ⟨S640x1, .f32⟩
  | .local .tc .vmem, ⟨22, _⟩ => ⟨S1000x64, .bf16⟩
  | .local .tc .vmem, ⟨23, _⟩ => ⟨S1000x1, .f32⟩
  | .local .tc .vmem, ⟨24, _⟩ => ⟨S10x1000x256, .f32⟩
  | .local .tc .vmem, ⟨25, _⟩ => ⟨S10x1000x256, .f32⟩
  | .shared, ⟨0, _⟩ => ⟨S1008x128, .f32⟩
  | .shared, ⟨1, _⟩ => ⟨S1008x128, .f32⟩
  | .local .scVector .vmem, ⟨0, _⟩ => ⟨S160, .i32⟩
  | .local .scVector .vmem, ⟨1, _⟩ => ⟨S160x128, .f32⟩
  | .local .scVector .vmem, ⟨2, _⟩ => ⟨S8x384, .f32⟩
  | .local .scVector .vmem, ⟨3, _⟩ => ⟨S160, .i32⟩
  | .local .scVector .vmem, ⟨4, _⟩ => ⟨S160x128, .f32⟩
  | .local .scVector .vmem, ⟨5, _⟩ => ⟨S8x384, .f32⟩
  | _, _ => ⟨S4096x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 36 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTables nBuf rfl bufTy 5 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_call1_v0 : Ref sig .tc := ⟨.hbm, 25, rfl⟩
abbrev main_v16 : Ref sig .tc := ⟨.hbm, 26, rfl⟩
abbrev main_c_1 : Ref sig .tc := ⟨.hbm, 27, rfl⟩
abbrev main_call2_v0 : Ref sig .tc := ⟨.hbm, 28, rfl⟩
abbrev main_v17 : Ref sig .tc := ⟨.hbm, 29, rfl⟩
abbrev main_c_2 : Ref sig .tc := ⟨.hbm, 30, rfl⟩
abbrev main_call3_v0 : Ref sig .tc := ⟨.hbm, 31, rfl⟩
abbrev main_v18 : Ref sig .tc := ⟨.hbm, 32, rfl⟩
abbrev main_c_3 : Ref sig .tc := ⟨.hbm, 33, rfl⟩
abbrev main_call4_v0 : Ref sig .tc := ⟨.hbm, 34, rfl⟩
abbrev main_v19 : Ref sig .tc := ⟨.hbm, 35, rfl⟩
abbrev main_c_4 : Ref sig .tc := ⟨.hbm, 36, rfl⟩
abbrev main_call5_v0 : Ref sig .tc := ⟨.hbm, 37, rfl⟩
abbrev main_v20 : Ref sig .tc := ⟨.hbm, 38, rfl⟩
abbrev main_c_5 : Ref sig .tc := ⟨.hbm, 39, rfl⟩
abbrev main_call6_v0 : Ref sig .tc := ⟨.hbm, 40, rfl⟩
abbrev main_v21 : Ref sig .tc := ⟨.hbm, 41, rfl⟩
abbrev main_c_6 : Ref sig .tc := ⟨.hbm, 42, rfl⟩
abbrev main_call7_v0 : Ref sig .tc := ⟨.hbm, 43, rfl⟩
abbrev main_v22 : Ref sig .tc := ⟨.hbm, 44, rfl⟩
abbrev main_c_7 : Ref sig .tc := ⟨.hbm, 45, rfl⟩
abbrev main_call8_v0 : Ref sig .tc := ⟨.hbm, 46, rfl⟩
abbrev main_v23 : Ref sig .tc := ⟨.hbm, 47, rfl⟩
abbrev main_c_8 : Ref sig .tc := ⟨.hbm, 48, rfl⟩
abbrev main_call9_v0 : Ref sig .tc := ⟨.hbm, 49, rfl⟩
abbrev main_v24 : Ref sig .tc := ⟨.hbm, 50, rfl⟩
abbrev main_c_9 : Ref sig .tc := ⟨.hbm, 51, rfl⟩
abbrev main_call10_v0 : Ref sig .tc := ⟨.hbm, 52, rfl⟩
abbrev main_v25 : Ref sig .tc := ⟨.hbm, 53, rfl⟩
abbrev main_c_10 : Ref sig .tc := ⟨.hbm, 54, rfl⟩
abbrev main_call11_v0 : Ref sig .tc := ⟨.hbm, 55, rfl⟩
abbrev main_v26 : Ref sig .tc := ⟨.hbm, 56, rfl⟩
abbrev main_c_11 : Ref sig .tc := ⟨.hbm, 57, rfl⟩
abbrev main_call12_v0 : Ref sig .tc := ⟨.hbm, 58, rfl⟩
abbrev main_v27 : Ref sig .tc := ⟨.hbm, 59, rfl⟩
abbrev main_c_12 : Ref sig .tc := ⟨.hbm, 60, rfl⟩
abbrev main_call13_v0 : Ref sig .tc := ⟨.hbm, 61, rfl⟩
abbrev main_v28 : Ref sig .tc := ⟨.hbm, 62, rfl⟩
abbrev main_c_13 : Ref sig .tc := ⟨.hbm, 63, rfl⟩
abbrev main_call14_v0 : Ref sig .tc := ⟨.hbm, 64, rfl⟩
abbrev main_v29 : Ref sig .tc := ⟨.hbm, 65, rfl⟩
abbrev main_c_14 : Ref sig .tc := ⟨.hbm, 66, rfl⟩
abbrev main_call15_v0 : Ref sig .tc := ⟨.hbm, 67, rfl⟩
abbrev main_v30 : Ref sig .tc := ⟨.hbm, 68, rfl⟩
abbrev main_c_15 : Ref sig .tc := ⟨.hbm, 69, rfl⟩
abbrev main_call16_v0 : Ref sig .tc := ⟨.hbm, 70, rfl⟩
abbrev main_v31 : Ref sig .tc := ⟨.hbm, 71, rfl⟩
abbrev main_c_16 : Ref sig .tc := ⟨.hbm, 72, rfl⟩
abbrev main_call17_v0 : Ref sig .tc := ⟨.hbm, 73, rfl⟩
abbrev main_v32 : Ref sig .tc := ⟨.hbm, 74, rfl⟩
abbrev main_c_17 : Ref sig .tc := ⟨.hbm, 75, rfl⟩
abbrev main_call18_v0 : Ref sig .tc := ⟨.hbm, 76, rfl⟩
abbrev main_v33 : Ref sig .tc := ⟨.hbm, 77, rfl⟩
abbrev main_c_18 : Ref sig .tc := ⟨.hbm, 78, rfl⟩
abbrev main_call19_v0 : Ref sig .tc := ⟨.hbm, 79, rfl⟩
abbrev main_v34 : Ref sig .tc := ⟨.hbm, 80, rfl⟩
abbrev main_c_19 : Ref sig .tc := ⟨.hbm, 81, rfl⟩
abbrev main_call20_v0 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_c_20 : Ref sig .tc := ⟨.hbm, 90, rfl⟩
abbrev main_call21_v0 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v0_scv : Ref sig .scVector := ⟨.hbm, 8, rfl⟩
abbrev main_v2_scv : Ref sig .scVector := ⟨.hbm, 10, rfl⟩
abbrev main_v3_scv : Ref sig .scVector := ⟨.hbm, 11, rfl⟩
abbrev main_v5_scv : Ref sig .scVector := ⟨.hbm, 13, rfl⟩
abbrev main_v6_scv : Ref sig .scVector := ⟨.hbm, 14, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg2_0 : Ref sig .tc := ⟨.vmem, 3, rfl⟩
abbrev cc2_stg2_1 : Ref sig .tc := ⟨.vmem, 4, rfl⟩
abbrev cc2_stg3_0 : Ref sig .tc := ⟨.vmem, 5, rfl⟩
abbrev cc2_stg3_1 : Ref sig .tc := ⟨.vmem, 6, rfl⟩
abbrev cc2_stg4_0 : Ref sig .tc := ⟨.vmem, 7, rfl⟩
abbrev cc2_stg4_1 : Ref sig .tc := ⟨.vmem, 8, rfl⟩
abbrev cc2_stg5_0 : Ref sig .tc := ⟨.vmem, 9, rfl⟩
abbrev cc2_stg6_0 : Ref sig .tc := ⟨.vmem, 10, rfl⟩
abbrev cc2_stg7_0 : Ref sig .tc := ⟨.vmem, 11, rfl⟩
abbrev cc2_stg7_1 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg3_0 : Ref sig .tc := ⟨.vmem, 18, rfl⟩
abbrev cc3_stg3_1 : Ref sig .tc := ⟨.vmem, 19, rfl⟩
abbrev cc3_stg4_0 : Ref sig .tc := ⟨.vmem, 20, rfl⟩
abbrev cc3_stg4_1 : Ref sig .tc := ⟨.vmem, 21, rfl⟩
abbrev cc3_stg5_0 : Ref sig .tc := ⟨.vmem, 22, rfl⟩
abbrev cc3_stg6_0 : Ref sig .tc := ⟨.vmem, 23, rfl⟩
abbrev cc3_stg7_0 : Ref sig .tc := ⟨.vmem, 24, rfl⟩
abbrev cc3_stg7_1 : Ref sig .tc := ⟨.vmem, 25, rfl⟩
abbrev cc0_scratch3 : Ref sig .scVector := ⟨.shared, 0, rfl⟩
abbrev cc1_scratch3 : Ref sig .scVector := ⟨.shared, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem3_1 : DmaSem sig := 16
abbrev cc2_sem4_0 : DmaSem sig := 17
abbrev cc2_sem4_1 : DmaSem sig := 18
abbrev cc2_sem5_0 : DmaSem sig := 19
abbrev cc2_sem6_0 : DmaSem sig := 20
abbrev cc2_sem7_0 : DmaSem sig := 21
abbrev cc2_sem7_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31
abbrev cc3_sem5_0 : DmaSem sig := 32
abbrev cc3_sem6_0 : DmaSem sig := 33
abbrev cc3_sem7_0 : DmaSem sig := 34
abbrev cc3_sem7_1 : DmaSem sig := 35
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_92 : BitVec 32 := 0#32
  let c4_i32_93 : BitVec 32 := 4#32
  let v183 : BitVec 32 := Scalar.addi c0_i32_92 c4_i32_93
  let c1_i32_94 : BitVec 32 := 1#32
  ⟨c0_i32_92, v183, c1_i32_94⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c0_i32_97 : BitVec 32 := 0#32
  let c0_i32_92 : BitVec 32 := 0#32
  let c1_i32_94 : BitVec 32 := 1#32
  let arg11 : BitVec 32 := Scf.iv c0_i32_92 c1_i32_94 k0_t1
  let c1_i32_96 : BitVec 32 := 1#32
  let v184 : BitVec 32 := Scalar.muli arg11 c1_i32_96
  let v185 : BitVec 32 := Scalar.addi c0_i32_97 v184
  let c160_i32 : BitVec 32 := 160#32
  let v186 : BitVec 32 := Scalar.muli v185 c160_i32
  let v187 : BitVec 32 := Scalar.addi v2 v186
  ![v187.toNat]
def k0_mult1 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c20_i32 : BitVec 32 := 20#32
  let c0_i32_1 : BitVec 32 := 0#32
  let v9 : BitVec 1 := Scalar.cmpi .sgt c20_i32 c0_i32_1
  let v10 : BitVec 32 := Scalar.extui v9
  let c0_i32_2 : BitVec 32 := 0#32
  let v11 : BitVec 1 := Scalar.cmpi .slt c20_i32 c0_i32_2
  let v12 : BitVec 32 := Scalar.extui v11
  let v13 : BitVec 32 := Scalar.subi v10 v12
  let v14 : BitVec 1 := Scalar.cmpi .ne v8 v13
  let v15 : BitVec 32 := Scalar.remsi v2 c20_i32
  let c0_i32_3 : BitVec 32 := 0#32
  let v16 : BitVec 1 := Scalar.cmpi .ne v15 c0_i32_3
  let v17 : BitVec 1 := Scalar.andi v14 v16
  let v3 : BitVec 32 := Scalar.divsi v2 c20_i32
  let c1_i32 : BitVec 32 := 1#32
  let v18 : BitVec 32 := Scalar.subi v3 c1_i32
  let v19 : BitVec 32 := Scalar.select v17 v18 v3
  let c0_i32_97 : BitVec 32 := 0#32
  let c0_i32_92 : BitVec 32 := 0#32
  let c1_i32_94 : BitVec 32 := 1#32
  let arg11 : BitVec 32 := Scf.iv c0_i32_92 c1_i32_94 k0_t1
  let c1_i32_96 : BitVec 32 := 1#32
  let v184 : BitVec 32 := Scalar.muli arg11 c1_i32_96
  let v185 : BitVec 32 := Scalar.addi c0_i32_97 v184
  let c8_i32_588 : BitVec 32 := 8#32
  let v1320 : BitVec 32 := Scalar.muli v185 c8_i32_588
  let v1321 : BitVec 32 := Scalar.addi v19 v1320
  v1321
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c640_i32 : BitVec 32 := 640#32
  let v2 : BitVec 32 := Scalar.muli v1 c640_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c20_i32 : BitVec 32 := 20#32
  let c0_i32_1 : BitVec 32 := 0#32
  let v9 : BitVec 1 := Scalar.cmpi .sgt c20_i32 c0_i32_1
  let v10 : BitVec 32 := Scalar.extui v9
  let c0_i32_2 : BitVec 32 := 0#32
  let v11 : BitVec 1 := Scalar.cmpi .slt c20_i32 c0_i32_2
  let v12 : BitVec 32 := Scalar.extui v11
  let v13 : BitVec 32 := Scalar.subi v10 v12
  let v14 : BitVec 1 := Scalar.cmpi .ne v8 v13
  let v15 : BitVec 32 := Scalar.remsi v2 c20_i32
  let c0_i32_3 : BitVec 32 := 0#32
  let v16 : BitVec 1 := Scalar.cmpi .ne v15 c0_i32_3
  let v17 : BitVec 1 := Scalar.andi v14 v16
  let v3 : BitVec 32 := Scalar.divsi v2 c20_i32
  let c1_i32 : BitVec 32 := 1#32
  let v18 : BitVec 32 := Scalar.subi v3 c1_i32
  let v19 : BitVec 32 := Scalar.select v17 v18 v3
  let c0_i32_97 : BitVec 32 := 0#32
  let c0_i32_92 : BitVec 32 := 0#32
  let c1_i32_94 : BitVec 32 := 1#32
  let arg11 : BitVec 32 := Scf.iv c0_i32_92 c1_i32_94 k0_t1
  let c1_i32_96 : BitVec 32 := 1#32
  let v184 : BitVec 32 := Scalar.muli arg11 c1_i32_96
  let v185 : BitVec 32 := Scalar.addi c0_i32_97 v184
  let c8_i32_588 : BitVec 32 := 8#32
  let v1320 : BitVec 32 := Scalar.muli v185 c8_i32_588
  let v1321 : BitVec 32 := Scalar.addi v19 v1320
  let v1322 : BitVec 32 := v1321
  let c0_i32_589_r2 : BitVec 32 := 0#32
  ![v1322.toNat, 0]
abbrev grid1 : Pipeline.Grid := ⟨2, ![2, 16], ![false, false]⟩

@[reducible] def k1_t1_loop : Scf.Loop 32 :=
  let c0_i32_92 : BitVec 32 := 0#32
  let c12_i32 : BitVec 32 := 12#32
  let v183 : BitVec 32 := Scalar.addi c0_i32_92 c12_i32
  let c1_i32_93 : BitVec 32 := 1#32
  ⟨c0_i32_92, v183, c1_i32_93⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1920_i32 : BitVec 32 := 1920#32
  let v2 : BitVec 32 := Scalar.muli v1 c1920_i32
  let c0_i32_96 : BitVec 32 := 0#32
  let c0_i32_92 : BitVec 32 := 0#32
  let c1_i32_93 : BitVec 32 := 1#32
  let arg11 : BitVec 32 := Scf.iv c0_i32_92 c1_i32_93 k1_t1
  let c1_i32_95 : BitVec 32 := 1#32
  let v184 : BitVec 32 := Scalar.muli arg11 c1_i32_95
  let v185 : BitVec 32 := Scalar.addi c0_i32_96 v184
  let c160_i32 : BitVec 32 := 160#32
  let v186 : BitVec 32 := Scalar.muli v185 c160_i32
  let v187 : BitVec 32 := Scalar.addi v2 v186
  ![v187.toNat]
def k1_mult1 (i : grid1.Coords) (k1_t1 : Fin k1_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1920_i32 : BitVec 32 := 1920#32
  let v2 : BitVec 32 := Scalar.muli v1 c1920_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c20_i32 : BitVec 32 := 20#32
  let c0_i32_1 : BitVec 32 := 0#32
  let v9 : BitVec 1 := Scalar.cmpi .sgt c20_i32 c0_i32_1
  let v10 : BitVec 32 := Scalar.extui v9
  let c0_i32_2 : BitVec 32 := 0#32
  let v11 : BitVec 1 := Scalar.cmpi .slt c20_i32 c0_i32_2
  let v12 : BitVec 32 := Scalar.extui v11
  let v13 : BitVec 32 := Scalar.subi v10 v12
  let v14 : BitVec 1 := Scalar.cmpi .ne v8 v13
  let v15 : BitVec 32 := Scalar.remsi v2 c20_i32
  let c0_i32_3 : BitVec 32 := 0#32
  let v16 : BitVec 1 := Scalar.cmpi .ne v15 c0_i32_3
  let v17 : BitVec 1 := Scalar.andi v14 v16
  let v3 : BitVec 32 := Scalar.divsi v2 c20_i32
  let c1_i32 : BitVec 32 := 1#32
  let v18 : BitVec 32 := Scalar.subi v3 c1_i32
  let v19 : BitVec 32 := Scalar.select v17 v18 v3
  let c0_i32_96 : BitVec 32 := 0#32
  let c0_i32_92 : BitVec 32 := 0#32
  let c1_i32_93 : BitVec 32 := 1#32
  let arg11 : BitVec 32 := Scf.iv c0_i32_92 c1_i32_93 k1_t1
  let c1_i32_95 : BitVec 32 := 1#32
  let v184 : BitVec 32 := Scalar.muli arg11 c1_i32_95
  let v185 : BitVec 32 := Scalar.addi c0_i32_96 v184
  let c8_i32_588 : BitVec 32 := 8#32
  let v1320 : BitVec 32 := Scalar.muli v185 c8_i32_588
  let v1321 : BitVec 32 := Scalar.addi v19 v1320
  v1321
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1920_i32 : BitVec 32 := 1920#32
  let v2 : BitVec 32 := Scalar.muli v1 c1920_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c20_i32 : BitVec 32 := 20#32
  let c0_i32_1 : BitVec 32 := 0#32
  let v9 : BitVec 1 := Scalar.cmpi .sgt c20_i32 c0_i32_1
  let v10 : BitVec 32 := Scalar.extui v9
  let c0_i32_2 : BitVec 32 := 0#32
  let v11 : BitVec 1 := Scalar.cmpi .slt c20_i32 c0_i32_2
  let v12 : BitVec 32 := Scalar.extui v11
  let v13 : BitVec 32 := Scalar.subi v10 v12
  let v14 : BitVec 1 := Scalar.cmpi .ne v8 v13
  let v15 : BitVec 32 := Scalar.remsi v2 c20_i32
  let c0_i32_3 : BitVec 32 := 0#32
  let v16 : BitVec 1 := Scalar.cmpi .ne v15 c0_i32_3
  let v17 : BitVec 1 := Scalar.andi v14 v16
  let v3 : BitVec 32 := Scalar.divsi v2 c20_i32
  let c1_i32 : BitVec 32 := 1#32
  let v18 : BitVec 32 := Scalar.subi v3 c1_i32
  let v19 : BitVec 32 := Scalar.select v17 v18 v3
  let c0_i32_96 : BitVec 32 := 0#32
  let c0_i32_92 : BitVec 32 := 0#32
  let c1_i32_93 : BitVec 32 := 1#32
  let arg11 : BitVec 32 := Scf.iv c0_i32_92 c1_i32_93 k1_t1
  let c1_i32_95 : BitVec 32 := 1#32
  let v184 : BitVec 32 := Scalar.muli arg11 c1_i32_95
  let v185 : BitVec 32 := Scalar.addi c0_i32_96 v184
  let c8_i32_588 : BitVec 32 := 8#32
  let v1320 : BitVec 32 := Scalar.muli v185 c8_i32_588
  let v1321 : BitVec 32 := Scalar.addi v19 v1320
  let v1322 : BitVec 32 := v1321
  let c0_i32_589_r2 : BitVec 32 := 0#32
  ![v1322.toNat, 0]
abbrev grid2 : Pipeline.Grid := ⟨2, ![4, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage2_0 : Fin 2 → Memref sig .tc .vmem S256x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1x304 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S640x384 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S640x304 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S640x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 1 → Memref sig .tc .vmem S1000x64 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1000x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S10x1000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := ⟨2, ![12, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![arg1.toNat, c0_i32.toNat, v0.toNat]

abbrev stage3_0 : Fin 2 → Memref sig .tc .vmem S256x384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S1x304 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S640x384 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S640x304 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S640x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]

abbrev stage3_5 : Fin 1 → Memref sig .tc .vmem S1000x64 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1000x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S10x1000x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4096x20 : Shape := ⟨2, ![4096, 20]⟩
abbrev S1001x16 : Shape := ⟨2, ![1001, 16]⟩
abbrev S320x64 : Shape := ⟨2, ![320, 64]⟩
abbrev S64 : Shape := ⟨1, ![64]⟩
abbrev S64x1000 : Shape := ⟨2, ![64, 1000]⟩
abbrev S1000 : Shape := ⟨1, ![1000]⟩
abbrev S_ : Shape := ⟨0, ![]⟩
abbrev S4096x19 : Shape := ⟨2, ![4096, 19]⟩
abbrev S4096x39 : Shape := ⟨2, ![4096, 39]⟩
abbrev S4096x39x1 : Shape := ⟨3, ![4096, 39, 1]⟩
abbrev S1 : Shape := ⟨1, ![1]⟩
abbrev S1x1x1 : Shape := ⟨3, ![1, 1, 1]⟩
abbrev S4096x39x16 : Shape := ⟨3, ![4096, 39, 16]⟩
abbrev S4096x20x16 : Shape := ⟨3, ![4096, 20, 16]⟩
abbrev S4096x20x256 : Shape := ⟨3, ![4096, 20, 256]⟩
abbrev S4096x20x64 : Shape := ⟨3, ![4096, 20, 64]⟩
abbrev S4096x20x320 : Shape := ⟨3, ![4096, 20, 320]⟩
abbrev S1x1x64 : Shape := ⟨3, ![1, 1, 64]⟩
abbrev S4096x20x1000 : Shape := ⟨3, ![4096, 20, 1000]⟩
abbrev S1x1x1000 : Shape := ⟨3, ![1, 1, 1000]⟩

abbrev nBuf : Space → Nat
  | .hbm => 64
  | .vmem => 0
  | .smem => 0
  | _ => 0

abbrev bufTy : (tb : Table) → Fin (tcTables nBuf tb) → BufTy
  | .hbm, ⟨0, _⟩ => ⟨S4096x20, .i32⟩
  | .hbm, ⟨1, _⟩ => ⟨S1001x16, .f32⟩
  | .hbm, ⟨2, _⟩ => ⟨S320x64, .f32⟩
  | .hbm, ⟨3, _⟩ => ⟨S64, .f32⟩
  | .hbm, ⟨4, _⟩ => ⟨S64x1000, .f32⟩
  | .hbm, ⟨5, _⟩ => ⟨S1000, .f32⟩
  | .hbm, ⟨6, _⟩ => ⟨S_, .i32⟩
  | .hbm, ⟨7, _⟩ => ⟨S4096x19, .i32⟩
  | .hbm, ⟨8, _⟩ => ⟨S4096x39, .i32⟩
  | .hbm, ⟨9, _⟩ => ⟨S_, .i32⟩
  | .hbm, ⟨10, _⟩ => ⟨S4096x39, .i32⟩
  | .hbm, ⟨11, _⟩ => ⟨S4096x39, .i1⟩
  | .hbm, ⟨12, _⟩ => ⟨S_, .i32⟩
  | .hbm, ⟨13, _⟩ => ⟨S4096x39, .i32⟩
  | .hbm, ⟨14, _⟩ => ⟨S4096x39, .i32⟩
  | .hbm, ⟨15, _⟩ => ⟨S4096x39, .i32⟩
  | .hbm, ⟨16, _⟩ => ⟨S4096x39x1, .i32⟩
  | .hbm, ⟨17, _⟩ => ⟨S1, .i32⟩
  | .hbm, ⟨18, _⟩ => ⟨S_, .i32⟩
  | .hbm, ⟨19, _⟩ => ⟨S4096x39x1, .i32⟩
  | .hbm, ⟨20, _⟩ => ⟨S4096x39x1, .i1⟩
  | .hbm, ⟨21, _⟩ => ⟨S1x1x1, .i32⟩
  | .hbm, ⟨22, _⟩ => ⟨S4096x39x1, .i32⟩
  | .hbm, ⟨23, _⟩ => ⟨S4096x39x1, .i1⟩
  | .hbm, ⟨24, _⟩ => ⟨S4096x39x1, .i1⟩
  | .hbm, ⟨25, _⟩ => ⟨S_, .i1⟩
  | .hbm, ⟨26, _⟩ => ⟨S4096x39, .i1⟩
  | .hbm, ⟨27, _⟩ => ⟨S4096x39x16, .f32⟩
  | .hbm, ⟨28, _⟩ => ⟨S4096x39x16, .i1⟩
  | .hbm, ⟨29, _⟩ => ⟨S_, .f32⟩
  | .hbm, ⟨30, _⟩ => ⟨S4096x39x16, .f32⟩
  | .hbm, ⟨31, _⟩ => ⟨S4096x39x16, .f32⟩
  | .hbm, ⟨32, _⟩ => ⟨S4096x20x16, .f32⟩
  | .hbm, ⟨33, _⟩ => ⟨S4096x20x16, .f32⟩
  | .hbm, ⟨34, _⟩ => ⟨S4096x20x16, .f32⟩
  | .hbm, ⟨35, _⟩ => ⟨S4096x20x16, .f32⟩
  | .hbm, ⟨36, _⟩ => ⟨S4096x20x16, .f32⟩
  | .hbm, ⟨37, _⟩ => ⟨S4096x20x16, .f32⟩
  | .hbm, ⟨38, _⟩ => ⟨S4096x20x16, .f32⟩
  | .hbm, ⟨39, _⟩ => ⟨S4096x20x16, .f32⟩
  | .hbm, ⟨40, _⟩ => ⟨S4096x20x16, .f32⟩
  | .hbm, ⟨41, _⟩ => ⟨S4096x20x16, .f32⟩
  | .hbm, ⟨42, _⟩ => ⟨S4096x20x16, .f32⟩
  | .hbm, ⟨43, _⟩ => ⟨S4096x20x16, .f32⟩
  | .hbm, ⟨44, _⟩ => ⟨S4096x20x16, .f32⟩
  | .hbm, ⟨45, _⟩ => ⟨S4096x20x16, .f32⟩
  | .hbm, ⟨46, _⟩ => ⟨S4096x20x16, .f32⟩
  | .hbm, ⟨47, _⟩ => ⟨S4096x20x16, .f32⟩
  | .hbm, ⟨48, _⟩ => ⟨S4096x20x16, .f32⟩
  | .hbm, ⟨49, _⟩ => ⟨S4096x20x16, .f32⟩
  | .hbm, ⟨50, _⟩ => ⟨S4096x20x16, .f32⟩
  | .hbm, ⟨51, _⟩ => ⟨S4096x20x16, .f32⟩
  | .hbm, ⟨52, _⟩ => ⟨S4096x20x256, .f32⟩
  | .hbm, ⟨53, _⟩ => ⟨S4096x20x64, .f32⟩
  | .hbm, ⟨54, _⟩ => ⟨S4096x20x320, .f32⟩
  | .hbm, ⟨55, _⟩ => ⟨S4096x20x64, .f32⟩
  | .hbm, ⟨56, _⟩ => ⟨S1x1x64, .f32⟩
  | .hbm, ⟨57, _⟩ => ⟨S4096x20x64, .f32⟩
  | .hbm, ⟨58, _⟩ => ⟨S4096x20x64, .f32⟩
  | .hbm, ⟨59, _⟩ => ⟨S4096x20x64, .f32⟩
  | .hbm, ⟨60, _⟩ => ⟨S4096x20x1000, .f32⟩
  | .hbm, ⟨61, _⟩ => ⟨S1x1x1000, .f32⟩
  | .hbm, ⟨62, _⟩ => ⟨S4096x20x1000, .f32⟩
  | .hbm, ⟨63, _⟩ => ⟨S4096x20x1000, .f32⟩
  | _, _ => ⟨S4096x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩

abbrev nD : Nat := 1
abbrev τ : Topo := Topo.v7x

variable {F : FTy → Type} [FloatOps F]
-- ==== Proof.Setup.lean ====
/-
  The kernel's program as the SparseCore launch theorem sees it: its labels, its configuration, the resource algebra of the
  proof (the handshakes' rounds, the subcore barrier's, the TensorCore pipelines', the transfers' counters), and the names of
  the arrays the two SparseCore calls share.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.Pre_in_vocab
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.Writes
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The barrier cells' rounds. -/
abbrev UB : Type := URounds (GSem nD τ sig) ℕ
/-- The TensorCore pipelines' rounds. -/
abbrev UP : Type := URounds (GSem nD τ sig) Unit
abbrev UU : Type := UH × (UB × (UP × Counters))

local notation "𝕄" => MT nD τ sig (HIx 2) (Elt F) ℕ UU ℕ

abbrev EH : Emb UH (MT nD τ sig (HIx 2) (Elt F) ℕ UU ℕ) := embL
def EB : Emb UB (MT nD τ sig (HIx 2) (Elt F) ℕ UU ℕ) :=
  ((Emb.inl : Emb UB (UB × (UP × Counters))).trans (Emb.inr : Emb (UB × (UP × Counters)) UU)).trans
    (uEmb (nD := nD) (sig := sig) (Ix := HIx 2) (Val := Elt F) (Name := ℕ) (U := UU) (Lvl := ℕ)).toEmb
instance EB_landsIn : (EB : Emb UB 𝕄).LandsIn (upEmb : UEmb _ 𝕄) := by unfold EB; infer_instance
def EP : Emb UP (MT nD τ sig (HIx 2) (Elt F) ℕ UU ℕ) :=
  (((Emb.inl : Emb UP (UP × Counters)).trans (Emb.inr : Emb (UP × Counters) (UB × (UP × Counters)))).trans
    (Emb.inr : Emb (UB × (UP × Counters)) UU)).trans
    (uEmb (nD := nD) (sig := sig) (Ix := HIx 2) (Val := Elt F) (Name := ℕ) (U := UU) (Lvl := ℕ)).toEmb
instance EP_landsIn : (EP : Emb UP 𝕄).LandsIn (upEmb : UEmb _ 𝕄) := by unfold EP; infer_instance

end Cert.Proof
-- ==== Proof.Host.lean ====
/- # The host's operations, as lists

The program's main function is seven straight lines of host operations with the two gathers and the two dense
kernels between them. -/
module

public import proofs.«01_k».proof.Proof.Setup

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose)

variable {F : FTy → Type} [FloatOps F]

local notation "𝕄" => MT nD τ sig (HIx 2) (Elt F) ℕ UU ℕ

/-- The host operations before the first gather: the padded table and the first quarter of the indices. -/
def opsA : List (HloOp τ sig (Elt F)) := [
  StableHlo.nullary main_c (constantI S_ 32 0#32),
  StableHlo.TRef.unary (.of main_c : StableHlo.TRef sig ⟨S_, .i32⟩) main_call0.v0 (sitofp .f32),
  StableHlo.TRef.binary (.of main_arg1 : StableHlo.TRef sig ⟨S1001x16, .f32⟩) main_call0.v0 main_call0.v1 (fun x v => pad S1008x128 ![0, 0] ![7, 112] ![0, 0] x v pads_S1001x16_S1008x128_070_01120 h_S_),
  StableHlo.unary main_arg0 main_v1 ((extractStridedSlice S1024x20 ![0, 0] · slices_S4096x20_S1024x20_0_0) : (⟨S4096x20, .i32⟩ : BufTy).Contents (Elt F) → (⟨S1024x20, .i32⟩ : BufTy).Contents (Elt F)),
  StableHlo.reshape main_v1 main_v2 (rfl : (.i32 : EltTy) = .i32) shapeCasts_S1024x20_S20480]

/-- The host operations between the two gathers: the other indices. -/
def opsB : List (HloOp τ sig (Elt F)) := [
  StableHlo.unary main_arg0 main_v4 ((extractStridedSlice S3072x20 ![1024, 0] · slices_S4096x20_S3072x20_1024_0) : (⟨S4096x20, .i32⟩ : BufTy).Contents (Elt F) → (⟨S3072x20, .i32⟩ : BufTy).Contents (Elt F)),
  StableHlo.reshape main_v4 main_v5 (rfl : (.i32 : EltTy) = .i32) shapeCasts_S3072x20_S61440]

/-- The host operations after the gathers, first part: the row past the end of a sequence, and the weight with its row blocks reversed. -/
def opsC1 : List (HloOp τ sig (Elt F)) := [
  StableHlo.unary main_arg1 main_v7 ((extractStridedSlice S1x16 ![1000, 0] · slices_S1001x16_S1x16_1000_0) : (⟨S1001x16, .f32⟩ : BufTy).Contents (Elt F) → (⟨S1x16, .f32⟩ : BufTy).Contents (Elt F)),
  StableHlo.reshape main_v7 main_v8 (rfl : (.f32 : EltTy) = .f32) shapeCasts_S1x16_S16,
  StableHlo.reshape main_v8 main_v9 (rfl : (.f32 : EltTy) = .f32) shapeCasts_S16_S1x16,
  StableHlo.unary main_v9 main_v10 (broadcastInDim S19x16 ![0, 1] bcast_S1x16_S19x16_0_1 : (⟨S1x16, .f32⟩ : BufTy).Contents (Elt F) → (⟨S19x16, .f32⟩ : BufTy).Contents (Elt F)),
  StableHlo.reshape main_v10 main_v11 (rfl : (.f32 : EltTy) = .f32) shapeCasts_S19x16_S304,
  StableHlo.reshape main_v11 main_v12 (rfl : (.f32 : EltTy) = .f32) shapeCasts_S304_S1x304,
  StableHlo.reshape main_arg2 main_v13 (rfl : (.f32 : EltTy) = .f32) shapeCasts_S320x64_S20x16x64,
  StableHlo.unary main_v13 main_v14 (Host.reverse [0] : (⟨S20x16x64, .f32⟩ : BufTy).Contents (Elt F) → (⟨S20x16x64, .f32⟩ : BufTy).Contents (Elt F)),
  StableHlo.reshape main_v14 main_v15 (rfl : (.f32 : EltTy) = .f32) shapeCasts_S20x16x64_S320x64]

/-- The host operations after the gathers, second part: the weight at its first ten shifts. -/
def opsC2 : List (HloOp τ sig (Elt F)) := [
  StableHlo.nullary main_c_0 (constantI S_ 32 0#32),
  StableHlo.TRef.unary (.of main_c_0 : StableHlo.TRef sig ⟨S_, .i32⟩) main_call1.v0 (sitofp .f32),
  StableHlo.TRef.binary (.of main_v15 : StableHlo.TRef sig ⟨S320x64, .f32⟩) main_call1.v0 main_call1.v1 (fun x v => pad S624x64 ![0, 0] ![304, 0] ![0, 0] x v pads_S320x64_S624x64_03040_000 h_S_),
  StableHlo.nullary main_c_1 (constantI S_ 32 0#32),
  StableHlo.TRef.unary (.of main_c_1 : StableHlo.TRef sig ⟨S_, .i32⟩) main_call2.v0 (sitofp .f32),
  StableHlo.TRef.binary (.of main_v15 : StableHlo.TRef sig ⟨S320x64, .f32⟩) main_call2.v0 main_call2.v1 (fun x v => pad S624x64 ![16, 0] ![288, 0] ![0, 0] x v pads_S320x64_S624x64_162880_000 h_S_),
  StableHlo.nullary main_c_2 (constantI S_ 32 0#32),
  StableHlo.TRef.unary (.of main_c_2 : StableHlo.TRef sig ⟨S_, .i32⟩) main_call3.v0 (sitofp .f32),
  StableHlo.TRef.binary (.of main_v15 : StableHlo.TRef sig ⟨S320x64, .f32⟩) main_call3.v0 main_call3.v1 (fun x v => pad S624x64 ![32, 0] ![272, 0] ![0, 0] x v pads_S320x64_S624x64_322720_000 h_S_),
  StableHlo.nullary main_c_3 (constantI S_ 32 0#32),
  StableHlo.TRef.unary (.of main_c_3 : StableHlo.TRef sig ⟨S_, .i32⟩) main_call4.v0 (sitofp .f32),
  StableHlo.TRef.binary (.of main_v15 : StableHlo.TRef sig ⟨S320x64, .f32⟩) main_call4.v0 main_call4.v1 (fun x v => pad S624x64 ![48, 0] ![256, 0] ![0, 0] x v pads_S320x64_S624x64_482560_000 h_S_),
  StableHlo.nullary main_c_4 (constantI S_ 32 0#32),
  StableHlo.TRef.unary (.of main_c_4 : StableHlo.TRef sig ⟨S_, .i32⟩) main_call5.v0 (sitofp .f32),
  StableHlo.TRef.binary (.of main_v15 : StableHlo.TRef sig ⟨S320x64, .f32⟩) main_call5.v0 main_call5.v1 (fun x v => pad S624x64 ![64, 0] ![240, 0] ![0, 0] x v pads_S320x64_S624x64_642400_000 h_S_),
  StableHlo.nullary main_c_5 (constantI S_ 32 0#32),
  StableHlo.TRef.unary (.of main_c_5 : StableHlo.TRef sig ⟨S_, .i32⟩) main_call6.v0 (sitofp .f32),
  StableHlo.TRef.binary (.of main_v15 : StableHlo.TRef sig ⟨S320x64, .f32⟩) main_call6.v0 main_call6.v1 (fun x v => pad S624x64 ![80, 0] ![224, 0] ![0, 0] x v pads_S320x64_S624x64_802240_000 h_S_),
  StableHlo.nullary main_c_6 (constantI S_ 32 0#32),
  StableHlo.TRef.unary (.of main_c_6 : StableHlo.TRef sig ⟨S_, .i32⟩) main_call7.v0 (sitofp .f32),
  StableHlo.TRef.binary (.of main_v15 : StableHlo.TRef sig ⟨S320x64, .f32⟩) main_call7.v0 main_call7.v1 (fun x v => pad S624x64 ![96, 0] ![208, 0] ![0, 0] x v pads_S320x64_S624x64_962080_000 h_S_),
  StableHlo.nullary main_c_7 (constantI S_ 32 0#32),
  StableHlo.TRef.unary (.of main_c_7 : StableHlo.TRef sig ⟨S_, .i32⟩) main_call8.v0 (sitofp .f32),
  StableHlo.TRef.binary (.of main_v15 : StableHlo.TRef sig ⟨S320x64, .f32⟩) main_call8.v0 main_call8.v1 (fun x v => pad S624x64 ![112, 0] ![192, 0] ![0, 0] x v pads_S320x64_S624x64_1121920_000 h_S_),
  StableHlo.nullary main_c_8 (constantI S_ 32 0#32),
  StableHlo.TRef.unary (.of main_c_8 : StableHlo.TRef sig ⟨S_, .i32⟩) main_call9.v0 (sitofp .f32),
  StableHlo.TRef.binary (.of main_v15 : StableHlo.TRef sig ⟨S320x64, .f32⟩) main_call9.v0 main_call9.v1 (fun x v => pad S624x64 ![128, 0] ![176, 0] ![0, 0] x v pads_S320x64_S624x64_1281760_000 h_S_),
  StableHlo.nullary main_c_9 (constantI S_ 32 0#32),
  StableHlo.TRef.unary (.of main_c_9 : StableHlo.TRef sig ⟨S_, .i32⟩) main_call10.v0 (sitofp .f32),
  StableHlo.TRef.binary (.of main_v15 : StableHlo.TRef sig ⟨S320x64, .f32⟩) main_call10.v0 main_call10.v1 (fun x v => pad S624x64 ![144, 0] ![160, 0] ![0, 0] x v pads_S320x64_S624x64_1441600_000 h_S_)]

/-- The host operations after the gathers, third part: the weight at its other ten shifts. -/
def opsC3 : List (HloOp τ sig (Elt F)) := [
  StableHlo.nullary main_c_10 (constantI S_ 32 0#32),
  StableHlo.TRef.unary (.of main_c_10 : StableHlo.TRef sig ⟨S_, .i32⟩) main_call11.v0 (sitofp .f32),
  StableHlo.TRef.binary (.of main_v15 : StableHlo.TRef sig ⟨S320x64, .f32⟩) main_call11.v0 main_call11.v1 (fun x v => pad S624x64 ![160, 0] ![144, 0] ![0, 0] x v pads_S320x64_S624x64_1601440_000 h_S_),
  StableHlo.nullary main_c_11 (constantI S_ 32 0#32),
  StableHlo.TRef.unary (.of main_c_11 : StableHlo.TRef sig ⟨S_, .i32⟩) main_call12.v0 (sitofp .f32),
  StableHlo.TRef.binary (.of main_v15 : StableHlo.TRef sig ⟨S320x64, .f32⟩) main_call12.v0 main_call12.v1 (fun x v => pad S624x64 ![176, 0] ![128, 0] ![0, 0] x v pads_S320x64_S624x64_1761280_000 h_S_),
  StableHlo.nullary main_c_12 (constantI S_ 32 0#32),
  StableHlo.TRef.unary (.of main_c_12 : StableHlo.TRef sig ⟨S_, .i32⟩) main_call13.v0 (sitofp .f32),
  StableHlo.TRef.binary (.of main_v15 : StableHlo.TRef sig ⟨S320x64, .f32⟩) main_call13.v0 main_call13.v1 (fun x v => pad S624x64 ![192, 0] ![112, 0] ![0, 0] x v pads_S320x64_S624x64_1921120_000 h_S_),
  StableHlo.nullary main_c_13 (constantI S_ 32 0#32),
  StableHlo.TRef.unary (.of main_c_13 : StableHlo.TRef sig ⟨S_, .i32⟩) main_call14.v0 (sitofp .f32),
  StableHlo.TRef.binary (.of main_v15 : StableHlo.TRef sig ⟨S320x64, .f32⟩) main_call14.v0 main_call14.v1 (fun x v => pad S624x64 ![208, 0] ![96, 0] ![0, 0] x v pads_S320x64_S624x64_208960_000 h_S_),
  StableHlo.nullary main_c_14 (constantI S_ 32 0#32),
  StableHlo.TRef.unary (.of main_c_14 : StableHlo.TRef sig ⟨S_, .i32⟩) main_call15.v0 (sitofp .f32),
  StableHlo.TRef.binary (.of main_v15 : StableHlo.TRef sig ⟨S320x64, .f32⟩) main_call15.v0 main_call15.v1 (fun x v => pad S624x64 ![224, 0] ![80, 0] ![0, 0] x v pads_S320x64_S624x64_224800_000 h_S_),
  StableHlo.nullary main_c_15 (constantI S_ 32 0#32),
  StableHlo.TRef.unary (.of main_c_15 : StableHlo.TRef sig ⟨S_, .i32⟩) main_call16.v0 (sitofp .f32),
  StableHlo.TRef.binary (.of main_v15 : StableHlo.TRef sig ⟨S320x64, .f32⟩) main_call16.v0 main_call16.v1 (fun x v => pad S624x64 ![240, 0] ![64, 0] ![0, 0] x v pads_S320x64_S624x64_240640_000 h_S_),
  StableHlo.nullary main_c_16 (constantI S_ 32 0#32),
  StableHlo.TRef.unary (.of main_c_16 : StableHlo.TRef sig ⟨S_, .i32⟩) main_call17.v0 (sitofp .f32),
  StableHlo.TRef.binary (.of main_v15 : StableHlo.TRef sig ⟨S320x64, .f32⟩) main_call17.v0 main_call17.v1 (fun x v => pad S624x64 ![256, 0] ![48, 0] ![0, 0] x v pads_S320x64_S624x64_256480_000 h_S_),
  StableHlo.nullary main_c_17 (constantI S_ 32 0#32),
  StableHlo.TRef.unary (.of main_c_17 : StableHlo.TRef sig ⟨S_, .i32⟩) main_call18.v0 (sitofp .f32),
  StableHlo.TRef.binary (.of main_v15 : StableHlo.TRef sig ⟨S320x64, .f32⟩) main_call18.v0 main_call18.v1 (fun x v => pad S624x64 ![272, 0] ![32, 0] ![0, 0] x v pads_S320x64_S624x64_272320_000 h_S_),
  StableHlo.nullary main_c_18 (constantI S_ 32 0#32),
  StableHlo.TRef.unary (.of main_c_18 : StableHlo.TRef sig ⟨S_, .i32⟩) main_call19.v0 (sitofp .f32),
  StableHlo.TRef.binary (.of main_v15 : StableHlo.TRef sig ⟨S320x64, .f32⟩) main_call19.v0 main_call19.v1 (fun x v => pad S624x64 ![288, 0] ![16, 0] ![0, 0] x v pads_S320x64_S624x64_288160_000 h_S_),
  StableHlo.nullary main_c_19 (constantI S_ 32 0#32),
  StableHlo.TRef.unary (.of main_c_19 : StableHlo.TRef sig ⟨S_, .i32⟩) main_call20.v0 (sitofp .f32),
  StableHlo.TRef.binary (.of main_v15 : StableHlo.TRef sig ⟨S320x64, .f32⟩) main_call20.v0 main_call20.v1 (fun x v => pad S624x64 ![304, 0] ![0, 0] ![0, 0] x v pads_S320x64_S624x64_30400_000 h_S_)]

/-- The host operations after the gathers, fourth part: the shifted weights side by side. -/
def opsC4 : List (HloOp τ sig (Elt F)) := [
  StableHlo.nary ![main_v16, main_v17, main_v18, main_v19, main_v20, main_v21, main_v22, main_v23, main_v24, main_v25, main_v26, main_v27, main_v28, main_v29, main_v30, main_v31] main_v36 (fun u => (concatenate S624x1024 1 [⟨S624x64, (u 0 : (⟨S624x64, .f32⟩ : BufTy).Contents (Elt F))⟩, ⟨S624x64, (u 1 : (⟨S624x64, .f32⟩ : BufTy).Contents (Elt F))⟩, ⟨S624x64, (u 2 : (⟨S624x64, .f32⟩ : BufTy).Contents (Elt F))⟩, ⟨S624x64, (u 3 : (⟨S624x64, .f32⟩ : BufTy).Contents (Elt F))⟩, ⟨S624x64, (u 4 : (⟨S624x64, .f32⟩ : BufTy).Contents (Elt F))⟩, ⟨S624x64, (u 5 : (⟨S624x64, .f32⟩ : BufTy).Contents (Elt F))⟩, ⟨S624x64, (u 6 : (⟨S624x64, .f32⟩ : BufTy).Contents (Elt F))⟩, ⟨S624x64, (u 7 : (⟨S624x64, .f32⟩ : BufTy).Contents (Elt F))⟩, ⟨S624x64, (u 8 : (⟨S624x64, .f32⟩ : BufTy).Contents (Elt F))⟩, ⟨S624x64, (u 9 : (⟨S624x64, .f32⟩ : BufTy).Contents (Elt F))⟩, ⟨S624x64, (u 10 : (⟨S624x64, .f32⟩ : BufTy).Contents (Elt F))⟩, ⟨S624x64, (u 11 : (⟨S624x64, .f32⟩ : BufTy).Contents (Elt F))⟩, ⟨S624x64, (u 12 : (⟨S624x64, .f32⟩ : BufTy).Contents (Elt F))⟩, ⟨S624x64, (u 13 : (⟨S624x64, .f32⟩ : BufTy).Contents (Elt F))⟩, ⟨S624x64, (u 14 : (⟨S624x64, .f32⟩ : BufTy).Contents (Elt F))⟩, ⟨S624x64, (u 15 : (⟨S624x64, .f32⟩ : BufTy).Contents (Elt F))⟩] concatenates_S624x64_S624x64_S624x64_S624x64_S624x64_S624x64_S624x64_S624x64_S624x64_S624x64_S624x64_S624x64_S624x64_S624x64_S624x64_S624x64_S624x1024_d1 : (⟨S624x1024, .f32⟩ : BufTy).Contents (Elt F))),
  StableHlo.nary ![main_v32, main_v33, main_v34, main_v35] main_v37 (fun u => (concatenate S624x256 1 [⟨S624x64, (u 0 : (⟨S624x64, .f32⟩ : BufTy).Contents (Elt F))⟩, ⟨S624x64, (u 1 : (⟨S624x64, .f32⟩ : BufTy).Contents (Elt F))⟩, ⟨S624x64, (u 2 : (⟨S624x64, .f32⟩ : BufTy).Contents (Elt F))⟩, ⟨S624x64, (u 3 : (⟨S624x64, .f32⟩ : BufTy).Contents (Elt F))⟩] concatenates_S624x64_S624x64_S624x64_S624x64_S624x256_d1 : (⟨S624x256, .f32⟩ : BufTy).Contents (Elt F))),
  StableHlo.binary main_v36 main_v37 main_v38 ((fun a b => concatenate S624x1280 1 [⟨S624x1024, a⟩, ⟨S624x256, b⟩] concatenates_S624x1024_S624x256_S624x1280_d1) : (⟨S624x1024, .f32⟩ : BufTy).Contents (Elt F) → (⟨S624x256, .f32⟩ : BufTy).Contents (Elt F) → (⟨S624x1280, .f32⟩ : BufTy).Contents (Elt F))]

/-- The host operations after the gathers, fifth part: the two parts of the shifted weights, and the other operands of the dense kernel. -/
def opsC5 : List (HloOp τ sig (Elt F)) := [
  StableHlo.unary main_v38 main_v39 ((extractStridedSlice S320x1280 ![304, 0] · slices_S624x1280_S320x1280_304_0) : (⟨S624x1280, .f32⟩ : BufTy).Contents (Elt F) → (⟨S320x1280, .f32⟩ : BufTy).Contents (Elt F)),
  StableHlo.unary main_v39 main_v40 ((transpose S1280x320 [1, 0] · transposes_S320x1280_S1280x320_1_0) : (⟨S320x1280, .f32⟩ : BufTy).Contents (Elt F) → (⟨S1280x320, .f32⟩ : BufTy).Contents (Elt F)),
  StableHlo.unary main_v40 main_v41 ((truncf .bf16 · bitsLt_bf16_f32) : (⟨S1280x320, .f32⟩ : BufTy).Contents (Elt F) → (⟨S1280x320, .bf16⟩ : BufTy).Contents (Elt F)),
  StableHlo.nullary main_c_20 (constantI S_ 32 0#32),
  StableHlo.TRef.unary (.of main_c_20 : StableHlo.TRef sig ⟨S_, .i32⟩) main_call21.v0 (sitofp .bf16),
  StableHlo.TRef.binary (.of main_v41 : StableHlo.TRef sig ⟨S1280x320, .bf16⟩) main_call21.v0 main_call21.v1 (fun x v => pad S1280x384 ![0, 0] ![0, 64] ![0, 0] x v pads_S1280x320_S1280x384_000_0640 h_S_),
  StableHlo.unary main_v38 main_v43 ((extractStridedSlice S304x1280 ![0, 0] · slices_S624x1280_S304x1280_0_0) : (⟨S624x1280, .f32⟩ : BufTy).Contents (Elt F) → (⟨S304x1280, .f32⟩ : BufTy).Contents (Elt F)),
  StableHlo.unary main_v43 main_v44 ((transpose S1280x304 [1, 0] · transposes_S304x1280_S1280x304_1_0) : (⟨S304x1280, .f32⟩ : BufTy).Contents (Elt F) → (⟨S1280x304, .f32⟩ : BufTy).Contents (Elt F)),
  StableHlo.reshape main_arg3 main_v45 (rfl : (.f32 : EltTy) = .f32) shapeCasts_S64_S1x64,
  StableHlo.unary main_v45 main_v46 (broadcastInDim S20x64 ![0, 1] bcast_S1x64_S20x64_0_1 : (⟨S1x64, .f32⟩ : BufTy).Contents (Elt F) → (⟨S20x64, .f32⟩ : BufTy).Contents (Elt F)),
  StableHlo.reshape main_v46 main_v47 (rfl : (.f32 : EltTy) = .f32) shapeCasts_S20x64_S1280,
  StableHlo.reshape main_v47 main_v48 (rfl : (.f32 : EltTy) = .f32) shapeCasts_S1280_S1280x1,
  StableHlo.unary main_arg4 main_v49 ((transpose S1000x64 [1, 0] · transposes_S64x1000_S1000x64_1_0) : (⟨S64x1000, .f32⟩ : BufTy).Contents (Elt F) → (⟨S1000x64, .f32⟩ : BufTy).Contents (Elt F)),
  StableHlo.unary main_v49 main_v50 ((truncf .bf16 · bitsLt_bf16_f32) : (⟨S1000x64, .f32⟩ : BufTy).Contents (Elt F) → (⟨S1000x64, .bf16⟩ : BufTy).Contents (Elt F)),
  StableHlo.reshape main_arg5 main_v51 (rfl : (.f32 : EltTy) = .f32) shapeCasts_S1000_S1000x1]

/-- The host operation between the two dense kernels: the first one's output, copied into the second one's. -/
def opsD : List (HloOp τ sig (Elt F)) := [
  StableHlo.unary main_v52 main_v53 id]

/-- The host operation after the dense kernels: the result's dimensions in the order the caller wants. -/
def opsE : List (HloOp τ sig (Elt F)) := [
  StableHlo.unary main_v53 main_v54 ((transpose S4096x20x1000 [2, 0, 1] · transposes_S20x1000x4096_S4096x20x1000_2_0_1) : (⟨S20x1000x4096, .f32⟩ : BufTy).Contents (Elt F) → (⟨S4096x20x1000, .f32⟩ : BufTy).Contents (Elt F))]

/-- The operations between the second gather and the first dense kernel. -/
def opsC : List (HloOp τ sig (Elt F)) := opsC1 ++ (opsC2 ++ (opsC3 ++ (opsC4 ++ opsC5)))

/-- A program of the host. -/
abbrev HP (F : FTy → Type) [FloatOps F] := Prog (TpuEff nD τ sig (Elt F) (SparseCore.Sig (ΛP (F := F)) 2) .tc) PUnit

/-- The first window of the main function, as lines. -/
theorem part0_eq (d : Dev nD) : (main_part0 d : HP F)
    = StableHlo.seq opsA >>= fun _ => sc.run d 0 >>= fun _ => StableHlo.seq opsB >>= fun _ => sc.run d 1 >>= fun _ =>
      StableHlo.seq opsC1 >>= fun _ => StableHlo.seq opsC2 >>= fun _ => StableHlo.seq opsC3 >>= fun _ => StableHlo.seq opsC4 := by
  chain_rfl

/-- The second window of the main function, as lines. -/
theorem part1_eq (d : Dev nD) : (main_part1 d : HP F)
    = StableHlo.seq opsC5 >>= fun _ => Prog.lift (.customCall (SparseCore.inner (Pipeline.entry 0)) ()) >>= fun _ =>
      StableHlo.seq opsD >>= fun _ => Prog.lift (.customCall (SparseCore.inner (Pipeline.entry 1)) ()) >>= fun _ =>
      StableHlo.seq opsE := by
  chain_rfl

/-- The main function, as lines. -/
theorem main_eq (d : Dev nD) : (main d : HP F)
    = StableHlo.seq opsA >>= fun _ => sc.run d 0 >>= fun _ => StableHlo.seq opsB >>= fun _ => sc.run d 1 >>= fun _ =>
      StableHlo.seq opsC >>= fun _ => Prog.lift (.customCall (SparseCore.inner (Pipeline.entry 0)) ()) >>= fun _ =>
      StableHlo.seq opsD >>= fun _ => Prog.lift (.customCall (SparseCore.inner (Pipeline.entry 1)) ()) >>= fun _ =>
      StableHlo.seq opsE := by
  rw [show (main d : HP F) = main_part0 d >>= fun _ => main_part1 d from rfl, part0_eq, part1_eq]
  simp only [opsC, StableHlo.seq_append, bind_assoc]

/-- A line reads and writes the TensorCore's buffers alone. -/
def InTc (ops : List (HloOp τ sig (Elt F))) : Prop := ops.Forall fun op => op.bufs ⊆ StableHlo.tcRefs τ sig

/-- A line allocates nothing. -/
def NoFresh (ops : List (HloOp τ sig (Elt F))) : Prop := ops.Forall fun op => op.fresh = ∅

/-- The references the line writes, in order. -/
def opsA_W : List (Ref sig .tc) := [main_c, main_call0_v0, main_v0, main_v1, main_v2]

theorem opsA_writes : (opsA : List (HloOp τ sig (Elt F))).map HloOp.writes = opsA_W.map fun r => {Proc.devRef (τ := τ) .tc r} := rfl

theorem opsA_sub : InTc (opsA : List (HloOp τ sig (Elt F))) :=
  ⟨StableHlo.nullary_bufs_sub .., StableHlo.unary_bufs_sub .., StableHlo.binary_bufs_sub .., StableHlo.unary_bufs_sub .., StableHlo.reshape_bufs_sub ..⟩

theorem opsA_fresh : NoFresh (opsA : List (HloOp τ sig (Elt F))) :=
  ⟨rfl, rfl, rfl, rfl, rfl⟩

/-- The references the line writes, in order. -/
def opsB_W : List (Ref sig .tc) := [main_v4, main_v5]

theorem opsB_writes : (opsB : List (HloOp τ sig (Elt F))).map HloOp.writes = opsB_W.map fun r => {Proc.devRef (τ := τ) .tc r} := rfl

theorem opsB_sub : InTc (opsB : List (HloOp τ sig (Elt F))) :=
  ⟨StableHlo.unary_bufs_sub .., StableHlo.reshape_bufs_sub ..⟩

theorem opsB_fresh : NoFresh (opsB : List (HloOp τ sig (Elt F))) :=
  ⟨rfl, rfl⟩

/-- The references the line writes, in order. -/
def opsC1_W : List (Ref sig .tc) := [main_v7, main_v8, main_v9, main_v10, main_v11, main_v12, main_v13, main_v14, main_v15]

theorem opsC1_writes : (opsC1 : List (HloOp τ sig (Elt F))).map HloOp.writes = opsC1_W.map fun r => {Proc.devRef (τ := τ) .tc r} := rfl

theorem opsC1_sub : InTc (opsC1 : List (HloOp τ sig (Elt F))) :=
  ⟨StableHlo.unary_bufs_sub .., StableHlo.reshape_bufs_sub .., StableHlo.reshape_bufs_sub .., StableHlo.unary_bufs_sub .., StableHlo.reshape_bufs_sub .., StableHlo.reshape_bufs_sub .., StableHlo.reshape_bufs_sub .., StableHlo.unary_bufs_sub .., StableHlo.reshape_bufs_sub ..⟩

theorem opsC1_fresh : NoFresh (opsC1 : List (HloOp τ sig (Elt F))) :=
  ⟨rfl, rfl, rfl, rfl, rfl, rfl, rfl, rfl, rfl⟩

/-- The references the line writes, in order. -/
def opsC2_W : List (Ref sig .tc) := [main_c_0, main_call1_v0, main_v16, main_c_1, main_call2_v0, main_v17, main_c_2, main_call3_v0, main_v18, main_c_3, main_call4_v0, main_v19, main_c_4, main_call5_v0, main_v20, main_c_5, main_call6_v0, main_v21, main_c_6, main_call7_v0, main_v22, main_c_7, main_call8_v0, main_v23, main_c_8, main_call9_v0, main_v24, main_c_9, main_call10_v0, main_v25]

theorem opsC2_writes : (opsC2 : List (HloOp τ sig (Elt F))).map HloOp.writes = opsC2_W.map fun r => {Proc.devRef (τ := τ) .tc r} := rfl

theorem opsC2_sub : InTc (opsC2 : List (HloOp τ sig (Elt F))) :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩

theorem opsC2_fresh : NoFresh (opsC2 : List (HloOp τ sig (Elt F))) :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the line writes, in order. -/
def opsC3_W : List (Ref sig .tc) := [main_c_10, main_call11_v0, main_v26, main_c_11, main_call12_v0, main_v27, main_c_12, main_call13_v0, main_v28, main_c_13, main_call14_v0, main_v29, main_c_14, main_call15_v0, main_v30, main_c_15, main_call16_v0, main_v31, main_c_16, main_call17_v0, main_v32, main_c_17, main_call18_v0, main_v33, main_c_18, main_call19_v0, main_v34, main_c_19, main_call20_v0, main_v35]

theorem opsC3_writes : (opsC3 : List (HloOp τ sig (Elt F))).map HloOp.writes = opsC3_W.map fun r => {Proc.devRef (τ := τ) .tc r} := rfl

theorem opsC3_sub : InTc (opsC3 : List (HloOp τ sig (Elt F))) :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩

theorem opsC3_fresh : NoFresh (opsC3 : List (HloOp τ sig (Elt F))) :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the line writes, in order. -/
def opsC4_W : List (Ref sig .tc) := [main_v36, main_v37, main_v38]

theorem opsC4_writes : (opsC4 : List (HloOp τ sig (Elt F))).map HloOp.writes = opsC4_W.map fun r => {Proc.devRef (τ := τ) .tc r} := rfl

theorem opsC4_sub : InTc (opsC4 : List (HloOp τ sig (Elt F))) :=
  ⟨StableHlo.nary_bufs_sub .., StableHlo.nary_bufs_sub .., StableHlo.binary_bufs_sub ..⟩

theorem opsC4_fresh : NoFresh (opsC4 : List (HloOp τ sig (Elt F))) :=
  ⟨rfl, rfl, rfl⟩

/-- The references the line writes, in order. -/
def opsC5_W : List (Ref sig .tc) := [main_v39, main_v40, main_v41, main_c_20, main_call21_v0, main_v42, main_v43, main_v44, main_v45, main_v46, main_v47, main_v48, main_v49, main_v50, main_v51]

theorem opsC5_writes : (opsC5 : List (HloOp τ sig (Elt F))).map HloOp.writes = opsC5_W.map fun r => {Proc.devRef (τ := τ) .tc r} := rfl

theorem opsC5_sub : InTc (opsC5 : List (HloOp τ sig (Elt F))) :=
  ⟨StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.reshape_bufs_sub .., StableHlo.unary_bufs_sub .., StableHlo.reshape_bufs_sub .., StableHlo.reshape_bufs_sub .., StableHlo.unary_bufs_sub .., StableHlo.unary_bufs_sub .., StableHlo.reshape_bufs_sub ..⟩

theorem opsC5_fresh : NoFresh (opsC5 : List (HloOp τ sig (Elt F))) :=
  ⟨rfl, rfl, rfl, rfl, rfl, rfl, rfl, rfl, rfl, rfl, rfl, rfl, rfl, rfl, rfl⟩

/-- The references the line writes, in order. -/
def opsD_W : List (Ref sig .tc) := [main_v53]

theorem opsD_writes : (opsD : List (HloOp τ sig (Elt F))).map HloOp.writes = opsD_W.map fun r => {Proc.devRef (τ := τ) .tc r} := rfl

theorem opsD_sub : InTc (opsD : List (HloOp τ sig (Elt F))) :=
  StableHlo.unary_bufs_sub ..

theorem opsD_fresh : NoFresh (opsD : List (HloOp τ sig (Elt F))) :=
  rfl

/-- The references the line writes, in order. -/
def opsE_W : List (Ref sig .tc) := [main_v54]

theorem opsE_writes : (opsE : List (HloOp τ sig (Elt F))).map HloOp.writes = opsE_W.map fun r => {Proc.devRef (τ := τ) .tc r} := rfl

theorem opsE_sub : InTc (opsE : List (HloOp τ sig (Elt F))) :=
  StableHlo.unary_bufs_sub ..

theorem opsE_fresh : NoFresh (opsE : List (HloOp τ sig (Elt F))) :=
  rfl

/-- Two lines in a row, each within the TensorCore's buffers. -/
theorem InTc.append {o1 o2 : List (HloOp τ sig (Elt F))} (h1 : InTc o1) (h2 : InTc o2) : InTc (o1 ++ o2) :=
  List.forall_append.mpr ⟨h1, h2⟩

theorem NoFresh.append {o1 o2 : List (HloOp τ sig (Elt F))} (h1 : NoFresh o1) (h2 : NoFresh o2) : NoFresh (o1 ++ o2) :=
  List.forall_append.mpr ⟨h1, h2⟩

theorem opsC_sub : InTc (opsC : List (HloOp τ sig (Elt F))) := opsC1_sub.append (opsC2_sub.append (opsC3_sub.append (opsC4_sub.append opsC5_sub)))

theorem opsC_fresh : NoFresh (opsC : List (HloOp τ sig (Elt F))) := opsC1_fresh.append (opsC2_fresh.append (opsC3_fresh.append (opsC4_fresh.append opsC5_fresh)))

/-- The references the lines between the second gather and the first dense kernel write. -/
def opsC_W : List (Ref sig .tc) := opsC1_W ++ (opsC2_W ++ (opsC3_W ++ (opsC4_W ++ opsC5_W)))

theorem opsC_writes : (opsC : List (HloOp τ sig (Elt F))).map HloOp.writes = opsC_W.map fun r => {Proc.devRef (τ := τ) .tc r} := by
  simp only [opsC, opsC_W, List.map_append, opsC1_writes, opsC2_writes, opsC3_writes, opsC4_writes, opsC5_writes]

end Cert.Proof

end
-- ==== Proof.Comp.lean ====
/-
  What one trip of a tile's loop leaves in its compacting buffer: the gathered table rows' first 16 lanes, twenty rows of
  them side by side, whatever call the tile runs for (both calls work in scratch of the same shapes).
-/
module

public import proofs.«01_k».proof.Proof.Setup
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## Indices -/

/-- Row `r`, lane `c` of the padded table, the two taken modulo its extents. -/
def ixT (r c : ℕ) : S1008x128.Idx := fun a => match a with
  | 0 => ⟨r % 1008, Nat.mod_lt _ (by decide)⟩
  | 1 => ⟨c % 128, Nat.mod_lt _ (by decide)⟩

theorem ixT_zero (r c : ℕ) : (ixT r c 0).val = r % 1008 := rfl
theorem ixT_one (r c : ℕ) : (ixT r c 1).val = c % 128 := rfl

/-- Word `n` of a chunk's index list. -/
def ixW (n : ℕ) : S160.Idx := fun a => match a with
  | 0 => ⟨n % 160, Nat.mod_lt _ (by decide)⟩

theorem ixW_val (n : ℕ) (a : Fin 1) : (ixW n a).val = n % 160 := by
  obtain rfl : a = 0 := Subsingleton.elim _ _
  rfl

/-- The rows a chunk's index list names, as the two gathers leave them. -/
def rowsOf (tp : S1008x128.Idx → Elt F .f32) (w : S160.Idx → Elt F .i32) : S160x128.Idx → Elt F .f32 :=
  fun y => tp (ixT (w (ixW (y 0).val)).toNat (y 1).val)

/-- The compacting buffer after a trip: lane `c < 320` of row `r` is lane `c % 16` of gathered row `20 r + c / 16`, the
    lanes after as they were. -/
def compOf (tp : S1008x128.Idx → Elt F .f32) (w : S160.Idx → Elt F .i32) (fg : S8x384.Idx → Elt F .f32) : S8x384.Idx → Elt F .f32 :=
  fun y => if (y 1).val < 320 then tp (ixT (w (ixW (20 * (y 0).val + (y 1).val / 16))).toNat ((y 1).val % 16)) else fg y

/-- The zero the lanes past 320 hold. -/
def fz : Elt F .f32 := Scalar.ofBits (F := F) .f32 0x00000000#32

/-- Word `n` of a list of `N`. -/
def ixN (N : ℕ) [NeZero N] (n : ℕ) : (⟨1, ![N]⟩ : Shape).Idx := fun a => match a with
  | 0 => ⟨n % N, Nat.mod_lt _ (Nat.pos_of_ne_zero (NeZero.ne N))⟩

/-- What a whole SparseCore call computes: row `r`'s twenty table rows side by side, 16 lanes of each, and zeros after. -/
def gat (R N : ℕ) [NeZero N] (tp : S1008x128.Idx → Elt F .f32) (w : (⟨1, ![N]⟩ : Shape).Idx → Elt F .i32) :
    (⟨2, ![R, 384]⟩ : Shape).Idx → Elt F .f32 :=
  fun y => if (y 1).val < 320 then tp (ixT (w (ixN N (20 * (y 0).val + (y 1).val / 16))).toNat ((y 1).val % 16)) else fz

/-! ## One gather -/

theorem S80_symm (k : Fin S80.numel) (a : Fin 1) : (S80.rowMajor.symm k a).val = k.val := by
  obtain rfl : a = 0 := Subsingleton.elim _ _
  rw [← Shape.rowMajor_val_one (S80.rowMajor.symm k), Equiv.apply_symm_apply]

theorem gather_ok (sh : Memref sig .scVector .shared S1008x128 .f32) (a : Memref sig .scVector .vmem S160 .i32)
    (tp : sh.view.ty.Contents (Elt F)) (fa : a.view.ty.Contents (Elt F)) (w : S160.Idx → Elt F .i32) (hw : ∀ x, (w x).toNat < 1008) (o : ℕ)
    (ho : o + 80 ≤ 160) (inb : ∀ a, (![0, 0] : Fin 2 → ℕ) a + S1008x128.size a ≤ S1008x128.size a) (p0)
    (inbo : ∀ a, (![o] : Fin 1 → ℕ) a + S80.size a ≤ S160.size a) (p1) (hn) (hi)
    (inbr : ∀ a, (![o, 0] : Fin 2 → ℕ) a + S80x128.size a ≤ S160x128.size a) (x : S80x128.Idx) :
    SparseCore.gatherPayload gathers_S1008x128_S80x128
        (View.read (Elt F) (sh.slice (Rect.unit (s := S1008x128) ![0, 0] S1008x128.size inb) p0).view tp)
        (SparseCore.rows (View.read (Elt F) (a.slice (Rect.unit (s := S160) ![o] S80.size inbo) p1).view
          (View.write (Elt F) a.view fa w Finset.univ)) hn hi) x
      = rowsOf (sh.view.read (Elt F) tp) w ((Rect.unit (s := S160x128) ![o, 0] S80x128.size inbr).emb x) := by
  unfold SparseCore.gatherPayload rowsOf
  have hword : ∀ k : Fin S80.numel, View.read (Elt F) (a.slice (Rect.unit (s := S160) ![o] S80.size inbo) p1).view
      (View.write (Elt F) a.view fa w Finset.univ) (S80.rowMajor.symm k) = w (ixW (o + k.val)) := by
    intro k
    change View.read (Elt F) a.view (View.write (Elt F) a.view fa w Finset.univ) ((Rect.unit (s := S160) ![o] S80.size inbo).emb (S80.rowMajor.symm k)) = _
    rw [View.read_write_univ]
    congr 1
    funext a
    refine Fin.ext ?_
    have hk : k.val < 80 := lt_of_lt_of_eq k.isLt (by decide)
    obtain rfl : a = 0 := Subsingleton.elim _ _
    rw [ixW_val, Rect.emb_apply, S80_symm]
    simp only [Rect.off_unit, Rect.stride_unit]
    change o + 1 * k.val = _
    omega
  change sh.view.read (Elt F) tp ((Rect.unit (s := S1008x128) ![0, 0] S1008x128.size inb).emb _) = _
  congr 1
  have hx0 : (x 0).val < 80 := (x 0).isLt
  have hx1 : (x 1).val < 128 := (x 1).isLt
  funext b
  refine Fin.ext ?_
  match b with
  | 0 =>
    simp only [Rect.emb_apply, Rect.off_unit, Rect.stride_unit, ixT_zero]
    have h := Shape.Gathers.idx_axis gathers_S1008x128_S80x128 (SparseCore.rows (View.read (Elt F) (a.slice (Rect.unit (s := S160) ![o] S80.size inbo) p1).view
          (View.write (Elt F) a.view fa w Finset.univ)) hn hi) x
    have h' := congrArg Fin.val h
    change (Shape.Gathers.idx gathers_S1008x128_S80x128 _ x 0).val = _ at h'
    rw [h']
    have hr : (SparseCore.rows (View.read (Elt F) (a.slice (Rect.unit (s := S160) ![o] S80.size inbo) p1).view
          (View.write (Elt F) a.view fa w Finset.univ)) hn hi (x (Shape.Gathers.axis' gathers_S1008x128_S80x128))).val
        = (w (ixW (o + (x 0).val))).toNat := by
      have e := congrArg (fun v : BitVec 32 => v.toNat) (hword ((x 0).cast (by decide)))
      exact e
    rw [hr, Nat.mod_eq_of_lt (hw _)]
    change 0 + 1 * _ = _
    simp
  | 1 =>
    simp only [Rect.emb_apply, Rect.off_unit, Rect.stride_unit, ixT_one]
    rw [Shape.Gathers.idx_of_ne _ _ _ 1 (by decide)]
    simp
    change (x 1).val = (x 1).val % 128
    omega

/-- A word of a chunk's list, read back through half the list's buffer, is one of the chunk's. -/
theorem word_lt (a : Memref sig .scVector .vmem S160 .i32) (fa : a.view.ty.Contents (Elt F)) (w : S160.Idx → Elt F .i32) (hw : ∀ x, (w x).toNat < 1008)
    (r : Rect S160) (p) (x : r.shape.Idx) :
    ((a.slice r p).view.read (Elt F) (View.write (Elt F) a.view fa w Finset.univ : a.view.ty.Contents (Elt F)) x).toNat < 1008 := by
  change (View.read (Elt F) a.view (View.write (Elt F) a.view fa w Finset.univ) (r.emb x)).toNat < 1008
  rw [View.read_write_univ]
  exact hw _

/-! ## One 16-lane copy -/

theorem piece_ok (sh : Memref sig .scVector .shared S1008x128 .f32) (a : Memref sig .scVector .vmem S160 .i32)
    (b : Memref sig .scVector .vmem S160x128 .f32)
    (tp : sh.view.ty.Contents (Elt F)) (fa : a.view.ty.Contents (Elt F)) (w : S160.Idx → Elt F .i32) (hw : ∀ x, (w x).toNat < 1008)
    (fg : S8x384.Idx → Elt F .f32)
    (n r c : ℕ) (hr : r = n / 20) (hc : c = 16 * (n % 20)) (hn : n < 160)
    (inb : ∀ a, (![0, 0] : Fin 2 → ℕ) a + S1008x128.size a ≤ S1008x128.size a) (p0 : ∀ a, (Rect.unit (s := S1008x128) ![0, 0] S1008x128.size inb).stride a = 1)
    (inb0 : ∀ a, (![0] : Fin 1 → ℕ) a + S80.size a ≤ S160.size a)
    (inb1 : ∀ a, (![80] : Fin 1 → ℕ) a + S80.size a ≤ S160.size a)
    (p1 : ∀ a, (Rect.unit (s := S160) ![0] S80.size inb0).stride a = 1)
    (p2 : ∀ a, (Rect.unit (s := S160) ![80] S80.size inb1).stride a = 1) (hn0 hn1 : S80.numel = 80)
    (hi0 : ∀ x, (View.read (Elt F) (a.slice (Rect.unit (s := S160) ![0] S80.size inb0) p1).view
      (View.write (Elt F) a.view fa w Finset.univ : a.view.ty.Contents (Elt F)) x).toNat < 1008)
    (hi1 : ∀ x, (View.read (Elt F) (a.slice (Rect.unit (s := S160) ![80] S80.size inb1) p2).view
      (View.write (Elt F) a.view fa w Finset.univ : a.view.ty.Contents (Elt F)) x).toNat < 1008)
    (inbr0 : ∀ a, (![0, 0] : Fin 2 → ℕ) a + S80x128.size a ≤ S160x128.size a)
    (inbr1 : ∀ a, (![80, 0] : Fin 2 → ℕ) a + S80x128.size a ≤ S160x128.size a)
    (inbn : ∀ a, (![n, 0] : Fin 2 → ℕ) a + S1x16.size a ≤ S160x128.size a)
    (inbc : ∀ a, (![r, c] : Fin 2 → ℕ) a + S1x16.size a ≤ S8x384.size a)
    (h1 : S1x16.ShapeCasts S16) (h2 : S16.ShapeCasts S1x16) (x : S1x16.Idx) :
    shapeCast S1x16 (shapeCast S16 (b.view.readCov
        [⟨Rect.unit (s := S160x128) ![80, 0] S80x128.size inbr1, SparseCore.gatherPayload gathers_S1008x128_S80x128
            (View.read (Elt F) (sh.slice (Rect.unit (s := S1008x128) ![0, 0] S1008x128.size inb) p0).view tp)
            (SparseCore.rows (View.read (Elt F) (a.slice (Rect.unit (s := S160) ![80] S80.size inb1) p2).view
              (View.write (Elt F) a.view fa w Finset.univ : a.view.ty.Contents (Elt F))) hn1 hi1)⟩,
         ⟨Rect.unit (s := S160x128) ![0, 0] S80x128.size inbr0, SparseCore.gatherPayload gathers_S1008x128_S80x128
            (View.read (Elt F) (sh.slice (Rect.unit (s := S1008x128) ![0, 0] S1008x128.size inb) p0).view tp)
            (SparseCore.rows (View.read (Elt F) (a.slice (Rect.unit (s := S160) ![0] S80.size inb0) p1).view
              (View.write (Elt F) a.view fa w Finset.univ)) hn0 hi0)⟩]
        (Rect.unit (s := S160x128) ![n, 0] S1x16.size inbn).toLoadRect) h1) h2 x
      = compOf (sh.view.read (Elt F) tp) w fg ((Rect.unit (s := S8x384) ![r, c] S1x16.size inbc).emb x) := by
  rw [shapeCast_shapeCast]
  unfold View.readCov
  change View.read (Elt F) b.view (b.view.writes (Elt F) b.view.junk _) ((Rect.unit (s := S160x128) ![n, 0] S1x16.size inbn).emb x) = _
  have hx0 : (x 0).val < 1 := (x 0).isLt
  have hx1 : (x 1).val < 16 := (x 1).isLt
  rw [View.read_writes_apply_of_pieces _ _ (rowsOf (sh.view.read (Elt F) tp) w)]
  · unfold rowsOf compOf
    have hlt : (((Rect.unit (s := S8x384) ![r, c] S1x16.size inbc).emb x) 1).val < 320 := by
      simp [Rect.emb_apply]
      omega
    rw [if_pos hlt]
    subst hr hc
    simp [Rect.emb_apply]
    congr 1
    have e1 : (x 1).val % 16 = (x 1).val := by omega
    have e2 : 20 * (n / 20 + (x 0).val) + (16 * (n % 20) + (x 1).val) / 16 = n + (x 0).val := by omega
    rw [e1, e2]
  · intro p hp
    rcases List.mem_cons.mp hp with rfl | hp
    · exact fun x => gather_ok sh a tp fa w hw 80 (by omega) inb p0 inb1 p2 hn1 hi1 inbr1 x
    · obtain rfl := List.mem_singleton.mp hp
      exact fun x => gather_ok sh a tp fa w hw 0 (by omega) inb p0 inb0 p1 hn0 hi0 inbr0 x
  · by_cases h : n < 80
    · refine ⟨_, List.mem_cons_of_mem _ (List.mem_singleton.mpr rfl), ?_⟩
      rw [Rect.mem_set_unit]
      intro a
      match a with
      | 0 => simp [Rect.emb_apply]; omega
      | 1 => simp [Rect.emb_apply]; omega
    · refine ⟨_, List.mem_cons_self, ?_⟩
      rw [Rect.mem_set_unit]
      intro a
      match a with
      | 0 => simp [Rect.emb_apply]; omega
      | 1 => simp [Rect.emb_apply]; omega

/-- The gathered rows' buffer once both gathers have landed. -/
theorem rows_ok (sh : Memref sig .scVector .shared S1008x128 .f32) (a : Memref sig .scVector .vmem S160 .i32)
    (b : Memref sig .scVector .vmem S160x128 .f32)
    (tp : sh.view.ty.Contents (Elt F)) (fa : a.view.ty.Contents (Elt F)) (fb : b.view.ty.Contents (Elt F)) (w : S160.Idx → Elt F .i32)
    (hw : ∀ x, (w x).toNat < 1008)
    (inb : ∀ a, (![0, 0] : Fin 2 → ℕ) a + S1008x128.size a ≤ S1008x128.size a) (p0 : ∀ a, (Rect.unit (s := S1008x128) ![0, 0] S1008x128.size inb).stride a = 1)
    (inb0 : ∀ a, (![0] : Fin 1 → ℕ) a + S80.size a ≤ S160.size a)
    (inb1 : ∀ a, (![80] : Fin 1 → ℕ) a + S80.size a ≤ S160.size a)
    (p1 : ∀ a, (Rect.unit (s := S160) ![0] S80.size inb0).stride a = 1)
    (p2 : ∀ a, (Rect.unit (s := S160) ![80] S80.size inb1).stride a = 1) (hn0 hn1 : S80.numel = 80)
    (hi0 : ∀ x, (View.read (Elt F) (a.slice (Rect.unit (s := S160) ![0] S80.size inb0) p1).view
      (View.write (Elt F) a.view fa w Finset.univ : a.view.ty.Contents (Elt F)) x).toNat < 1008)
    (hi1 : ∀ x, (View.read (Elt F) (a.slice (Rect.unit (s := S160) ![80] S80.size inb1) p2).view
      (View.write (Elt F) a.view fa w Finset.univ : a.view.ty.Contents (Elt F)) x).toNat < 1008)
    (inbr0 : ∀ a, (![0, 0] : Fin 2 → ℕ) a + S80x128.size a ≤ S160x128.size a)
    (inbr1 : ∀ a, (![80, 0] : Fin 2 → ℕ) a + S80x128.size a ≤ S160x128.size a) :
    b.view.read (Elt F) (b.view.writes (Elt F) fb
        [⟨Rect.unit (s := S160x128) ![80, 0] S80x128.size inbr1, SparseCore.gatherPayload gathers_S1008x128_S80x128
            (View.read (Elt F) (sh.slice (Rect.unit (s := S1008x128) ![0, 0] S1008x128.size inb) p0).view tp)
            (SparseCore.rows (View.read (Elt F) (a.slice (Rect.unit (s := S160) ![80] S80.size inb1) p2).view
              (View.write (Elt F) a.view fa w Finset.univ : a.view.ty.Contents (Elt F))) hn1 hi1)⟩,
         ⟨Rect.unit (s := S160x128) ![0, 0] S80x128.size inbr0, SparseCore.gatherPayload gathers_S1008x128_S80x128
            (View.read (Elt F) (sh.slice (Rect.unit (s := S1008x128) ![0, 0] S1008x128.size inb) p0).view tp)
            (SparseCore.rows (View.read (Elt F) (a.slice (Rect.unit (s := S160) ![0] S80.size inb0) p1).view
              (View.write (Elt F) a.view fa w Finset.univ)) hn0 hi0)⟩]) = rowsOf (sh.view.read (Elt F) tp) w := by
  funext y
  rw [View.read_writes_apply_of_pieces _ _ (rowsOf (sh.view.read (Elt F) tp) w)]
  · intro p hp
    rcases List.mem_cons.mp hp with rfl | hp
    · exact fun x => gather_ok sh a tp fa w hw 80 (by omega) inb p0 inb1 p2 hn1 hi1 inbr1 x
    · obtain rfl := List.mem_singleton.mp hp
      exact fun x => gather_ok sh a tp fa w hw 0 (by omega) inb p0 inb0 p1 hn0 hi0 inbr0 x
  · have hy0 : (y 0).val < 160 := (y 0).isLt
    have hy1 : (y 1).val < 128 := (y 1).isLt
    by_cases h : (y 0).val < 80
    · refine ⟨_, List.mem_cons_of_mem _ (List.mem_singleton.mpr rfl), ?_⟩
      rw [Rect.mem_set_unit]
      intro a
      match a with
      | 0 => simp; omega
      | 1 => simp; omega
    · refine ⟨_, List.mem_cons_self, ?_⟩
      rw [Rect.mem_set_unit]
      intro a
      match a with
      | 0 => simp; omega
      | 1 => simp; omega

/-- One 16-lane copy out of the gathered rows. -/
theorem lane_ok (b : Memref sig .scVector .vmem S160x128 .f32) (tp : S1008x128.Idx → Elt F .f32) (w : S160.Idx → Elt F .i32)
    (fg : S8x384.Idx → Elt F .f32) (fR : b.view.ty.Contents (Elt F)) (hR : b.view.read (Elt F) fR = rowsOf tp w)
    (n r c : ℕ) (hr : r = n / 20) (hc : c = 16 * (n % 20)) (hn : n < 160)
    (inbn : ∀ a, (![n, 0] : Fin 2 → ℕ) a + S1x16.size a ≤ S160x128.size a)
    (inbc : ∀ a, (![r, c] : Fin 2 → ℕ) a + S1x16.size a ≤ S8x384.size a)
    (h1 : S1x16.ShapeCasts S16) (h2 : S16.ShapeCasts S1x16) (x : S1x16.Idx) :
    shapeCast S1x16 (shapeCast S16 (b.view.readAt (Elt F) (Rect.unit (s := S160x128) ![n, 0] S1x16.size inbn).toLoadRect fR) h1) h2 x
      = compOf tp w fg ((Rect.unit (s := S8x384) ![r, c] S1x16.size inbc).emb x) := by
  rw [shapeCast_shapeCast]
  change View.read (Elt F) b.view fR ((Rect.unit (s := S160x128) ![n, 0] S1x16.size inbn).emb x) = _
  have hx0 : (x 0).val < 1 := (x 0).isLt
  have hx1 : (x 1).val < 16 := (x 1).isLt
  rw [hR]
  unfold rowsOf compOf
  have hlt : (((Rect.unit (s := S8x384) ![r, c] S1x16.size inbc).emb x) 1).val < 320 := by
    simp [Rect.emb_apply]
    omega
  rw [if_pos hlt]
  subst hr hc
  simp [Rect.emb_apply]
  congr 1
  have e1 : (x 1).val % 16 = (x 1).val := by omega
  have e2 : 20 * (n / 20 + (x 0).val) + (16 * (n % 20) + (x 1).val) / 16 = n + (x 0).val := by omega
  rw [e1, e2]

/-! ## The whole buffer -/

/-- The box the `n`-th copy of a trip fills. -/
def boxOf (n : ℕ) (h : n < 160) : Rect S8x384 :=
  Rect.unit (s := S8x384) ![n / 20, 16 * (n % 20)] S1x16.size fun a => match a with
    | 0 => by simp; omega
    | 1 => by simp; omega

/-- The boxes of the first `n` copies, the last first. -/
def boxes : (n : ℕ) → n ≤ 160 → List (Rect S8x384)
  | 0, _ => []
  | n + 1, h => boxOf n h :: boxes n (Nat.le_of_succ_le h)

theorem mem_boxes : ∀ (n : ℕ) (hn : n ≤ 160) (m : ℕ) (hm : m < n), boxOf m (lt_of_lt_of_le hm hn) ∈ boxes n hn
  | n + 1, hn, m, hm => by
    rcases Nat.lt_succ_iff_lt_or_eq.mp hm with h | h
    · exact List.mem_cons_of_mem _ (mem_boxes n (Nat.le_of_succ_le hn) m h)
    · subst h
      exact List.mem_cons_self

theorem of_mem_boxes : ∀ (n : ℕ) (hn : n ≤ 160) (r : Rect S8x384), r ∈ boxes n hn → ∃ m, ∃ hm : m < 160, r = boxOf m hm
  | n + 1, hn, r, hr => by
    rcases List.mem_cons.mp hr with h | h
    · exact ⟨n, hn, h⟩
    · exact of_mem_boxes n (Nat.le_of_succ_le hn) r h

/-- What the list of a trip's 160 stores has to be: the boxes in order, and in each box what the whole buffer is to hold. -/
def CompConds (tp : S1008x128.Idx → Elt F .f32) (w : S160.Idx → Elt F .i32) (fg : S8x384.Idx → Elt F .f32)
    (L : List (View.Piece (Elt F) S8x384 .f32)) : Prop :=
  L.map (fun p => p.1) = boxes 160 le_rfl ∧ ∀ p ∈ L, ∀ x : p.1.shape.Idx, p.2 x = compOf tp w fg (p.1.emb x)

theorem comp_ok (g : Memref sig .scVector .vmem S8x384 .f32) (fg : g.view.ty.Contents (Elt F)) (tp : S1008x128.Idx → Elt F .f32) (w : S160.Idx → Elt F .i32)
    (L : List (View.Piece (Elt F) S8x384 .f32)) (h : CompConds tp w (g.view.read (Elt F) fg) L) (y : S8x384.Idx) :
    g.view.read (Elt F) (g.view.writes (Elt F) fg L) y = compOf tp w (g.view.read (Elt F) fg) y := by
  have hy0 : (y 0).val < 8 := (y 0).isLt
  by_cases hy : (y 1).val < 320
  · refine View.read_writes_apply_of_pieces _ _ _ L h.2 y ?_
    have hm := mem_boxes 160 le_rfl (20 * (y 0).val + (y 1).val / 16) (by omega)
    rw [← h.1] at hm
    obtain ⟨p, hp, he⟩ := List.mem_map.mp hm
    refine ⟨p, hp, ?_⟩
    rw [he]
    unfold boxOf
    rw [Rect.mem_set_unit]
    intro a
    match a with
    | 0 => simp; omega
    | 1 => simp; omega
  · rw [View.read_writes_apply_of_forall_not_mem]
    · unfold compOf
      rw [if_neg hy]
    · intro p hp hm
      obtain ⟨m, hm160, e⟩ := of_mem_boxes 160 le_rfl p.1 (h.1 ▸ List.mem_map_of_mem (f := fun p => p.1) hp)
      rw [e] at hm
      unfold boxOf at hm
      rw [Rect.mem_set_unit] at hm
      have h1 := (hm 1).2
      simp at h1
      omega

/-- Past lane 320 the stores change nothing. -/
theorem comp_zero (g : Memref sig .scVector .vmem S8x384 .f32) (fg : g.view.ty.Contents (Elt F))
    (L : List (View.Piece (Elt F) S8x384 .f32)) (h : L.map (fun p => p.1) = boxes 160 le_rfl)
    (hfg : ∀ y : S8x384.Idx, 320 ≤ (y 1).val → g.view.read (Elt F) fg y = fz) (y : S8x384.Idx) (hy : 320 ≤ (y 1).val) :
    g.view.read (Elt F) (g.view.writes (Elt F) fg L) y = fz := by
  rw [View.read_writes_apply_of_forall_not_mem]
  · exact hfg y hy
  · intro p hp hm
    obtain ⟨m, hm160, e⟩ := of_mem_boxes 160 le_rfl p.1 (h ▸ List.mem_map_of_mem (f := fun p => p.1) hp)
    rw [e] at hm
    unfold boxOf at hm
    rw [Rect.mem_set_unit] at hm
    have h1 := (hm 1).2
    simp at h1
    omega

/-- The eight rows a trip copies out are those of the whole result: `o` the first row, `20 o` the first word. -/
theorem gat_chunk (R N : ℕ) [NeZero N] (tp : S1008x128.Idx → Elt F .f32) (fi : (⟨1, ![N]⟩ : Shape).Idx → Elt F .i32)
    (w : S160.Idx → Elt F .i32) (fg : S8x384.Idx → Elt F .f32) (hfg : ∀ y : S8x384.Idx, 320 ≤ (y 1).val → fg y = fz) (o : ℕ)
    (hw : ∀ n, n < 160 → w (ixW n) = fi (ixN N (20 * o + n)))
    (y : S8x384.Idx) (z : (⟨2, ![R, 384]⟩ : Shape).Idx) (h0 : (z 0).val = o + (y 0).val) (h1 : (z 1).val = (y 1).val) :
    compOf tp w fg y = gat R N tp fi z := by
  have hy0 : (y 0).val < 8 := (y 0).isLt
  unfold compOf gat
  rw [h0, h1]
  by_cases hy : (y 1).val < 320
  · rw [if_pos hy, if_pos hy, hw _ (by omega)]
    have e : 20 * o + (20 * (y 0).val + (y 1).val / 16) = 20 * (o + (y 0).val) + (y 1).val / 16 := by omega
    rw [e]
  · rw [if_neg hy, if_neg hy]
    exact hfg y (by omega)

end Cert.Proof
-- ==== Proof.Bar.lean ====
/-
  The subcore barrier of the two SparseCore calls: its cells' schedule over both calls, and one tile's pass through it.
-/
module

public import proofs.«01_k».proof.Proof.Comp

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## What the two SparseCore calls are given -/

/-- The padded table, the two index lists, and what the two results hold before. -/
structure Inp (F : FTy → Type) where
  tp : Dev nD → S1008x128.Idx → Elt F .f32
  f2 : Dev nD → S20480.Idx → Elt F .i32
  f5 : Dev nD → S61440.Idx → Elt F .i32
  f3 : Dev nD → S1024x384.Idx → Elt F .f32
  f6 : Dev nD → S3072x384.Idx → Elt F .f32
  h2 : ∀ d x, (f2 d x).toNat < 1000
  h5 : ∀ d x, (f5 d x).toNat < 1000

variable (I : Inp F)

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- SparseCore `c`'s copies of the table, the first call's and the second's. -/
abbrev shLoc0 (d : Dev nD) (c : Fin τ.nSC) : Loc nD τ sig := (d, ⟨.shared, ⟨0, by decide⟩, c⟩)
abbrev shLoc1 (d : Dev nD) (c : Fin τ.nSC) : Loc nD τ sig := (d, ⟨.shared, ⟨1, by decide⟩, c⟩)

/-- A sixteenth of the full share. -/
abbrev lf (j : Fin τ.nSub) : PosShare TreeShare := ShareLeaves.leaf 4 fullShare j

/-- A read share of the SparseCore's copy of the table in call `r`. -/
def tabPts (d : Dev nD) (c : Fin τ.nSC) (r : ℕ) (q : PosShare TreeShare) : sProp 𝕄 :=
  if r = 0 then iprop(shLoc0 d c ↦{q} I.tp d) else iprop(shLoc1 d c ↦{q} I.tp d)

instance tabPts_storable (d : Dev nD) (c : Fin τ.nSC) (r : ℕ) (q : PosShare TreeShare) : BI.Storable (upEmb : UEmb _ 𝕄) (tabPts I d c r q) := by
  unfold tabPts; split <;> infer_instance

/-- What tile 0's arrival hands each tile: its share of the copy of the table. -/
def bPay (g : GSem nD τ sig) (r n : ℕ) : sProp 𝕄 :=
  match g with
  | ((d, .scVector c j), _) => if n = 0 then tabPts I d c r (lf j) else iprop(emp)
  | _ => iprop(emp)

/-- Two rounds on each cell, one a call, of one unit duty per tile of the SparseCore. -/
def bRd : Rounds.Schedule (GSem nD τ sig) ℕ 𝕄 where
  duties g r := if isBar g ∧ r < 2 then (Finset.univ : Finset (Fin τ.nSub)).image Fin.val else ∅
  amount _ _ _ := 1
  payload g r n := bPay I g r n
  amount_pos _ _ _ _ := Nat.one_pos

instance bRd_payload_storable (g : GSem nD τ sig) (r n : ℕ) : BI.Storable (upEmb : UEmb _ 𝕄) ((bRd I).payload g r n) := by
  show BI.Storable upEmb (bPay I g r n)
  unfold bPay
  rcases g with ⟨⟨d, _ | c | ⟨c, i⟩⟩, sm⟩ <;> dsimp only <;> (repeat' split) <;> infer_instance

omit [FloatOps F] in
theorem bigSep_emp' {J : Type} (s : Finset J) : (bigSep s fun _ => iprop(emp)) = (iprop(emp) : sProp 𝕄) := bigSep_emp_const s

theorem bRd_duties (d : Dev nD) (c : Fin τ.nSC) (j : Fin τ.nSub) (r : ℕ) (hr : r < 2) :
    (bRd I).duties (bcell d c j) r = (Finset.univ : Finset (Fin τ.nSub)).image Fin.val := by
  exact if_pos ⟨isBar_bcell d c j, hr⟩
theorem bRd_duties_end (g : GSem nD τ sig) (r : ℕ) (hr : 2 ≤ r) : (bRd I).duties g r = ∅ :=
  if_neg fun h => absurd h.2 (by omega)
theorem bRd_mem (d : Dev nD) (c : Fin τ.nSC) (j i : Fin τ.nSub) (r : ℕ) (hr : r < 2) : i.val ∈ (bRd I).duties (bcell d c j) r := by
  rw [bRd_duties I d c j r hr]; exact Finset.mem_image_of_mem _ (Finset.mem_univ i)
theorem bRd_expect (d : Dev nD) (c : Fin τ.nSC) (j : Fin τ.nSub) (r : ℕ) (hr : r < 2) : 0 + 16 = (bRd I).expect (bcell d c j) r := by
  unfold Rounds.Schedule.expect; rw [bRd_duties I d c j r hr]
  show 0 + 16 = ∑ x ∈ (Finset.univ : Finset (Fin 16)).image Fin.val, 1
  rw [Finset.sum_const, Finset.card_image_of_injective _ Fin.val_injective]; rfl

/-- What a tile owes for call `q`'s barrier: a unit on every cell of its SparseCore. -/
def oxV (q : Fin 2) (d : Dev nD) (c : Fin τ.nSC) : CellTallies nD τ sig (HIx 2) := ∑ j : Fin τ.nSub, tallyAt (bcell d c j) (some q) 1

omit [FloatOps F] in
theorem oxV_none (q : Fin 2) (d : Dev nD) (c : Fin τ.nSC) (g : GSem nD τ sig) : oxV q d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {q : Fin 2} {d : Dev nD} {c : Fin τ.nSC} {g : GSem nD τ sig} {ι : HIx 2} (h : 0 < oxV q d c g ι) :
    ∃ j : Fin τ.nSub, g = bcell d c j ∧ ι = some q := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- What the launch deals tile `(c, i)` for call `q`'s barrier. -/
def bkit (q : Fin 2) (d : Dev nD) (c : Fin τ.nSC) (i : Fin τ.nSub) : sProp 𝕄 :=
  iprop((∃ κ : GSem nD τ sig → ℕ, bigSep Finset.univ fun j : Fin τ.nSub => cellInv EB (bRd I) (κ (bcell d c j)) (bcell d c j))
    ∗ (bigSep Finset.univ fun j : Fin τ.nSub => dutyTok EB (bcell d c j) q.val i.val)
    ∗ cred (tallyAt (bcell d c i) (some q) 16))

/-- Where tile `(c, i)` stands before call `q`'s barrier, and that every tile of its SparseCore stands there. -/
def bpos (q : Fin 2) (d : Dev nD) (c : Fin τ.nSC) (i : Fin τ.nSub) : sProp 𝕄 :=
  iprop((bigSep Finset.univ fun j : Fin τ.nSub => reached (EB (F := F)) (bcell d c j) q.val) ∗ atPos (EB (F := F)) (bcell d c i) q.val ∅ 0)

instance bpos_storable (q : Fin 2) (d : Dev nD) (c : Fin τ.nSC) (i : Fin τ.nSub) : BI.Storable (upEmb : UEmb _ 𝕄) (bpos (F := F) q d c i) := by
  unfold bpos; infer_instance

theorem payload_eq (d : Dev nD) (c : Fin τ.nSC) (j : Fin τ.nSub) (r n : ℕ) :
    (bRd I).payload (bcell d c j) r n = if n = 0 then tabPts I d c r (lf j) else iprop(emp) := rfl

/-- The copy of the table is its sixteen shares. -/
theorem tab_leaves (d : Dev nD) (c : Fin τ.nSC) (r : ℕ) :
    tabPts I d c r fullShare = bigSep Finset.univ fun j : Fin τ.nSub => tabPts I d c r (lf j) := by
  unfold tabPts
  by_cases h : r = 0
  · simp only [if_pos h]
    exact ShareLeaves.pointsTo_leaves (ℓ := shLoc0 d c) Finset.univ (I.tp d) 4 fullShare
  · simp only [if_neg h]
    exact ShareLeaves.pointsTo_leaves (ℓ := shLoc1 d c) Finset.univ (I.tp d) 4 fullShare

/-- Tile 0 hands over the whole copy of the table, -/
theorem pays_zero (d : Dev nD) (c : Fin τ.nSC) (r : ℕ) : tabPts I d c r fullShare
    ⊢ (bigSep Finset.univ fun j : Fin τ.nSub => (bRd I).payload (bcell d c j) r 0 : sProp 𝕄) := by
  have e : ∀ j : Fin τ.nSub, tabPts I d c r (lf j) = (bRd I).payload (bcell d c j) r 0 := fun j => ((payload_eq I d c j r 0).trans (if_pos rfl)).symm
  exact Entails.of_eq ((tab_leaves I d c r).trans (bigSep_congr fun j _ => e j))

theorem pays_at (d : Dev nD) (c : Fin τ.nSC) (r n : ℕ) (hn : n = 0) : tabPts I d c r fullShare
    ⊢ (bigSep Finset.univ fun j : Fin τ.nSub => (bRd I).payload (bcell d c j) r n : sProp 𝕄) := by
  subst hn
  exact pays_zero I d c r

/-- every other tile nothing. -/
theorem pays_other (d : Dev nD) (c : Fin τ.nSC) (r n : ℕ) (hn : n ≠ 0) : iprop(emp)
    ⊢ (bigSep Finset.univ fun j : Fin τ.nSub => (bRd I).payload (bcell d c j) r n : sProp 𝕄) := by
  rw [show (bigSep Finset.univ fun j : Fin τ.nSub => (bRd I).payload (bcell d c j) r n) = bigSep Finset.univ fun _ : Fin τ.nSub => (iprop(emp) : sProp 𝕄) from
    bigSep_congr fun j _ => (payload_eq I d c j r n).trans (if_neg hn), bigSep_emp']

/-- What a tile's own round collects holds its share of the copy of the table. -/
theorem pays_elim (d : Dev nD) (c : Fin τ.nSC) (i : Fin τ.nSub) (r : ℕ) (hr : r < 2) :
    (bigSep ((bRd I).duties (bcell d c i) r \ ∅) fun n => (bRd I).payload (bcell d c i) r n) ⊢ (tabPts I d c r (lf i) : sProp 𝕄) := by
  rw [Finset.sdiff_empty, bRd_duties I d c i r hr]
  have h := bigSep_elim (Φ := fun n => (bRd I).payload (bcell d c i) r n)
    (Finset.mem_image.mpr ⟨(⟨0, by decide⟩ : Fin τ.nSub), Finset.mem_univ _, rfl⟩ : 0 ∈ (Finset.univ : Finset (Fin τ.nSub)).image Fin.val)
  rw [show (bRd I).payload (bcell d c i) r 0 = tabPts I d c r (lf i) from (payload_eq I d c i r 0).trans (if_pos rfl)] at h
  exact h

/-- A tile's pass through call `q`'s barrier. -/
theorem wp_bar (q : Fin 2) (d : Dev nD) (c : Fin τ.nSC) (i : Fin τ.nSub) (n : ℕ) (hn : n ≤ τ.nSub) (i' : Fin n) (hi : i'.castLE hn = i) (h16 : n = 16)
    (O : CellTallies nD τ sig (HIx 2)) (W : Waits sig (HIx 2))
    (hOlev : ∀ g ι, 0 < O g ι → 8 * q.val + 6 ≤ (K (F := F)).lev g ι)
    {α : Type} {k : PUnit → Prog (TpuEff nD τ sig (Elt F) Λ₀ (.scVector c i)) α} {Q : α → sProp 𝕄} :
    iprop(levAts (K (F := F)).L (K (F := F)).lev ∗ bkit I q d c i ∗ bpos q d c i
        ∗ (bigSep Finset.univ fun j : Fin τ.nSub => (bRd I).payload (bcell d c j) q.val i.val) ∗ owes (V d c i) (O + oxV q d c) W)
      ⊢ iprop((iprop(owes (V d c i) O (insert (SemLoc.reg sc_bar0, some q) W)
            ∗ atPos EB (bcell d c i) (q.val + 1) ∅ 0 ∗ reached EB (bcell d c i) (q.val + 1) ∗ tabPts I d c q.val (lf i)
            ∗ ∃ κ : ℕ, cellInv EB (bRd I) κ (bcell d c i))
          -∗ wp frame (wpE (defs₀ (F := F)) 𝒱₀ (V d c i) none) Set.univ (k ⟨⟩) Q)
        -∗ wp frame (wpE (defs₀ (F := F)) 𝒱₀ (V d c i) none) Set.univ (SparseCore.subcoreBarrier sc_bar0 n hn >>= k) Q) := by
  obtain rfl : n = τ.nSub := h16
  obtain rfl : i' = i := hi
  unfold bkit bpos
  iintro ⟨#Hlv, ⟨⟨%κ, #Hinv⟩, Htoks, Hcred⟩, ⟨#Hrch, Hat⟩, Hpays, HO⟩ Hk
  iapply (SparseCore.wp_subcoreBarrier 𝒱₀ none EB (bRd I) d (sc := c) (i := i') sc_bar0 τ.nSub hn i' rfl κ (fun _ => q.val) i'.val
      (fun j => bRd_mem I d _ _ _ _ q.isLt) (fun _ => rfl) (bRd_expect I d _ _ _ q.isLt) (some q) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d c i') (8 * q.val + 3) (fun p hp => by
        rw [Finset.mem_singleton] at hp; subst hp
        show (K (F := F)).lev (bcell d c i') (some q) ≤ 8 * q.val + 3
        rw [(K (F := F)).lev_V_reg d _ _ (show (sc_bar0 : Sem sig) ≠ (K (F := F)).go from sc_bar0_ne_go)])
      (fun g ι hg => lt_of_lt_of_le (by omega) (hOlev g ι hg)))
    iexact Hlv
  iintro ⟨HO, Hat, Hr, Hgot⟩
  ihave Hgot' := (pays_elim I d c i' q.val q.isLt) $$ Hgot
  iapply Hk
  isplitl [HO]; · iexact HO
  isplitl [Hat]; · iexact Hat
  isplitl [Hr]; · iexact Hr
  isplitl [Hgot']; · iexact Hgot'
  iexists _
  iapply (SparseCore.ent (bigSep_elim (Φ := fun j : Fin τ.nSub => (cellInv EB (bRd I) (κ (bcell d c j)) (bcell d c j) : sProp 𝕄)) (Finset.mem_univ i')))
  iexact Hinv

end Cert.Proof
-- ==== Proof.Out0.lean ====
/-
  What a trip of a tile's loop in the first SparseCore call reads and writes.
-/
module

public import proofs.«01_k».proof.Proof.Comp

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

abbrev cV0 (L : grid0.Coords) : Fin τ.nSC := (L 0).castLE hcore0
abbrev jV0 (L : grid0.Coords) : Fin τ.nSub := (L 1).castLE hsub0

local notation "tV" => (Memref.whole main_v0_scv : Memref sig Kind.scVector Space.hbm S1008x128 EltTy.f32)
local notation "iV" => (Memref.whole main_v2_scv : Memref sig Kind.scVector Space.hbm S20480 EltTy.i32)
local notation "oV" => (Memref.whole main_v3_scv : Memref sig Kind.scVector Space.hbm S1024x384 EltTy.f32)
local notation "aV" => (Memref.whole cc0_scratch0 : Memref sig Kind.scVector Space.vmem S160 EltTy.i32)
local notation "bV" => (Memref.whole cc0_scratch1 : Memref sig Kind.scVector Space.vmem S160x128 EltTy.f32)
local notation "gV" => (Memref.whole cc0_scratch2 : Memref sig Kind.scVector Space.vmem S8x384 EltTy.f32)
local notation "shV" => (Memref.whole cc0_scratch3 : Memref sig Kind.scVector Space.shared S1008x128 EltTy.f32)

/-- The rows of the result a trip fills, and the words of the index list it reads. -/
abbrev oCh0 (L : grid0.Coords) (k : Fin k0_t1_loop.trips) : Memref sig .scVector .hbm S8x384 .f32 :=
  (oV).slice (Rect.unit (s := S1024x384) (k0_off2 L k) S8x384.size (k0_off2_inb L k)) (fun _ => rfl)
abbrev iCh0 (L : grid0.Coords) (k : Fin k0_t1_loop.trips) : Memref sig .scVector .hbm S160 .i32 :=
  (iV).slice (Rect.unit (s := S20480) (k0_off1 L k) S160.size (k0_off1_inb L k)) (fun _ => rfl)

theorem iCh0_word (d : Dev nD) (L : grid0.Coords) (k : Fin k0_t1_loop.trips) (fi : Buf (Elt F) ((iV).view.loc (V d (cV0 L) (jV0 L)))) (n : ℕ) (hn : n < 160) :
    (iCh0 L k).view.read (Elt F) fi (ixW n) = fi (ixN 20480 (20 * (64 * (L 1).val + 32 * (L 0).val + 8 * k.val) + n)) := by
  change fi ((Rect.unit (s := S20480) (k0_off1 L k) S160.size (k0_off1_inb L k)).emb (ixW n)) = _
  congr 1
  funext a
  refine Fin.ext ?_
  obtain rfl : a = 0 := Subsingleton.elim _ _
  have hi := k0_off1_inb L k 0
  simp only [k0_off1_eq, Matrix.cons_val_zero] at hi
  simp only [Rect.emb_apply, Rect.off_unit, Rect.stride_unit, k0_off1_eq, ixW_val, Matrix.cons_val_zero]
  change _ = (20 * (64 * (L 1).val + 32 * (L 0).val + 8 * k.val) + n) % 20480
  change _ + 160 ≤ 20480 at hi
  omega

theorem read_oCh0 (d : Dev nD) (L : grid0.Coords) (k : Fin k0_t1_loop.trips) (f : Buf (Elt F) ((oV).view.loc (V d (cV0 L) (jV0 L)))) (y : S8x384.Idx) :
    (oCh0 L k).view.read (Elt F) f y = f ((oCh0 L k).view.emb y) := rfl

/-- What the copy out leaves in a trip's rows of the result, once the stores are known to be the trip's. -/
theorem out0 (d : Dev nD) (L : grid0.Coords) (k : Fin k0_t1_loop.trips)
    (fi : Buf (Elt F) ((iV).view.loc (V d (cV0 L) (jV0 L)))) (tp : Buf (Elt F) ((shV).view.loc (V d (cV0 L) (jV0 L))))
    (fo : Buf (Elt F) ((oV).view.loc (V d (cV0 L) (jV0 L)))) (fg : Buf (Elt F) ((gV).view.loc (V d (cV0 L) (jV0 L))))
    (hfg : ∀ y : S8x384.Idx, 320 ≤ (y 1).val → fg y = fz) (x : S8x384.Idx → Elt F .f32) :
    ((oCh0 L k).view.loc (V d (cV0 L) (jV0 L)) ↦[(oCh0 L k).view.set]{fullShare} ((oCh0 L k).view.writes (Elt F) fo
        [⟨Rect.whole S8x384, x⟩]) : sProp 𝕄)
      ⊢ iprop(⌜∃ P, x = ReadAs.same.apply (View.read (Elt F) (gV).view ((gV).view.writes (Elt F) fg P))
            ∧ CompConds tp (ReadAs.same.apply ((iCh0 L k).view.read (Elt F) fi)) fg P⌝
          -∗ ((oCh0 L k).view.loc (V d (cV0 L) (jV0 L)) ↦[(oCh0 L k).view.set]{fullShare} (gat 1024 20480 tp fi))) := by
  iintro H %hP
  obtain ⟨P, hx, hP⟩ := hP
  have e : ∀ i ∈ (oCh0 L k).view.set, (oCh0 L k).view.writes (Elt F) fo
        [⟨Rect.whole S8x384, x⟩] i = gat 1024 20480 tp fi i := by
    intro i hi
    obtain ⟨y, -, rfl⟩ := Finset.mem_map.mp hi
    have h := congrFun (View.read_writes_whole (oCh0 L k).view fo x) y
    rw [read_oCh0 d] at h
    refine h.trans ?_
    rw [hx]
    refine (comp_ok (gV) fg tp _ P hP y).trans ?_
    refine gat_chunk 1024 20480 tp fi _ fg hfg (64 * (L 1).val + 32 * (L 0).val + 8 * k.val) (fun n hn => iCh0_word d L k fi n hn) y _ ?_ ?_
    · change (k0_off2 L k) 0 + 1 * (y 0).val = _
      rw [k0_off2_eq]
      simp
    · change (k0_off2 L k) 1 + 1 * (y 1).val = _
      rw [k0_off2_eq]
      simp
  iapply (Entails.of_eq (pointsTo_congr e))
  iexact H

/-- The compacting buffer after a trip still holds zeros past lane 320. -/
theorem keep0 (d : Dev nD) (L : grid0.Coords)
    (fg : Buf (Elt F) ((gV).view.loc (V d (cV0 L) (jV0 L))))
    (hfg : ∀ y : S8x384.Idx, 320 ≤ (y 1).val → fg y = fz) (P : List (View.Piece (Elt F) S8x384 .f32)) :
    ((gV).view.loc (V d (cV0 L) (jV0 L)) ↦{fullShare} ((gV).view.writes (Elt F) fg P) : sProp 𝕄)
      ⊢ iprop(⌜P.map (fun p => p.1) = boxes 160 le_rfl⌝
          -∗ ∃ fg', ⌜∀ y : S8x384.Idx, 320 ≤ (y 1).val → fg' y = fz⌝ ∗ (gV).view.loc (V d (cV0 L) (jV0 L)) ↦{fullShare} fg') := by
  iintro H %hP
  iexists _
  isplitr
  swap; · iexact H
  ipureintro
  exact comp_zero (gV) fg P hP hfg

/-- The gathered rows' buffer, named by what it holds. -/
theorem rows0 (d : Dev nD) (L : grid0.Coords) (tp : S1008x128.Idx → Elt F .f32) (w : S160.Idx → Elt F .i32)
    (f : Buf (Elt F) ((bV).view.loc (V d (cV0 L) (jV0 L)))) :
    ((bV).view.loc (V d (cV0 L) (jV0 L)) ↦{fullShare} f : sProp 𝕄)
      ⊢ iprop(⌜(bV).view.read (Elt F) f = rowsOf tp w⌝
        -∗ ∃ fR, ⌜(bV).view.read (Elt F) fR = rowsOf tp w⌝ ∗ (bV).view.loc (V d (cV0 L) (jV0 L)) ↦{fullShare} fR) := by
  iintro H %h
  iexists f
  isplitr; · ipureintro; exact h
  iexact H

end Cert.Proof
-- ==== Proof.Trip0.lean ====
/-
  One trip of a tile's loop in the first SparseCore call, with its values.
-/
module

public import proofs.«01_k».proof.Proof.Out0

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "tV" => (Memref.whole main_v0_scv : Memref sig Kind.scVector Space.hbm S1008x128 EltTy.f32)
local notation "iV" => (Memref.whole main_v2_scv : Memref sig Kind.scVector Space.hbm S20480 EltTy.i32)
local notation "oV" => (Memref.whole main_v3_scv : Memref sig Kind.scVector Space.hbm S1024x384 EltTy.f32)
local notation "aV" => (Memref.whole cc0_scratch0 : Memref sig Kind.scVector Space.vmem S160 EltTy.i32)
local notation "bV" => (Memref.whole cc0_scratch1 : Memref sig Kind.scVector Space.vmem S160x128 EltTy.f32)
local notation "gV" => (Memref.whole cc0_scratch2 : Memref sig Kind.scVector Space.vmem S8x384 EltTy.f32)
local notation "shV" => (Memref.whole cc0_scratch3 : Memref sig Kind.scVector Space.shared S1008x128 EltTy.f32)

set_option maxHeartbeats 20000000 in
set_option maxRecDepth 65536 in
/-- A trip: 160 words of the index list in, the table rows they name gathered, the rows' first 16 lanes laid side by side,
    eight rows out. -/
theorem trip0 (d : Dev nD) (L : grid0.Coords) (k : Fin k0_t1_loop.trips) (v2 v19 : BitVec 32) (qs qs' : PosShare TreeShare)
    (O : CellTallies nD τ sig (HIx 2)) (W : Waits sig (HIx 2))
    (fi : Buf (Elt F) ((iV).view.loc (V d (cV0 L) (jV0 L)))) (tp : Buf (Elt F) ((shV).view.loc (V d (cV0 L) (jV0 L))))
    (fo : Buf (Elt F) ((oV).view.loc (V d (cV0 L) (jV0 L)))) (fa : Buf (Elt F) ((aV).view.loc (V d (cV0 L) (jV0 L))))
    (fb : Buf (Elt F) ((bV).view.loc (V d (cV0 L) (jV0 L)))) (fg : Buf (Elt F) ((gV).view.loc (V d (cV0 L) (jV0 L))))
    (hin : ∀ x, (fi x).toNat < 1000) (hfg : ∀ y : S8x384.Idx, 320 ≤ (y 1).val → fg y = fz) :
    iprop((Transfers.MayWaits (V d (cV0 L) (jV0 L)) (default : HIx 2) O : sProp 𝕄)
        ∗ ((iCh0 L k).view.loc (V d (cV0 L) (jV0 L)) ↦[(iCh0 L k).view.set]{fullShare} fi)
        ∗ ((shV).view.loc (V d (cV0 L) (jV0 L)) ↦{qs} tp)
        ∗ ((shV).view.loc (V d (cV0 L) (jV0 L)) ↦{qs'} tp)
        ∗ ((oCh0 L k).view.loc (V d (cV0 L) (jV0 L)) ↦[(oCh0 L k).view.set]{fullShare} fo)
        ∗ ((aV).view.loc (V d (cV0 L) (jV0 L)) ↦{fullShare} fa)
        ∗ ((bV).view.loc (V d (cV0 L) (jV0 L)) ↦{fullShare} fb)
        ∗ ((gV).view.loc (V d (cV0 L) (jV0 L)) ↦{fullShare} fg)
        ∗ semVal (V d (cV0 L) (jV0 L), .dma cc0_scratch4.sem) 0 ∗ semVal (V d (cV0 L) (jV0 L), .dma cc0_scratch5.sem) 0
        ∗ semVal (V d (cV0 L) (jV0 L), .dma cc0_scoped1.sem) 0 ∗ semVal (V d (cV0 L) (jV0 L), .dma cc0_scoped2.sem) 0
        ∗ owes (V d (cV0 L) (jV0 L)) O W)
      ⊢ wp frame (wpE (defs₀ (F := F)) 𝒱₀ (V d (cV0 L) (jV0 L)) none) Set.univ
          (k0_t1_body L tV (Memref.isWhole_whole _) iV (Memref.isWhole_whole _) oV (Memref.isWhole_whole _) aV (Memref.isWhole_whole _) bV (Memref.isWhole_whole _)
            gV (Memref.isWhole_whole _) shV (Memref.isWhole_whole _) cc0_scratch4 cc0_scratch5 cc0_scoped0 cc0_scoped1 cc0_scoped2 v2 v19 k ())
          fun _ => iprop(((iCh0 L k).view.loc (V d (cV0 L) (jV0 L)) ↦[(iCh0 L k).view.set]{fullShare} fi)
        ∗ ((shV).view.loc (V d (cV0 L) (jV0 L)) ↦{qs} tp)
        ∗ ((shV).view.loc (V d (cV0 L) (jV0 L)) ↦{qs'} tp)
        ∗ ((oCh0 L k).view.loc (V d (cV0 L) (jV0 L)) ↦[(oCh0 L k).view.set]{fullShare} (gat 1024 20480 tp fi))
        ∗ (∃ fa', (aV).view.loc (V d (cV0 L) (jV0 L)) ↦{fullShare} fa')
        ∗ (∃ fb', (bV).view.loc (V d (cV0 L) (jV0 L)) ↦{fullShare} fb')
        ∗ (∃ fg', ⌜∀ y : S8x384.Idx, 320 ≤ (y 1).val → fg' y = fz⌝ ∗ (gV).view.loc (V d (cV0 L) (jV0 L)) ↦{fullShare} fg')
        ∗ semVal (V d (cV0 L) (jV0 L), .dma cc0_scratch4.sem) 0 ∗ semVal (V d (cV0 L) (jV0 L), .dma cc0_scratch5.sem) 0
        ∗ semVal (V d (cV0 L) (jV0 L), .dma cc0_scoped1.sem) 0 ∗ semVal (V d (cV0 L) (jV0 L), .dma cc0_scoped2.sem) 0
        ∗ ∃ W', ⌜∀ p ∈ W', p ∈ W ∨ p.2 = none⌝ ∗ owes (V d (cV0 L) (jV0 L)) O W') := by
  have hw : ∀ x, ((iCh0 L k).view.read (Elt F) fi x).toNat < 1008 := fun x => lt_trans (hin _) (by decide)
  have hin1 : ∀ x,
      (((aV).slice (Rect.unit (s := S160) ![0] S80.size inb_S160_S80_0) (fun _ => rfl)).view.read (Elt F)
        (View.write (Elt F) (aV).view fa ((iCh0 L k).view.read (Elt F) fi) Finset.univ) x).toNat < 1008 :=
    fun x => word_lt (aV) fa _ hw _ _ x
  have hin2 : ∀ x,
      (((aV).slice (Rect.unit (s := S160) ![80] S80.size inb_S160_S80_80) (fun _ => rfl)).view.read (Elt F)
        (View.write (Elt F) (aV).view fa ((iCh0 L k).view.read (Elt F) fi) Finset.univ) x).toNat < 1008 :=
    fun x => word_lt (aV) fa _ hw _ _ x
  have hw' : ∀ x, ((ReadAs.same.apply ((iCh0 L k).view.read (Elt F) fi) : S160.Idx → Elt F .i32) x).toNat < 1008 := hw
  have hin1' : ∀ x,
      (((aV).slice (Rect.unit (s := S160) ![0] S80.size inb_S160_S80_0) (fun _ => rfl)).view.read (Elt F)
        (View.write (Elt F) (aV).view fa (ReadAs.same.apply ((iCh0 L k).view.read (Elt F) fi)) Finset.univ) x).toNat < 1008 := hin1
  have hin2' : ∀ x,
      (((aV).slice (Rect.unit (s := S160) ![80] S80.size inb_S160_S80_80) (fun _ => rfl)).view.read (Elt F)
        (View.write (Elt F) (aV).view fa (ReadAs.same.apply ((iCh0 L k).view.read (Elt F) fi)) Finset.univ) x).toNat < 1008 := hin2
  unfold k0_t1_body
  iintro ⟨#Hmw, Hi, Hsh, Hsh', Ho, Ha, Hb, Hg, Hs4, Hs5, Hs1, Hs2, HO⟩
  set_option sl_exec.stopBefore "k0_part2" in sl_exec
  ihave H := (rows0 d L tp (ReadAs.same.apply ((iCh0 L k).view.read (Elt F) fi)) _) $$ Hb
  ihave H' := H $$ []
  · ipureintro
    sl_unfold_run_names
    exact rows_ok (shV) (aV) (bV) tp fa fb (ReadAs.same.apply ((iCh0 L k).view.read (Elt F) fi)) hw' _ _ _ _ _ _ rfl rfl hin1' hin2' _ _
  icases H' with ⟨%fR, %hR, Hb⟩
  sl_exec
  sl_step
  isplitl [Hi]; · iexact Hi
  isplitl [Hsh]; · iexact Hsh
  isplitl [Hsh']; · iexact Hsh'
  isplitl [Ho]
  · ihave H := (out0 d L k fi tp fo fg hfg _) $$ Ho
    iapply H
    ipureintro
    refine ⟨_, rfl, rfl, ?_⟩
    iterate 159
      refine List.forall_mem_cons.mpr ⟨fun x => ?_, ?_⟩
      · sl_unfold_run_names
        exact lane_ok (bV) tp _ fg fR hR _ _ _ (by decide) (by decide) (by decide) _ (by decide) _ _ x
    refine List.forall_mem_cons.mpr ⟨fun x => ?_, fun p hp => absurd hp List.not_mem_nil⟩
    sl_unfold_run_names
    exact piece_ok (shV) (aV) (bV) tp fa (ReadAs.same.apply ((iCh0 L k).view.read (Elt F) fi)) hw' fg _ _ _
      (by decide) (by decide) (by decide) _ _ _ _ _ _ rfl rfl hin1' hin2' _ _ _ (by decide) _ _ x
  isplitl [Ha]; · iexists _; iexact Ha
  isplitl [Hb]; · iexists _; iexact Hb
  isplitl [Hg]
  · ihave H := (keep0 d L fg hfg _) $$ Hg
    iapply H
    ipureintro
    rfl
  isplitl [Hs4]; · iexact Hs4
  isplitl [Hs5]; · iexact Hs5
  isplitl [Hs1]; · iexact Hs1
  isplitl [Hs2]; · iexact Hs2
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof
-- ==== Proof.Tile0.lean ====
/-
  A tile's whole task in the first SparseCore call.
-/
module

public import proofs.«01_k».proof.Proof.Bar
public import proofs.«01_k».proof.Proof.Trip0

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ
local notation "tV" => (Memref.whole main_v0_scv : Memref sig Kind.scVector Space.hbm S1008x128 EltTy.f32)
local notation "iV" => (Memref.whole main_v2_scv : Memref sig Kind.scVector Space.hbm S20480 EltTy.i32)
local notation "oV" => (Memref.whole main_v3_scv : Memref sig Kind.scVector Space.hbm S1024x384 EltTy.f32)
local notation "aV" => (Memref.whole cc0_scratch0 : Memref sig Kind.scVector Space.vmem S160 EltTy.i32)
local notation "bV" => (Memref.whole cc0_scratch1 : Memref sig Kind.scVector Space.vmem S160x128 EltTy.f32)
local notation "gV" => (Memref.whole cc0_scratch2 : Memref sig Kind.scVector Space.vmem S8x384 EltTy.f32)
local notation "shV" => (Memref.whole cc0_scratch3 : Memref sig Kind.scVector Space.shared S1008x128 EltTy.f32)

variable (I : Inp F)

/-! ## What a tile is handed and hands back -/

/-- The padded table in HBM. -/
abbrev tLoc (d : Dev nD) : Loc nD τ sig := (SparseCore.T d).loc main_v0
/-- The half of the full share SparseCore `c` reads it at. -/
abbrev hs (c : Fin τ.nSC) : PosShare TreeShare := ShareLeaves.leaf 1 fullShare c

/-- Tile 0's read share of the table in HBM; the others' nothing. -/
def tabHbm (d : Dev nD) (c : Fin τ.nSC) (i : Fin τ.nSub) : sProp 𝕄 :=
  if i.val = 0 then iprop(tLoc d ↦{hs c} I.tp d) else iprop(emp)
/-- Tile 0's the SparseCore's scratch of the first call; the others' nothing. -/
def scr0 (d : Dev nD) (c : Fin τ.nSC) (i : Fin τ.nSub) : sProp 𝕄 :=
  if i.val = 0 then iprop(∃ f, shLoc0 d c ↦{fullShare} f) else iprop(emp)

instance tabHbm_storable (d : Dev nD) (c : Fin τ.nSC) (i : Fin τ.nSub) : BI.Storable (upEmb : UEmb _ 𝕄) (tabHbm I d c i) := by
  unfold tabHbm; split <;> infer_instance
instance scr0_storable (d : Dev nD) (c : Fin τ.nSC) (i : Fin τ.nSub) : BI.Storable (upEmb : UEmb _ 𝕄) (scr0 (F := F) d c i) := by
  unfold scr0; split <;> infer_instance

/-- A chunk of a tile's work: its words of the index list, and its rows of the result at `f`. -/
def chunk0 (d : Dev nD) (L : grid0.Coords) (f : S1024x384.Idx → Elt F .f32) (k : Fin k0_t1_loop.trips) : sProp 𝕄 :=
  iprop(((iCh0 L k).view.loc (V d (cV0 L) (jV0 L)) ↦[(iCh0 L k).view.set]{fullShare} I.f2 d)
    ∗ ((oCh0 L k).view.loc (V d (cV0 L) (jV0 L)) ↦[(oCh0 L k).view.set]{fullShare} f))

instance chunk0_storable (d : Dev nD) (L : grid0.Coords) (f : S1024x384.Idx → Elt F .f32) (k : Fin k0_t1_loop.trips) :
    BI.Storable (upEmb : UEmb _ 𝕄) (chunk0 I d L f k) := by
  unfold chunk0; infer_instance

/-- The first result. -/
abbrev res0 (d : Dev nD) : S1024x384.Idx → Elt F .f32 := gat 1024 20480 (I.tp d) (I.f2 d)

/-! ## The table's copy -/

theorem tab0 (d : Dev nD) (L : grid0.Coords) (f : Buf (Elt F) ((shV).view.loc (V d (cV0 L) (jV0 L)))) :
    ((shV).view.loc (V d (cV0 L) (jV0 L)) ↦{fullShare} View.write (Elt F) (shV).view f
        (ReadAs.same.apply (View.read (Elt F) (tV).view (I.tp d))) Finset.univ : sProp 𝕄) ⊢ tabPts I d (cV0 L) 0 fullShare := by
  unfold tabPts
  rw [if_pos rfl]
  refine Entails.of_eq (pointsTo_congr (ℓ := shLoc0 d (cV0 L)) fun x _ => ?_)
  exact congrFun (View.read_write_univ (v := (shV).view) (f := f) (View.read (Elt F) (tV).view (I.tp d))) x

/-! ## The zeros past lane 320 -/

/-- The `n`-th of the 32 boxes set to zero before the loop. -/
def zboxOf (n : ℕ) (h : n < 32) : Rect S8x384 := Rect.unit (s := S8x384) ![n / 4, 320 + 16 * (n % 4)] S1x16.size (by
  intro a
  match a with
  | 0 => simp; omega
  | 1 => simp; omega)

def zboxes : (n : ℕ) → n ≤ 32 → List (Rect S8x384)
  | 0, _ => []
  | n + 1, h => zboxOf n h :: zboxes n (Nat.le_of_succ_le h)

theorem mem_zboxes : ∀ (n : ℕ) (hn : n ≤ 32) (m : ℕ) (hm : m < n), zboxOf m (lt_of_lt_of_le hm hn) ∈ zboxes n hn
  | n + 1, hn, m, hm => by
    rcases Nat.lt_succ_iff_lt_or_eq.mp hm with h | h
    · exact List.mem_cons_of_mem _ (mem_zboxes n (Nat.le_of_succ_le hn) m h)
    · subst h
      exact List.mem_cons_self

/-- After the 32 stores of zeros the compacting buffer holds zeros past lane 320. -/
theorem zeros_ok (g : Memref sig .scVector .vmem S8x384 .f32) (fg : g.view.ty.Contents (Elt F)) (P : List (View.Piece (Elt F) S8x384 .f32))
    (hP : P.map (fun p => p.1) = zboxes 32 le_rfl) (hz : ∀ p ∈ P, ∀ x : p.1.shape.Idx, p.2 x = fz) (y : S8x384.Idx) (hy : 320 ≤ (y 1).val) :
    g.view.read (Elt F) (g.view.writes (Elt F) fg P) y = fz := by
  have hy0 : (y 0).val < 8 := (y 0).isLt
  have hy1 : (y 1).val < 384 := (y 1).isLt
  refine View.read_writes_apply_of_pieces (G := fun _ => fz) _ _ P hz y ?_
  have hm := mem_zboxes 32 le_rfl (4 * (y 0).val + ((y 1).val - 320) / 16) (by omega)
  rw [← hP] at hm
  obtain ⟨p, hp, he⟩ := List.mem_map.mp hm
  refine ⟨p, hp, ?_⟩
  rw [he]
  unfold zboxOf
  rw [Rect.mem_set_unit]
  intro a
  match a with
  | 0 => simp; omega
  | 1 => simp; omega

theorem zeros0 (d : Dev nD) (L : grid0.Coords) (fg : Buf (Elt F) ((gV).view.loc (V d (cV0 L) (jV0 L)))) (P : List (View.Piece (Elt F) S8x384 .f32)) :
    ((gV).view.loc (V d (cV0 L) (jV0 L)) ↦{fullShare} ((gV).view.writes (Elt F) fg P) : sProp 𝕄)
      ⊢ iprop(⌜P.map (fun p => p.1) = zboxes 32 le_rfl ∧ ∀ p ∈ P, ∀ x : p.1.shape.Idx, p.2 x = fz⌝
          -∗ ∃ fg', ⌜∀ y : S8x384.Idx, 320 ≤ (y 1).val → fg' y = fz⌝ ∗ (gV).view.loc (V d (cV0 L) (jV0 L)) ↦{fullShare} fg') := by
  iintro H %hP
  iexists _
  isplitr
  swap; · iexact H
  ipureintro
  exact zeros_ok (gV) fg P hP.1 hP.2

theorem tabHbm_zero (d : Dev nD) (L : grid0.Coords) (h : (L 1).val = 0) :
    (tabHbm I d (cV0 L) (jV0 L) : sProp 𝕄) = ((tV).view.loc (V d (cV0 L) (jV0 L)) ↦{hs (cV0 L)} I.tp d) := if_pos h
theorem scr0_zero (d : Dev nD) (L : grid0.Coords) (h : (L 1).val = 0) :
    (scr0 d (cV0 L) (jV0 L) : sProp 𝕄) = iprop(∃ f, (shV).view.loc (V d (cV0 L) (jV0 L)) ↦{fullShare} f) := if_pos h

theorem isZero (j : Fin 16) :
    (Scalar.cmpi .ne (Scalar.extui (Scalar.cmpi .eq (BitVec.ofNat 32 j.val) 0#32) : BitVec 32) 0#32 = 1#1) ↔ j.val = 0 := by
  revert j; decide +kernel

/-- The recorded waits, one more or none, forgotten but for their index. -/
theorem owes_more (thr : Thread nD τ) (O : CellTallies nD τ sig (HIx 2)) (W : Waits sig (HIx 2)) (s : SemLoc sig) :
    (owes thr O (insert (s, (default : HIx 2)) W) : sProp 𝕄) ⊢ iprop(∃ W', ⌜∀ p ∈ W', p ∈ W ∨ p.2 = none⌝ ∗ owes thr O W') := by
  iintro HO
  iexists _; isplitr
  swap; · iexact HO
  ipureintro; intro p hp
  rcases Finset.mem_insert.mp hp with hp | hp
  · exact .inr (hp ▸ rfl)
  · exact .inl hp
theorem owes_same (thr : Thread nD τ) (O : CellTallies nD τ sig (HIx 2)) (W : Waits sig (HIx 2)) :
    (owes thr O W : sProp 𝕄) ⊢ iprop(∃ W', ⌜∀ p ∈ W', p ∈ W ∨ p.2 = none⌝ ∗ owes thr O W') := by
  iintro HO
  iexists _; isplitr
  swap; · iexact HO
  ipureintro; exact fun p hp => .inl hp

/-! ## The tile's own cells and buffers -/

abbrev dc (d : Dev nD) (L : grid0.Coords) (s : DmaSem sig) : GSem nD τ sig := (V d (cV0 L) (jV0 L), .dma s)

theorem ownSems0_V0 (d : Dev nD) (L : grid0.Coords) :
    (ownSems0 (V d (cV0 L) (jV0 L)) : sProp 𝕄)
      = iprop(semVal (dc d L cc0_scratch4.sem) 0 ∗ semVal (dc d L cc0_scratch5.sem) 0 ∗ semVal (dc d L cc0_scoped0.sem) 0
          ∗ semVal (dc d L cc0_scoped1.sem) 0 ∗ semVal (dc d L cc0_scoped2.sem) 0
          ∗ bigSep ((((((ownCells (V d (cV0 L) (jV0 L))).erase (dc d L cc0_scratch4.sem)).erase (dc d L cc0_scratch5.sem)).erase (dc d L cc0_scoped0.sem)).erase
              (dc d L cc0_scoped1.sem)).erase (dc d L cc0_scoped2.sem)) fun g => semVal g 0) := by
  have hne : ∀ {s s' : DmaSem sig}, s ≠ s' → dc d L s ≠ dc d L s' := fun h e => h (SemLoc.dma.inj (Prod.mk.inj e).2)
  have hm : ∀ s : DmaSem sig, (SemLoc.dma s : SemLoc sig).isScoped .scVector = true → dc d L s ∈ ownCells (V d (cV0 L) (jV0 L)) :=
    fun s h => mem_ownCells.mpr ⟨rfl, h⟩
  unfold SparseCore.Cfg.ownSems0
  rw [SparseCore.bigSep_erase' (hm cc0_scratch4.sem (by decide)),
    SparseCore.bigSep_erase' (Finset.mem_erase.mpr ⟨hne (by decide), hm cc0_scratch5.sem (by decide)⟩),
    SparseCore.bigSep_erase' (Finset.mem_erase.mpr ⟨hne (by decide), Finset.mem_erase.mpr ⟨hne (by decide), hm cc0_scoped0.sem (by decide)⟩⟩),
    SparseCore.bigSep_erase' (Finset.mem_erase.mpr ⟨hne (by decide), Finset.mem_erase.mpr ⟨hne (by decide), Finset.mem_erase.mpr ⟨hne (by decide),
      hm cc0_scoped1.sem (by decide)⟩⟩⟩),
    SparseCore.bigSep_erase' (Finset.mem_erase.mpr ⟨hne (by decide), Finset.mem_erase.mpr ⟨hne (by decide), Finset.mem_erase.mpr ⟨hne (by decide),
      Finset.mem_erase.mpr ⟨hne (by decide), hm cc0_scoped2.sem (by decide)⟩⟩⟩⟩)]

abbrev dr (L : grid0.Coords) (b : Ref sig .scVector) : DevRef τ sig := (Proc.scVector (cV0 L) (jV0 L)).devRef b

theorem scratch10_0 : (cc0_scratch1 : Ref sig .scVector) ≠ cc0_scratch0 := by decide
theorem scratch20_0 : (cc0_scratch2 : Ref sig .scVector) ≠ cc0_scratch0 := by decide
theorem scratch21_0 : (cc0_scratch2 : Ref sig .scVector) ≠ cc0_scratch1 := by decide
theorem ownBufs_V0 (d : Dev nD) (L : grid0.Coords) :
    (ownBufs (V d (cV0 L) (jV0 L)) : sProp 𝕄)
      = iprop((∃ f, (V d (cV0 L) (jV0 L)).loc cc0_scratch0 ↦{fullShare} f)
          ∗ (∃ f, (V d (cV0 L) (jV0 L)).loc cc0_scratch1 ↦{fullShare} f)
          ∗ (∃ f, (V d (cV0 L) (jV0 L)).loc cc0_scratch2 ↦{fullShare} f)
          ∗ bigSep ((((ownRefs (τ := τ) (.scVector (cV0 L) (jV0 L))).erase (dr L cc0_scratch0)).erase (dr L cc0_scratch1)).erase (dr L cc0_scratch2))
              fun b => iprop(∃ f, ((d, b) : Loc nD τ sig) ↦{fullShare} f)) := by
  have hm0 : dr L cc0_scratch0 ∈ ownRefs (τ := τ) (sig := sig) (.scVector (cV0 L) (jV0 L)) := SparseCore.Cfg.mem_ownRefs_of_owner rfl
  have hm1 : dr L cc0_scratch1 ∈ ownRefs (τ := τ) (sig := sig) (.scVector (cV0 L) (jV0 L)) := SparseCore.Cfg.mem_ownRefs_of_owner rfl
  have hm2 : dr L cc0_scratch2 ∈ ownRefs (τ := τ) (sig := sig) (.scVector (cV0 L) (jV0 L)) := SparseCore.Cfg.mem_ownRefs_of_owner rfl
  have hi : Function.Injective (Proc.devRef (sig := sig) (Proc.scVector (cV0 L) (jV0 L))) := Proc.devRef_injective _
  have h10 : dr L cc0_scratch1 ≠ dr L cc0_scratch0 := fun e => absurd (hi e) scratch10_0
  have h20 : dr L cc0_scratch2 ≠ dr L cc0_scratch0 := fun e => absurd (hi e) scratch20_0
  have h21 : dr L cc0_scratch2 ≠ dr L cc0_scratch1 := fun e => absurd (hi e) scratch21_0
  unfold SparseCore.Cfg.ownBufs
  rw [SparseCore.bigSep_erase' hm0, SparseCore.bigSep_erase' (Finset.mem_erase.mpr ⟨h10, hm1⟩),
    SparseCore.bigSep_erase' (Finset.mem_erase.mpr ⟨h21, Finset.mem_erase.mpr ⟨h20, hm2⟩⟩)]

/-! ## The loop -/

/-- What chunk `j` of the result holds before trip `k`. -/
def oAt0 (d : Dev nD) (k : ℕ) (j : Fin k0_t1_loop.trips) : S1024x384.Idx → Elt F .f32 := if j.val < k then res0 I d else I.f3 d

/-- Before trip `k`: the first `k` chunks written, the others not. -/
def inv0 (d : Dev nD) (L : grid0.Coords) (O : CellTallies nD τ sig (HIx 2)) (W : Waits sig (HIx 2)) (k : ℕ) (_ : PUnit) : sProp 𝕄 :=
  iprop((Transfers.MayWaits (V d (cV0 L) (jV0 L)) (default : HIx 2) O : sProp 𝕄)
    ∗ (bigSep Finset.univ fun j : Fin k0_t1_loop.trips => chunk0 I d L (oAt0 I d k j) j)
    ∗ ((shV).view.loc (V d (cV0 L) (jV0 L)) ↦{(lf (jV0 L)).left} I.tp d)
    ∗ ((shV).view.loc (V d (cV0 L) (jV0 L)) ↦{(lf (jV0 L)).right} I.tp d)
    ∗ (∃ fa, (aV).view.loc (V d (cV0 L) (jV0 L)) ↦{fullShare} fa)
    ∗ (∃ fb, (bV).view.loc (V d (cV0 L) (jV0 L)) ↦{fullShare} fb)
    ∗ (∃ fg, ⌜∀ y : S8x384.Idx, 320 ≤ (y 1).val → fg y = fz⌝ ∗ (gV).view.loc (V d (cV0 L) (jV0 L)) ↦{fullShare} fg)
    ∗ semVal (V d (cV0 L) (jV0 L), .dma cc0_scratch4.sem) 0 ∗ semVal (V d (cV0 L) (jV0 L), .dma cc0_scratch5.sem) 0
    ∗ semVal (V d (cV0 L) (jV0 L), .dma cc0_scoped1.sem) 0 ∗ semVal (V d (cV0 L) (jV0 L), .dma cc0_scoped2.sem) 0
    ∗ ∃ W', ⌜∀ p ∈ W', p ∈ W ∨ p.2 = none⌝ ∗ owes (V d (cV0 L) (jV0 L)) O W')

theorem chunks_step0 (d : Dev nD) (L : grid0.Coords) (k : Fin k0_t1_loop.trips) :
    (bigSep Finset.univ fun j : Fin k0_t1_loop.trips => chunk0 I d L (oAt0 I d k.val j) j)
      ⊢ iprop(chunk0 I d L (I.f3 d) k ∗ (chunk0 I d L (res0 I d) k
        -∗ bigSep Finset.univ fun j : Fin k0_t1_loop.trips => chunk0 I d L (oAt0 I d (k.val + 1) j) j)) := by
  rw [SparseCore.bigSep_erase' (Finset.mem_univ k), SparseCore.bigSep_erase' (Finset.mem_univ k) (Φ := fun j : Fin k0_t1_loop.trips => chunk0 I d L (oAt0 I d (k.val + 1) j) j),
    show oAt0 I d k.val k = I.f3 d from if_neg (lt_irrefl _), show oAt0 I d (k.val + 1) k = res0 I d from if_pos (Nat.lt_succ_self _),
    show (bigSep (Finset.univ.erase k) fun j : Fin k0_t1_loop.trips => chunk0 I d L (oAt0 I d (k.val + 1) j) j)
      = bigSep (Finset.univ.erase k) fun j : Fin k0_t1_loop.trips => chunk0 I d L (oAt0 I d k.val j) j from bigSep_congr fun j hj => by
        have hne : j.val ≠ k.val := fun e => (Finset.mem_erase.mp hj).1 (Fin.ext e)
        have : oAt0 I d (k.val + 1) j = oAt0 I d k.val j := by
          unfold oAt0
          by_cases h : j.val < k.val
          · rw [if_pos h, if_pos (by omega)]
          · rw [if_neg h, if_neg (by omega)]
        rw [this]]
  iintro ⟨Hk, Hr⟩
  isplitl [Hk]; · iexact Hk
  iintro Hk
  isplitl [Hk] <;> iassumption

/-- One trip keeps the invariant. -/
theorem step0 (d : Dev nD) (L : grid0.Coords) (O : CellTallies nD τ sig (HIx 2)) (W : Waits sig (HIx 2)) (v2 v19 : BitVec 32) (k : Fin k0_t1_loop.trips) (u : PUnit) :
    inv0 I d L O W k.val u ⊢ wp frame (wpE (defs₀ (F := F)) 𝒱₀ (V d (cV0 L) (jV0 L)) none) Set.univ
          (k0_t1_body L tV (Memref.isWhole_whole _) iV (Memref.isWhole_whole _) oV (Memref.isWhole_whole _) aV (Memref.isWhole_whole _) bV (Memref.isWhole_whole _)
            gV (Memref.isWhole_whole _) shV (Memref.isWhole_whole _) cc0_scratch4 cc0_scratch5 cc0_scoped0 cc0_scoped1 cc0_scoped2 v2 v19 k u)
          fun u' => inv0 I d L O W (k.val + 1) u' := by
  unfold inv0
  iintro ⟨#Hmw, Hch, Hs, Hs', ⟨%fa, Ha⟩, ⟨%fb, Hb⟩, ⟨%fg, %hfg, Hg⟩, H4, H5, H1, H2, %W', %hW', HO⟩
  ihave Hch' := (chunks_step0 I d L k) $$ Hch
  icases Hch' with ⟨Hk, Hback⟩
  unfold chunk0
  icases Hk with ⟨Hi, Ho⟩
  ihave Hwp := (trip0 d L k v2 v19 (lf (jV0 L)).left (lf (jV0 L)).right O W' (I.f2 d) (I.tp d) (I.f3 d) fa fb fg (I.h2 d) hfg) $$ [Hi Hs Hs' Ho Ha Hb Hg H4 H5 H1 H2 HO]
  · isplitr; · iexact Hmw
    isplitl [Hi]; · iexact Hi
    isplitl [Hs]; · iexact Hs
    isplitl [Hs']; · iexact Hs'
    isplitl [Ho]; · iexact Ho
    isplitl [Ha]; · iexact Ha
    isplitl [Hb]; · iexact Hb
    isplitl [Hg]; · iexact Hg
    isplitl [H4]; · iexact H4
    isplitl [H5]; · iexact H5
    isplitl [H1]; · iexact H1
    isplitl [H2]; · iexact H2
    iexact HO
  iapply (wp_wand) $$ Hwp
  iintro %u' ⟨Hi, Hs, Hs', Ho, Ha, Hb, Hg, H4, H5, H1, H2, %W'', %hW'', HO⟩
  isplitr; · iexact Hmw
  isplitl [Hback Hi Ho]
  · iapply Hback
    isplitl [Hi] <;> iassumption
  isplitl [Hs]; · iexact Hs
  isplitl [Hs']; · iexact Hs'
  isplitl [Ha]; · iexact Ha
  isplitl [Hb]; · iexact Hb
  isplitl [Hg]; · iexact Hg
  isplitl [H4]; · iexact H4
  isplitl [H5]; · iexact H5
  isplitl [H1]; · iexact H1
  isplitl [H2]; · iexact H2
  iexists W''; isplitr
  swap; · iexact HO
  ipureintro; intro p hp
  rcases hW'' p hp with h | h
  · exact hW' p h
  · exact .inr h

/-! ## The task -/

/-- What the task of tile `L` is handed, -/
def go0 (d : Dev nD) (L : grid0.Coords) : sProp 𝕄 :=
  iprop(tabHbm I d (cV0 L) (jV0 L) ∗ scr0 d (cV0 L) (jV0 L) ∗ bigSep Finset.univ fun j : Fin k0_t1_loop.trips => chunk0 I d L (I.f3 d) j)
/-- and hands back. -/
def td0 (d : Dev nD) (L : grid0.Coords) : sProp 𝕄 :=
  iprop(tabHbm I d (cV0 L) (jV0 L) ∗ tabPts I d (cV0 L) 0 (lf (jV0 L)) ∗ (bigSep Finset.univ fun j : Fin k0_t1_loop.trips => chunk0 I d L (res0 I d) j)
    ∗ reached (EB (F := F)) (bcell d (cV0 L) (jV0 L)) 1 ∗ atPos (EB (F := F)) (bcell d (cV0 L) (jV0 L)) 1 ∅ 0)

instance go0_storable (d : Dev nD) (L : grid0.Coords) : BI.Storable (upEmb : UEmb _ 𝕄) (go0 I d L) := by unfold go0; infer_instance
instance td0_storable (d : Dev nD) (L : grid0.Coords) : BI.Storable (upEmb : UEmb _ 𝕄) (td0 I d L) := by unfold td0; infer_instance

theorem halves0 (d : Dev nD) (L : grid0.Coords) : (tabPts I d (cV0 L) 0 (lf (jV0 L)) : sProp 𝕄)
    = iprop(((shV).view.loc (V d (cV0 L) (jV0 L)) ↦{(lf (jV0 L)).left} I.tp d) ∗ ((shV).view.loc (V d (cV0 L) (jV0 L)) ↦{(lf (jV0 L)).right} I.tp d)) := by
  unfold tabPts
  rw [if_pos rfl]
  exact BI.Entails.antisymm (pointsTo_share (ℓ := shLoc0 d (cV0 L)) (PosShare.mem_left_op_right _)).1 (pointsTo_share (ℓ := shLoc0 d (cV0 L)) (PosShare.mem_left_op_right _)).2

theorem oAt0_start (d : Dev nD) (j : Fin k0_t1_loop.trips) : oAt0 I d 0 j = I.f3 d := if_neg (Nat.not_lt_zero _)
theorem oAt0_end (d : Dev nD) (j : Fin k0_t1_loop.trips) : oAt0 I d k0_t1_loop.trips j = res0 I d := if_pos j.isLt
theorem chunks_end0 (d : Dev nD) (L : grid0.Coords) : (bigSep Finset.univ fun j : Fin k0_t1_loop.trips => chunk0 I d L (oAt0 I d k0_t1_loop.trips j) j)
    ⊢ bigSep Finset.univ fun j : Fin k0_t1_loop.trips => chunk0 I d L (res0 I d) j :=
  Entails.of_eq (bigSep_congr fun j _ => by rw [oAt0_end])

set_option maxHeartbeats 8000000 in
set_option maxRecDepth 65536 in
/-- The task of tile `L`: the table's copy (tile 0's), the barrier, the zeros, the loop. -/
theorem tile0 (d : Dev nD) (L : grid0.Coords) (O : CellTallies nD τ sig (HIx 2)) (W : Waits sig (HIx 2)) (hO : ∀ g, O g none = 0)
    (hOlev : ∀ g ι, 0 < O g ι → 8 * (0 : Fin 2).val + 6 ≤ (K (F := F)).lev g ι) :
    iprop(levAts (K (F := F)).L (K (F := F)).lev ∗ (bkit I 0 d (cV0 L) (jV0 L) ∗ bpos 0 d (cV0 L) (jV0 L)) ∗ go0 I d L
        ∗ scopedBufs (V d (cV0 L) (jV0 L)) ∗ scopedSems0 (V d (cV0 L) (jV0 L)) ∗ owes (V d (cV0 L) (jV0 L)) (O + oxV 0 d (cV0 L)) W)
      ⊢ wp frame (wpE (defs₀ (F := F)) 𝒱₀ (V d (cV0 L) (jV0 L)) none) Set.univ
          (cc0_gather_kernel L tV (Memref.isWhole_whole _) iV (Memref.isWhole_whole _) oV (Memref.isWhole_whole _) aV (Memref.isWhole_whole _) bV (Memref.isWhole_whole _)
            gV (Memref.isWhole_whole _) shV (Memref.isWhole_whole _) cc0_scratch4 cc0_scratch5 cc0_scoped0 cc0_scoped1 cc0_scoped2)
          fun _ => iprop(td0 I d L ∗ scopedBufs (V d (cV0 L) (jV0 L)) ∗ scopedSems0 (V d (cV0 L) (jV0 L))
            ∗ ∃ W', ⌜∀ p ∈ W', p ∈ W ∨ p.2 = none ∨ p.2 = some (0 : Fin 2)⌝ ∗ owes (V d (cV0 L) (jV0 L)) O W') := by
  rw [(K (F := F)).scopedBufs_V facts d (cV0 L) (jV0 L), SparseCore.Cfg.scopedSems0_V (Val := Elt F) d (cV0 L) (jV0 L), ownSems0_V0, ownBufs_V0]
  unfold go0 td0
  iintro ⟨#Hlv, ⟨Hkit, Hpos⟩, ⟨Ht, Hscr, Hch⟩, ⟨⟨%fa, Ha⟩, ⟨%fb, Hb⟩, ⟨%fg, Hg⟩, Hbufs⟩, ⟨H4, H5, H0, H1, H2, Hsems⟩, HO⟩
  have hO' : ∀ g, (O + oxV 0 d (cV0 L)) g none = 0 := fun g => by rw [Pi.add_apply, Finsupp.add_apply, hO g, oxV_none]
  ihave #Hmw1 := (show levAts (K (F := F)).L (K (F := F)).lev ⊢ Transfers.MayWaits (V d (cV0 L) (jV0 L)) (default : HIx 2) (O + oxV 0 d (cV0 L)) from
    (K (F := F)).mayWaits_none (thr := V d (cV0 L) (jV0 L)) hO') $$ Hlv
  ihave #Hmw2 := (show levAts (K (F := F)).L (K (F := F)).lev ⊢ Transfers.MayWaits (V d (cV0 L) (jV0 L)) (default : HIx 2) O from
    (K (F := F)).mayWaits_none (thr := V d (cV0 L) (jV0 L)) hO) $$ Hlv
  ihave Ha' := (show ((V d (cV0 L) (jV0 L)).loc cc0_scratch0 ↦{fullShare} fa : sProp 𝕄) ⊢ (aV).view.loc (V d (cV0 L) (jV0 L)) ↦{fullShare} fa from Entails.of_eq rfl) $$ Ha
  ihave Hb' := (show ((V d (cV0 L) (jV0 L)).loc cc0_scratch1 ↦{fullShare} fb : sProp 𝕄) ⊢ (bV).view.loc (V d (cV0 L) (jV0 L)) ↦{fullShare} fb from Entails.of_eq rfl) $$ Hb
  ihave Hg' := (show ((V d (cV0 L) (jV0 L)).loc cc0_scratch2 ↦{fullShare} fg : sProp 𝕄) ⊢ (gV).view.loc (V d (cV0 L) (jV0 L)) ↦{fullShare} fg from Entails.of_eq rfl) $$ Hg
  rw [cc0_gather_kernel_eq_skeleton]
  unfold cc0_gather_kernel_skel
  by_cases h : (L 1).val = 0
  on_goal 1 =>
    have k0_h1 := (isZero (L 1)).mpr h
    ihave Ht' := (Entails.of_eq (tabHbm_zero I d L h)) $$ Ht
    ihave Hs := (Entails.of_eq (scr0_zero d L h)) $$ Hscr
    icases Hs with ⟨%f, Hs'⟩
    sl_exec
    ihave Hp := (tab0 I d L f) $$ [Hs']
    · sl_unfold_run_names; iexact Hs'
    ihave Hpays := (show (tabPts I d (cV0 L) 0 fullShare : sProp 𝕄) ⊢ (bigSep Finset.univ fun j : Fin τ.nSub => (bRd I).payload (bcell d (cV0 L) j) (0 : Fin 2).val (jV0 L).val) from
      pays_at I d (cV0 L) (0 : Fin 2).val (jV0 L).val h) $$ Hp
    ihave Ht := (Entails.of_eq (tabHbm_zero I d L h).symm) $$ Ht'
    ihave HO := (owes_more _ _ _ _) $$ HO
    icases HO with ⟨%W1, %hW1, HO⟩
  on_goal 2 =>
    have k0_h1 := mt (isZero (L 1)).mp h
    sl_exec
    ihave Hpays := (pays_other I d (cV0 L) (0 : Fin 2).val (jV0 L).val h) $$ []
    · iempintro
    ihave HO := (owes_same _ _ _) $$ HO
    icases HO with ⟨%W1, %hW1, HO⟩
  all_goals
    iapply (wp_bar I 0 d (cV0 L) (jV0 L) (grid0.bound 1) hsub0 (L 1) rfl rfl O W1 hOlev) $$ [Hkit Hpos Hpays HO]
    · isplitr; · iexact Hlv
      isplitl [Hkit]; · iexact Hkit
      isplitl [Hpos]; · iexact Hpos
      isplitl [Hpays]; · iexact Hpays
      iexact HO
    iintro ⟨HO, Hat, Hr, Htab, -⟩
    sl_exec
    ihave Hz := (zeros0 d L fg _) $$ Hg'
    ihave Hz' := Hz $$ []
    · ipureintro
      refine ⟨rfl, ?_⟩
      iterate 32
        refine List.forall_mem_cons.mpr ⟨fun x => ?_, ?_⟩
        · sl_unfold_run_names
          rfl
      exact fun p hp => absurd hp List.not_mem_nil
    icases Hz' with ⟨%fg', %hfg', Hg⟩
    ihave Hh := (show (tabPts I d (cV0 L) (0 : Fin 2).val (lf (jV0 L)) : sProp 𝕄) ⊢ _ from Entails.of_eq (halves0 I d L)) $$ Htab
    icases Hh with ⟨Hs1, Hs2⟩
    sl_for (inv0 I d L O (insert (SemLoc.reg sc_bar0, some (0 : Fin 2)) W1)) $$ [Hch Hs1 Hs2 Ha' Hb' Hg H4 H5 H1 H2 HO]
    case region =>
      intro k u
      exact step0 I d L O _ _ _ k u
    · unfold inv0
      isplitr; · iexact Hmw2
      isplitl [Hch]
      · iapply (Entails.of_eq (bigSep_congr fun j _ => by rw [show oAt0 I d 0 j = I.f3 d from if_neg (Nat.not_lt_zero _)]))
        iexact Hch
      isplitl [Hs1]; · iexact Hs1
      isplitl [Hs2]; · iexact Hs2
      isplitl [Ha']; · iexists _; iexact Ha'
      isplitl [Hb']; · iexists _; iexact Hb'
      isplitl [Hg]
      · iexists fg'; isplitr
        · ipureintro; exact hfg'
        · iexact Hg
      isplitl [H4]; · iexact H4
      isplitl [H5]; · iexact H5
      isplitl [H1]; · iexact H1
      isplitl [H2]; · iexact H2
      iexists _; isplitr
      swap; · iexact HO
      ipureintro; exact fun p hp => .inl hp
    iintro %_ HI
    unfold inv0
    icases HI with ⟨-, Hch, Hs1, Hs2, ⟨%fa', Ha⟩, ⟨%fb', Hb⟩, ⟨%fg'', -, Hg⟩, H4, H5, H1, H2, %W2, %hW2, HO⟩
    sl_exec
    sl_step
    isplitl [Ht Hs1 Hs2 Hch Hr Hat]
    · isplitl [Ht]; · iexact Ht
      isplitl [Hs1 Hs2]
      · iapply (Entails.of_eq (halves0 I d L).symm)
        isplitl [Hs1] <;> iassumption
      isplitl [Hch]
      · iapply (chunks_end0 I d L)
        iexact Hch
      isplitl [Hr]; · iexact Hr
      iexact Hat
    isplitl [Ha Hb Hg Hbufs]
    · isplitl [Ha]; · iexists _; iexact Ha
      isplitl [Hb]; · iexists _; iexact Hb
      isplitl [Hg]; · iexists _; iexact Hg
      iexact Hbufs
    isplitl [H4 H5 H0 H1 H2 Hsems]
    · isplitl [H4]; · iexact H4
      isplitl [H5]; · iexact H5
      isplitl [H0]; · iexact H0
      isplitl [H1]; · iexact H1
      isplitl [H2]; · iexact H2
      iexact Hsems
    iexists W2; isplitr
    swap; · iexact HO
    ipureintro; intro p hp
    rcases hW2 p hp with hp | hp
    · rcases Finset.mem_insert.mp hp with hp | hp
      · exact .inr (.inr (hp ▸ rfl))
      · rcases hW1 p hp with hp | hp
        · exact .inl hp
        · exact .inr (.inl hp)
    · exact .inr (.inl hp)

end Cert.Proof
-- ==== Proof.Out1.lean ====
/-
  What a trip of a tile's loop in the second SparseCore call reads and writes.
-/
module

public import proofs.«01_k».proof.Proof.Comp

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

abbrev cV1 (L : grid1.Coords) : Fin τ.nSC := (L 0).castLE hcore1
abbrev jV1 (L : grid1.Coords) : Fin τ.nSub := (L 1).castLE hsub1

local notation "tV" => (Memref.whole main_v0_scv : Memref sig Kind.scVector Space.hbm S1008x128 EltTy.f32)
local notation "iV" => (Memref.whole main_v5_scv : Memref sig Kind.scVector Space.hbm S61440 EltTy.i32)
local notation "oV" => (Memref.whole main_v6_scv : Memref sig Kind.scVector Space.hbm S3072x384 EltTy.f32)
local notation "aV" => (Memref.whole cc1_scratch0 : Memref sig Kind.scVector Space.vmem S160 EltTy.i32)
local notation "bV" => (Memref.whole cc1_scratch1 : Memref sig Kind.scVector Space.vmem S160x128 EltTy.f32)
local notation "gV" => (Memref.whole cc1_scratch2 : Memref sig Kind.scVector Space.vmem S8x384 EltTy.f32)
local notation "shV" => (Memref.whole cc1_scratch3 : Memref sig Kind.scVector Space.shared S1008x128 EltTy.f32)

/-- The rows of the result a trip fills, and the words of the index list it reads. -/
abbrev oCh1 (L : grid1.Coords) (k : Fin k1_t1_loop.trips) : Memref sig .scVector .hbm S8x384 .f32 :=
  (oV).slice (Rect.unit (s := S3072x384) (k1_off2 L k) S8x384.size (k1_off2_inb L k)) (fun _ => rfl)
abbrev iCh1 (L : grid1.Coords) (k : Fin k1_t1_loop.trips) : Memref sig .scVector .hbm S160 .i32 :=
  (iV).slice (Rect.unit (s := S61440) (k1_off1 L k) S160.size (k1_off1_inb L k)) (fun _ => rfl)

theorem iCh1_word (d : Dev nD) (L : grid1.Coords) (k : Fin k1_t1_loop.trips) (fi : Buf (Elt F) ((iV).view.loc (V d (cV1 L) (jV1 L)))) (n : ℕ) (hn : n < 160) :
    (iCh1 L k).view.read (Elt F) fi (ixW n) = fi (ixN 61440 (20 * (192 * (L 1).val + 96 * (L 0).val + 8 * k.val) + n)) := by
  change fi ((Rect.unit (s := S61440) (k1_off1 L k) S160.size (k1_off1_inb L k)).emb (ixW n)) = _
  congr 1
  funext a
  refine Fin.ext ?_
  obtain rfl : a = 0 := Subsingleton.elim _ _
  have hi := k1_off1_inb L k 0
  simp only [k1_off1_eq, Matrix.cons_val_zero] at hi
  simp only [Rect.emb_apply, Rect.off_unit, Rect.stride_unit, k1_off1_eq, ixW_val, Matrix.cons_val_zero]
  change _ = (20 * (192 * (L 1).val + 96 * (L 0).val + 8 * k.val) + n) % 61440
  change _ + 160 ≤ 61440 at hi
  omega

theorem read_oCh1 (d : Dev nD) (L : grid1.Coords) (k : Fin k1_t1_loop.trips) (f : Buf (Elt F) ((oV).view.loc (V d (cV1 L) (jV1 L)))) (y : S8x384.Idx) :
    (oCh1 L k).view.read (Elt F) f y = f ((oCh1 L k).view.emb y) := rfl

/-- What the copy out leaves in a trip's rows of the result, once the stores are known to be the trip's. -/
theorem out1 (d : Dev nD) (L : grid1.Coords) (k : Fin k1_t1_loop.trips)
    (fi : Buf (Elt F) ((iV).view.loc (V d (cV1 L) (jV1 L)))) (tp : Buf (Elt F) ((shV).view.loc (V d (cV1 L) (jV1 L))))
    (fo : Buf (Elt F) ((oV).view.loc (V d (cV1 L) (jV1 L)))) (fg : Buf (Elt F) ((gV).view.loc (V d (cV1 L) (jV1 L))))
    (hfg : ∀ y : S8x384.Idx, 320 ≤ (y 1).val → fg y = fz) (x : S8x384.Idx → Elt F .f32) :
    ((oCh1 L k).view.loc (V d (cV1 L) (jV1 L)) ↦[(oCh1 L k).view.set]{fullShare} ((oCh1 L k).view.writes (Elt F) fo
        [⟨Rect.whole S8x384, x⟩]) : sProp 𝕄)
      ⊢ iprop(⌜∃ P, x = ReadAs.same.apply (View.read (Elt F) (gV).view ((gV).view.writes (Elt F) fg P))
            ∧ CompConds tp (ReadAs.same.apply ((iCh1 L k).view.read (Elt F) fi)) fg P⌝
          -∗ ((oCh1 L k).view.loc (V d (cV1 L) (jV1 L)) ↦[(oCh1 L k).view.set]{fullShare} (gat 3072 61440 tp fi))) := by
  iintro H %hP
  obtain ⟨P, hx, hP⟩ := hP
  have e : ∀ i ∈ (oCh1 L k).view.set, (oCh1 L k).view.writes (Elt F) fo
        [⟨Rect.whole S8x384, x⟩] i = gat 3072 61440 tp fi i := by
    intro i hi
    obtain ⟨y, -, rfl⟩ := Finset.mem_map.mp hi
    have h := congrFun (View.read_writes_whole (oCh1 L k).view fo x) y
    rw [read_oCh1 d] at h
    refine h.trans ?_
    rw [hx]
    refine (comp_ok (gV) fg tp _ P hP y).trans ?_
    refine gat_chunk 3072 61440 tp fi _ fg hfg (192 * (L 1).val + 96 * (L 0).val + 8 * k.val) (fun n hn => iCh1_word d L k fi n hn) y _ ?_ ?_
    · change (k1_off2 L k) 0 + 1 * (y 0).val = _
      rw [k1_off2_eq]
      simp
    · change (k1_off2 L k) 1 + 1 * (y 1).val = _
      rw [k1_off2_eq]
      simp
  iapply (Entails.of_eq (pointsTo_congr e))
  iexact H

/-- The compacting buffer after a trip still holds zeros past lane 320. -/
theorem keep1 (d : Dev nD) (L : grid1.Coords)
    (fg : Buf (Elt F) ((gV).view.loc (V d (cV1 L) (jV1 L))))
    (hfg : ∀ y : S8x384.Idx, 320 ≤ (y 1).val → fg y = fz) (P : List (View.Piece (Elt F) S8x384 .f32)) :
    ((gV).view.loc (V d (cV1 L) (jV1 L)) ↦{fullShare} ((gV).view.writes (Elt F) fg P) : sProp 𝕄)
      ⊢ iprop(⌜P.map (fun p => p.1) = boxes 160 le_rfl⌝
          -∗ ∃ fg', ⌜∀ y : S8x384.Idx, 320 ≤ (y 1).val → fg' y = fz⌝ ∗ (gV).view.loc (V d (cV1 L) (jV1 L)) ↦{fullShare} fg') := by
  iintro H %hP
  iexists _
  isplitr
  swap; · iexact H
  ipureintro
  exact comp_zero (gV) fg P hP hfg

/-- The gathered rows' buffer, named by what it holds. -/
theorem rows1 (d : Dev nD) (L : grid1.Coords) (tp : S1008x128.Idx → Elt F .f32) (w : S160.Idx → Elt F .i32)
    (f : Buf (Elt F) ((bV).view.loc (V d (cV1 L) (jV1 L)))) :
    ((bV).view.loc (V d (cV1 L) (jV1 L)) ↦{fullShare} f : sProp 𝕄)
      ⊢ iprop(⌜(bV).view.read (Elt F) f = rowsOf tp w⌝
        -∗ ∃ fR, ⌜(bV).view.read (Elt F) fR = rowsOf tp w⌝ ∗ (bV).view.loc (V d (cV1 L) (jV1 L)) ↦{fullShare} fR) := by
  iintro H %h
  iexists f
  isplitr; · ipureintro; exact h
  iexact H

end Cert.Proof
-- ==== Proof.Trip1.lean ====
/-
  One trip of a tile's loop in the second SparseCore call, with its values.
-/
module

public import proofs.«01_k».proof.Proof.Out1

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "tV" => (Memref.whole main_v0_scv : Memref sig Kind.scVector Space.hbm S1008x128 EltTy.f32)
local notation "iV" => (Memref.whole main_v5_scv : Memref sig Kind.scVector Space.hbm S61440 EltTy.i32)
local notation "oV" => (Memref.whole main_v6_scv : Memref sig Kind.scVector Space.hbm S3072x384 EltTy.f32)
local notation "aV" => (Memref.whole cc1_scratch0 : Memref sig Kind.scVector Space.vmem S160 EltTy.i32)
local notation "bV" => (Memref.whole cc1_scratch1 : Memref sig Kind.scVector Space.vmem S160x128 EltTy.f32)
local notation "gV" => (Memref.whole cc1_scratch2 : Memref sig Kind.scVector Space.vmem S8x384 EltTy.f32)
local notation "shV" => (Memref.whole cc1_scratch3 : Memref sig Kind.scVector Space.shared S1008x128 EltTy.f32)

set_option maxHeartbeats 20000000 in
set_option maxRecDepth 65536 in
/-- A trip: 160 words of the index list in, the table rows they name gathered, the rows' first 16 lanes laid side by side,
    eight rows out. -/
theorem trip1 (d : Dev nD) (L : grid1.Coords) (k : Fin k1_t1_loop.trips) (v2 v19 : BitVec 32) (qs qs' : PosShare TreeShare)
    (O : CellTallies nD τ sig (HIx 2)) (W : Waits sig (HIx 2))
    (fi : Buf (Elt F) ((iV).view.loc (V d (cV1 L) (jV1 L)))) (tp : Buf (Elt F) ((shV).view.loc (V d (cV1 L) (jV1 L))))
    (fo : Buf (Elt F) ((oV).view.loc (V d (cV1 L) (jV1 L)))) (fa : Buf (Elt F) ((aV).view.loc (V d (cV1 L) (jV1 L))))
    (fb : Buf (Elt F) ((bV).view.loc (V d (cV1 L) (jV1 L)))) (fg : Buf (Elt F) ((gV).view.loc (V d (cV1 L) (jV1 L))))
    (hin : ∀ x, (fi x).toNat < 1000) (hfg : ∀ y : S8x384.Idx, 320 ≤ (y 1).val → fg y = fz) :
    iprop((Transfers.MayWaits (V d (cV1 L) (jV1 L)) (default : HIx 2) O : sProp 𝕄)
        ∗ ((iCh1 L k).view.loc (V d (cV1 L) (jV1 L)) ↦[(iCh1 L k).view.set]{fullShare} fi)
        ∗ ((shV).view.loc (V d (cV1 L) (jV1 L)) ↦{qs} tp)
        ∗ ((shV).view.loc (V d (cV1 L) (jV1 L)) ↦{qs'} tp)
        ∗ ((oCh1 L k).view.loc (V d (cV1 L) (jV1 L)) ↦[(oCh1 L k).view.set]{fullShare} fo)
        ∗ ((aV).view.loc (V d (cV1 L) (jV1 L)) ↦{fullShare} fa)
        ∗ ((bV).view.loc (V d (cV1 L) (jV1 L)) ↦{fullShare} fb)
        ∗ ((gV).view.loc (V d (cV1 L) (jV1 L)) ↦{fullShare} fg)
        ∗ semVal (V d (cV1 L) (jV1 L), .dma cc1_scratch4.sem) 0 ∗ semVal (V d (cV1 L) (jV1 L), .dma cc1_scratch5.sem) 0
        ∗ semVal (V d (cV1 L) (jV1 L), .dma cc1_scoped1.sem) 0 ∗ semVal (V d (cV1 L) (jV1 L), .dma cc1_scoped2.sem) 0
        ∗ owes (V d (cV1 L) (jV1 L)) O W)
      ⊢ wp frame (wpE (defs₀ (F := F)) 𝒱₀ (V d (cV1 L) (jV1 L)) none) Set.univ
          (k1_t1_body L tV (Memref.isWhole_whole _) iV (Memref.isWhole_whole _) oV (Memref.isWhole_whole _) aV (Memref.isWhole_whole _) bV (Memref.isWhole_whole _)
            gV (Memref.isWhole_whole _) shV (Memref.isWhole_whole _) cc1_scratch4 cc1_scratch5 cc1_scoped0 cc1_scoped1 cc1_scoped2 v2 v19 k ())
          fun _ => iprop(((iCh1 L k).view.loc (V d (cV1 L) (jV1 L)) ↦[(iCh1 L k).view.set]{fullShare} fi)
        ∗ ((shV).view.loc (V d (cV1 L) (jV1 L)) ↦{qs} tp)
        ∗ ((shV).view.loc (V d (cV1 L) (jV1 L)) ↦{qs'} tp)
        ∗ ((oCh1 L k).view.loc (V d (cV1 L) (jV1 L)) ↦[(oCh1 L k).view.set]{fullShare} (gat 3072 61440 tp fi))
        ∗ (∃ fa', (aV).view.loc (V d (cV1 L) (jV1 L)) ↦{fullShare} fa')
        ∗ (∃ fb', (bV).view.loc (V d (cV1 L) (jV1 L)) ↦{fullShare} fb')
        ∗ (∃ fg', ⌜∀ y : S8x384.Idx, 320 ≤ (y 1).val → fg' y = fz⌝ ∗ (gV).view.loc (V d (cV1 L) (jV1 L)) ↦{fullShare} fg')
        ∗ semVal (V d (cV1 L) (jV1 L), .dma cc1_scratch4.sem) 0 ∗ semVal (V d (cV1 L) (jV1 L), .dma cc1_scratch5.sem) 0
        ∗ semVal (V d (cV1 L) (jV1 L), .dma cc1_scoped1.sem) 0 ∗ semVal (V d (cV1 L) (jV1 L), .dma cc1_scoped2.sem) 0
        ∗ ∃ W', ⌜∀ p ∈ W', p ∈ W ∨ p.2 = none⌝ ∗ owes (V d (cV1 L) (jV1 L)) O W') := by
  have hw : ∀ x, ((iCh1 L k).view.read (Elt F) fi x).toNat < 1008 := fun x => lt_trans (hin _) (by decide)
  have hin1 : ∀ x,
      (((aV).slice (Rect.unit (s := S160) ![0] S80.size inb_S160_S80_0) (fun _ => rfl)).view.read (Elt F)
        (View.write (Elt F) (aV).view fa ((iCh1 L k).view.read (Elt F) fi) Finset.univ) x).toNat < 1008 :=
    fun x => word_lt (aV) fa _ hw _ _ x
  have hin2 : ∀ x,
      (((aV).slice (Rect.unit (s := S160) ![80] S80.size inb_S160_S80_80) (fun _ => rfl)).view.read (Elt F)
        (View.write (Elt F) (aV).view fa ((iCh1 L k).view.read (Elt F) fi) Finset.univ) x).toNat < 1008 :=
    fun x => word_lt (aV) fa _ hw _ _ x
  have hw' : ∀ x, ((ReadAs.same.apply ((iCh1 L k).view.read (Elt F) fi) : S160.Idx → Elt F .i32) x).toNat < 1008 := hw
  have hin1' : ∀ x,
      (((aV).slice (Rect.unit (s := S160) ![0] S80.size inb_S160_S80_0) (fun _ => rfl)).view.read (Elt F)
        (View.write (Elt F) (aV).view fa (ReadAs.same.apply ((iCh1 L k).view.read (Elt F) fi)) Finset.univ) x).toNat < 1008 := hin1
  have hin2' : ∀ x,
      (((aV).slice (Rect.unit (s := S160) ![80] S80.size inb_S160_S80_80) (fun _ => rfl)).view.read (Elt F)
        (View.write (Elt F) (aV).view fa (ReadAs.same.apply ((iCh1 L k).view.read (Elt F) fi)) Finset.univ) x).toNat < 1008 := hin2
  unfold k1_t1_body
  iintro ⟨#Hmw, Hi, Hsh, Hsh', Ho, Ha, Hb, Hg, Hs4, Hs5, Hs1, Hs2, HO⟩
  set_option sl_exec.stopBefore "k1_part2" in sl_exec
  ihave H := (rows1 d L tp (ReadAs.same.apply ((iCh1 L k).view.read (Elt F) fi)) _) $$ Hb
  ihave H' := H $$ []
  · ipureintro
    sl_unfold_run_names
    exact rows_ok (shV) (aV) (bV) tp fa fb (ReadAs.same.apply ((iCh1 L k).view.read (Elt F) fi)) hw' _ _ _ _ _ _ rfl rfl hin1' hin2' _ _
  icases H' with ⟨%fR, %hR, Hb⟩
  sl_exec
  sl_step
  isplitl [Hi]; · iexact Hi
  isplitl [Hsh]; · iexact Hsh
  isplitl [Hsh']; · iexact Hsh'
  isplitl [Ho]
  · ihave H := (out1 d L k fi tp fo fg hfg _) $$ Ho
    iapply H
    ipureintro
    refine ⟨_, rfl, rfl, ?_⟩
    iterate 159
      refine List.forall_mem_cons.mpr ⟨fun x => ?_, ?_⟩
      · sl_unfold_run_names
        exact lane_ok (bV) tp _ fg fR hR _ _ _ (by decide) (by decide) (by decide) _ (by decide) _ _ x
    refine List.forall_mem_cons.mpr ⟨fun x => ?_, fun p hp => absurd hp List.not_mem_nil⟩
    sl_unfold_run_names
    exact piece_ok (shV) (aV) (bV) tp fa (ReadAs.same.apply ((iCh1 L k).view.read (Elt F) fi)) hw' fg _ _ _
      (by decide) (by decide) (by decide) _ _ _ _ _ _ rfl rfl hin1' hin2' _ _ _ (by decide) _ _ x
  isplitl [Ha]; · iexists _; iexact Ha
  isplitl [Hb]; · iexists _; iexact Hb
  isplitl [Hg]
  · ihave H := (keep1 d L fg hfg _) $$ Hg
    iapply H
    ipureintro
    rfl
  isplitl [Hs4]; · iexact Hs4
  isplitl [Hs5]; · iexact Hs5
  isplitl [Hs1]; · iexact Hs1
  isplitl [Hs2]; · iexact Hs2
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof
-- ==== Proof.Tile1.lean ====
/-
  A tile's whole task in the second SparseCore call.
-/
module

public import proofs.«01_k».proof.Proof.Tile0
public import proofs.«01_k».proof.Proof.Trip1

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ
local notation "tV" => (Memref.whole main_v0_scv : Memref sig Kind.scVector Space.hbm S1008x128 EltTy.f32)
local notation "iV" => (Memref.whole main_v5_scv : Memref sig Kind.scVector Space.hbm S61440 EltTy.i32)
local notation "oV" => (Memref.whole main_v6_scv : Memref sig Kind.scVector Space.hbm S3072x384 EltTy.f32)
local notation "aV" => (Memref.whole cc1_scratch0 : Memref sig Kind.scVector Space.vmem S160 EltTy.i32)
local notation "bV" => (Memref.whole cc1_scratch1 : Memref sig Kind.scVector Space.vmem S160x128 EltTy.f32)
local notation "gV" => (Memref.whole cc1_scratch2 : Memref sig Kind.scVector Space.vmem S8x384 EltTy.f32)
local notation "shV" => (Memref.whole cc1_scratch3 : Memref sig Kind.scVector Space.shared S1008x128 EltTy.f32)

variable (I : Inp F)

/-! ## What a tile is handed and hands back -/

/-- Tile 0's the SparseCore's scratch of the second call; the others' nothing. -/
def scr1 (d : Dev nD) (c : Fin τ.nSC) (i : Fin τ.nSub) : sProp 𝕄 :=
  if i.val = 0 then iprop(∃ f, shLoc1 d c ↦{fullShare} f) else iprop(emp)
instance scr1_storable (d : Dev nD) (c : Fin τ.nSC) (i : Fin τ.nSub) : BI.Storable (upEmb : UEmb _ 𝕄) (scr1 (F := F) d c i) := by
  unfold scr1; split <;> infer_instance

/-- A chunk of a tile's work: its words of the index list, and its rows of the result at `f`. -/
def chunk1 (d : Dev nD) (L : grid1.Coords) (f : S3072x384.Idx → Elt F .f32) (k : Fin k1_t1_loop.trips) : sProp 𝕄 :=
  iprop(((iCh1 L k).view.loc (V d (cV1 L) (jV1 L)) ↦[(iCh1 L k).view.set]{fullShare} I.f5 d)
    ∗ ((oCh1 L k).view.loc (V d (cV1 L) (jV1 L)) ↦[(oCh1 L k).view.set]{fullShare} f))

instance chunk1_storable (d : Dev nD) (L : grid1.Coords) (f : S3072x384.Idx → Elt F .f32) (k : Fin k1_t1_loop.trips) :
    BI.Storable (upEmb : UEmb _ 𝕄) (chunk1 I d L f k) := by
  unfold chunk1; infer_instance

/-- The first result. -/
abbrev res1 (d : Dev nD) : S3072x384.Idx → Elt F .f32 := gat 3072 61440 (I.tp d) (I.f5 d)

/-! ## The table's copy -/

theorem tab1 (d : Dev nD) (L : grid1.Coords) (f : Buf (Elt F) ((shV).view.loc (V d (cV1 L) (jV1 L)))) :
    ((shV).view.loc (V d (cV1 L) (jV1 L)) ↦{fullShare} View.write (Elt F) (shV).view f
        (ReadAs.same.apply (View.read (Elt F) (tV).view (I.tp d))) Finset.univ : sProp 𝕄) ⊢ tabPts I d (cV1 L) 1 fullShare := by
  unfold tabPts
  rw [if_neg Nat.one_ne_zero]
  refine Entails.of_eq (pointsTo_congr (ℓ := shLoc1 d (cV1 L)) fun x _ => ?_)
  exact congrFun (View.read_write_univ (v := (shV).view) (f := f) (View.read (Elt F) (tV).view (I.tp d))) x

/-! ## The zeros past lane 320 -/

theorem zeros1 (d : Dev nD) (L : grid1.Coords) (fg : Buf (Elt F) ((gV).view.loc (V d (cV1 L) (jV1 L)))) (P : List (View.Piece (Elt F) S8x384 .f32)) :
    ((gV).view.loc (V d (cV1 L) (jV1 L)) ↦{fullShare} ((gV).view.writes (Elt F) fg P) : sProp 𝕄)
      ⊢ iprop(⌜P.map (fun p => p.1) = zboxes 32 le_rfl ∧ ∀ p ∈ P, ∀ x : p.1.shape.Idx, p.2 x = fz⌝
          -∗ ∃ fg', ⌜∀ y : S8x384.Idx, 320 ≤ (y 1).val → fg' y = fz⌝ ∗ (gV).view.loc (V d (cV1 L) (jV1 L)) ↦{fullShare} fg') := by
  iintro H %hP
  iexists _
  isplitr
  swap; · iexact H
  ipureintro
  exact zeros_ok (gV) fg P hP.1 hP.2

theorem scr1_zero (d : Dev nD) (L : grid1.Coords) (h : (L 1).val = 0) :
    (scr1 d (cV1 L) (jV1 L) : sProp 𝕄) = iprop(∃ f, (shV).view.loc (V d (cV1 L) (jV1 L)) ↦{fullShare} f) := if_pos h

/-! ## The tile's own cells and buffers -/

abbrev dc1 (d : Dev nD) (L : grid1.Coords) (s : DmaSem sig) : GSem nD τ sig := (V d (cV1 L) (jV1 L), .dma s)

theorem ownSems0_V1 (d : Dev nD) (L : grid1.Coords) :
    (ownSems0 (V d (cV1 L) (jV1 L)) : sProp 𝕄)
      = iprop(semVal (dc1 d L cc1_scratch4.sem) 0 ∗ semVal (dc1 d L cc1_scratch5.sem) 0 ∗ semVal (dc1 d L cc1_scoped0.sem) 0
          ∗ semVal (dc1 d L cc1_scoped1.sem) 0 ∗ semVal (dc1 d L cc1_scoped2.sem) 0
          ∗ bigSep ((((((ownCells (V d (cV1 L) (jV1 L))).erase (dc1 d L cc1_scratch4.sem)).erase (dc1 d L cc1_scratch5.sem)).erase (dc1 d L cc1_scoped0.sem)).erase
              (dc1 d L cc1_scoped1.sem)).erase (dc1 d L cc1_scoped2.sem)) fun g => semVal g 0) := by
  have hne : ∀ {s s' : DmaSem sig}, s ≠ s' → dc1 d L s ≠ dc1 d L s' := fun h e => h (SemLoc.dma.inj (Prod.mk.inj e).2)
  have hm : ∀ s : DmaSem sig, (SemLoc.dma s : SemLoc sig).isScoped .scVector = true → dc1 d L s ∈ ownCells (V d (cV1 L) (jV1 L)) :=
    fun s h => mem_ownCells.mpr ⟨rfl, h⟩
  unfold SparseCore.Cfg.ownSems0
  rw [SparseCore.bigSep_erase' (hm cc1_scratch4.sem (by decide)),
    SparseCore.bigSep_erase' (Finset.mem_erase.mpr ⟨hne (by decide), hm cc1_scratch5.sem (by decide)⟩),
    SparseCore.bigSep_erase' (Finset.mem_erase.mpr ⟨hne (by decide), Finset.mem_erase.mpr ⟨hne (by decide), hm cc1_scoped0.sem (by decide)⟩⟩),
    SparseCore.bigSep_erase' (Finset.mem_erase.mpr ⟨hne (by decide), Finset.mem_erase.mpr ⟨hne (by decide), Finset.mem_erase.mpr ⟨hne (by decide),
      hm cc1_scoped1.sem (by decide)⟩⟩⟩),
    SparseCore.bigSep_erase' (Finset.mem_erase.mpr ⟨hne (by decide), Finset.mem_erase.mpr ⟨hne (by decide), Finset.mem_erase.mpr ⟨hne (by decide),
      Finset.mem_erase.mpr ⟨hne (by decide), hm cc1_scoped2.sem (by decide)⟩⟩⟩⟩)]

abbrev dr1 (L : grid1.Coords) (b : Ref sig .scVector) : DevRef τ sig := (Proc.scVector (cV1 L) (jV1 L)).devRef b

theorem scratch10_1 : (cc1_scratch1 : Ref sig .scVector) ≠ cc1_scratch0 := by decide
theorem scratch20_1 : (cc1_scratch2 : Ref sig .scVector) ≠ cc1_scratch0 := by decide
theorem scratch21_1 : (cc1_scratch2 : Ref sig .scVector) ≠ cc1_scratch1 := by decide
theorem ownBufs_V1 (d : Dev nD) (L : grid1.Coords) :
    (ownBufs (V d (cV1 L) (jV1 L)) : sProp 𝕄)
      = iprop((∃ f, (V d (cV1 L) (jV1 L)).loc cc1_scratch0 ↦{fullShare} f)
          ∗ (∃ f, (V d (cV1 L) (jV1 L)).loc cc1_scratch1 ↦{fullShare} f)
          ∗ (∃ f, (V d (cV1 L) (jV1 L)).loc cc1_scratch2 ↦{fullShare} f)
          ∗ bigSep ((((ownRefs (τ := τ) (.scVector (cV1 L) (jV1 L))).erase (dr1 L cc1_scratch0)).erase (dr1 L cc1_scratch1)).erase (dr1 L cc1_scratch2))
              fun b => iprop(∃ f, ((d, b) : Loc nD τ sig) ↦{fullShare} f)) := by
  have hm0 : dr1 L cc1_scratch0 ∈ ownRefs (τ := τ) (sig := sig) (.scVector (cV1 L) (jV1 L)) := SparseCore.Cfg.mem_ownRefs_of_owner rfl
  have hm1 : dr1 L cc1_scratch1 ∈ ownRefs (τ := τ) (sig := sig) (.scVector (cV1 L) (jV1 L)) := SparseCore.Cfg.mem_ownRefs_of_owner rfl
  have hm2 : dr1 L cc1_scratch2 ∈ ownRefs (τ := τ) (sig := sig) (.scVector (cV1 L) (jV1 L)) := SparseCore.Cfg.mem_ownRefs_of_owner rfl
  have hi : Function.Injective (Proc.devRef (sig := sig) (Proc.scVector (cV1 L) (jV1 L))) := Proc.devRef_injective _
  have h10 : dr1 L cc1_scratch1 ≠ dr1 L cc1_scratch0 := fun e => absurd (hi e) scratch10_1
  have h20 : dr1 L cc1_scratch2 ≠ dr1 L cc1_scratch0 := fun e => absurd (hi e) scratch20_1
  have h21 : dr1 L cc1_scratch2 ≠ dr1 L cc1_scratch1 := fun e => absurd (hi e) scratch21_1
  unfold SparseCore.Cfg.ownBufs
  rw [SparseCore.bigSep_erase' hm0, SparseCore.bigSep_erase' (Finset.mem_erase.mpr ⟨h10, hm1⟩),
    SparseCore.bigSep_erase' (Finset.mem_erase.mpr ⟨h21, Finset.mem_erase.mpr ⟨h20, hm2⟩⟩)]

/-! ## The loop -/

/-- What chunk `j` of the result holds before trip `k`. -/
def oAt1 (d : Dev nD) (k : ℕ) (j : Fin k1_t1_loop.trips) : S3072x384.Idx → Elt F .f32 := if j.val < k then res1 I d else I.f6 d

/-- Before trip `k`: the first `k` chunks written, the others not. -/
def inv1 (d : Dev nD) (L : grid1.Coords) (O : CellTallies nD τ sig (HIx 2)) (W : Waits sig (HIx 2)) (k : ℕ) (_ : PUnit) : sProp 𝕄 :=
  iprop((Transfers.MayWaits (V d (cV1 L) (jV1 L)) (default : HIx 2) O : sProp 𝕄)
    ∗ (bigSep Finset.univ fun j : Fin k1_t1_loop.trips => chunk1 I d L (oAt1 I d k j) j)
    ∗ ((shV).view.loc (V d (cV1 L) (jV1 L)) ↦{(lf (jV1 L)).left} I.tp d)
    ∗ ((shV).view.loc (V d (cV1 L) (jV1 L)) ↦{(lf (jV1 L)).right} I.tp d)
    ∗ (∃ fa, (aV).view.loc (V d (cV1 L) (jV1 L)) ↦{fullShare} fa)
    ∗ (∃ fb, (bV).view.loc (V d (cV1 L) (jV1 L)) ↦{fullShare} fb)
    ∗ (∃ fg, ⌜∀ y : S8x384.Idx, 320 ≤ (y 1).val → fg y = fz⌝ ∗ (gV).view.loc (V d (cV1 L) (jV1 L)) ↦{fullShare} fg)
    ∗ semVal (V d (cV1 L) (jV1 L), .dma cc1_scratch4.sem) 0 ∗ semVal (V d (cV1 L) (jV1 L), .dma cc1_scratch5.sem) 0
    ∗ semVal (V d (cV1 L) (jV1 L), .dma cc1_scoped1.sem) 0 ∗ semVal (V d (cV1 L) (jV1 L), .dma cc1_scoped2.sem) 0
    ∗ ∃ W', ⌜∀ p ∈ W', p ∈ W ∨ p.2 = none⌝ ∗ owes (V d (cV1 L) (jV1 L)) O W')

theorem chunks_step1 (d : Dev nD) (L : grid1.Coords) (k : Fin k1_t1_loop.trips) :
    (bigSep Finset.univ fun j : Fin k1_t1_loop.trips => chunk1 I d L (oAt1 I d k.val j) j)
      ⊢ iprop(chunk1 I d L (I.f6 d) k ∗ (chunk1 I d L (res1 I d) k
        -∗ bigSep Finset.univ fun j : Fin k1_t1_loop.trips => chunk1 I d L (oAt1 I d (k.val + 1) j) j)) := by
  rw [SparseCore.bigSep_erase' (Finset.mem_univ k), SparseCore.bigSep_erase' (Finset.mem_univ k) (Φ := fun j : Fin k1_t1_loop.trips => chunk1 I d L (oAt1 I d (k.val + 1) j) j),
    show oAt1 I d k.val k = I.f6 d from if_neg (lt_irrefl _), show oAt1 I d (k.val + 1) k = res1 I d from if_pos (Nat.lt_succ_self _),
    show (bigSep (Finset.univ.erase k) fun j : Fin k1_t1_loop.trips => chunk1 I d L (oAt1 I d (k.val + 1) j) j)
      = bigSep (Finset.univ.erase k) fun j : Fin k1_t1_loop.trips => chunk1 I d L (oAt1 I d k.val j) j from bigSep_congr fun j hj => by
        have hne : j.val ≠ k.val := fun e => (Finset.mem_erase.mp hj).1 (Fin.ext e)
        have : oAt1 I d (k.val + 1) j = oAt1 I d k.val j := by
          unfold oAt1
          by_cases h : j.val < k.val
          · rw [if_pos h, if_pos (by omega)]
          · rw [if_neg h, if_neg (by omega)]
        rw [this]]
  iintro ⟨Hk, Hr⟩
  isplitl [Hk]; · iexact Hk
  iintro Hk
  isplitl [Hk] <;> iassumption

/-- One trip keeps the invariant. -/
theorem step1 (d : Dev nD) (L : grid1.Coords) (O : CellTallies nD τ sig (HIx 2)) (W : Waits sig (HIx 2)) (v2 v19 : BitVec 32) (k : Fin k1_t1_loop.trips) (u : PUnit) :
    inv1 I d L O W k.val u ⊢ wp frame (wpE (defs₀ (F := F)) 𝒱₀ (V d (cV1 L) (jV1 L)) none) Set.univ
          (k1_t1_body L tV (Memref.isWhole_whole _) iV (Memref.isWhole_whole _) oV (Memref.isWhole_whole _) aV (Memref.isWhole_whole _) bV (Memref.isWhole_whole _)
            gV (Memref.isWhole_whole _) shV (Memref.isWhole_whole _) cc1_scratch4 cc1_scratch5 cc1_scoped0 cc1_scoped1 cc1_scoped2 v2 v19 k u)
          fun u' => inv1 I d L O W (k.val + 1) u' := by
  unfold inv1
  iintro ⟨#Hmw, Hch, Hs, Hs', ⟨%fa, Ha⟩, ⟨%fb, Hb⟩, ⟨%fg, %hfg, Hg⟩, H4, H5, H1, H2, %W', %hW', HO⟩
  ihave Hch' := (chunks_step1 I d L k) $$ Hch
  icases Hch' with ⟨Hk, Hback⟩
  unfold chunk1
  icases Hk with ⟨Hi, Ho⟩
  ihave Hwp := (trip1 d L k v2 v19 (lf (jV1 L)).left (lf (jV1 L)).right O W' (I.f5 d) (I.tp d) (I.f6 d) fa fb fg (I.h5 d) hfg) $$ [Hi Hs Hs' Ho Ha Hb Hg H4 H5 H1 H2 HO]
  · isplitr; · iexact Hmw
    isplitl [Hi]; · iexact Hi
    isplitl [Hs]; · iexact Hs
    isplitl [Hs']; · iexact Hs'
    isplitl [Ho]; · iexact Ho
    isplitl [Ha]; · iexact Ha
    isplitl [Hb]; · iexact Hb
    isplitl [Hg]; · iexact Hg
    isplitl [H4]; · iexact H4
    isplitl [H5]; · iexact H5
    isplitl [H1]; · iexact H1
    isplitl [H2]; · iexact H2
    iexact HO
  iapply (wp_wand) $$ Hwp
  iintro %u' ⟨Hi, Hs, Hs', Ho, Ha, Hb, Hg, H4, H5, H1, H2, %W'', %hW'', HO⟩
  isplitr; · iexact Hmw
  isplitl [Hback Hi Ho]
  · iapply Hback
    isplitl [Hi] <;> iassumption
  isplitl [Hs]; · iexact Hs
  isplitl [Hs']; · iexact Hs'
  isplitl [Ha]; · iexact Ha
  isplitl [Hb]; · iexact Hb
  isplitl [Hg]; · iexact Hg
  isplitl [H4]; · iexact H4
  isplitl [H5]; · iexact H5
  isplitl [H1]; · iexact H1
  isplitl [H2]; · iexact H2
  iexists W''; isplitr
  swap; · iexact HO
  ipureintro; intro p hp
  rcases hW'' p hp with h | h
  · exact hW' p h
  · exact .inr h

/-! ## The task -/

/-- What the task of tile `L` is handed, -/
def go1 (d : Dev nD) (L : grid1.Coords) : sProp 𝕄 :=
  iprop(bpos 1 d (cV1 L) (jV1 L) ∗ tabHbm I d (cV1 L) (jV1 L) ∗ scr1 d (cV1 L) (jV1 L) ∗ bigSep Finset.univ fun j : Fin k1_t1_loop.trips => chunk1 I d L (I.f6 d) j)
/-- and hands back. -/
def td1 (d : Dev nD) (L : grid1.Coords) : sProp 𝕄 :=
  iprop(tabHbm I d (cV1 L) (jV1 L) ∗ tabPts I d (cV1 L) 1 (lf (jV1 L)) ∗ (bigSep Finset.univ fun j : Fin k1_t1_loop.trips => chunk1 I d L (res1 I d) j)
    ∗ semVal (bcell d (cV1 L) (jV1 L)) 0)

instance go1_storable (d : Dev nD) (L : grid1.Coords) : BI.Storable (upEmb : UEmb _ 𝕄) (go1 I d L) := by unfold go1; infer_instance
instance td1_storable (d : Dev nD) (L : grid1.Coords) : BI.Storable (upEmb : UEmb _ 𝕄) (td1 I d L) := by unfold td1; infer_instance

theorem halves1 (d : Dev nD) (L : grid1.Coords) : (tabPts I d (cV1 L) 1 (lf (jV1 L)) : sProp 𝕄)
    = iprop(((shV).view.loc (V d (cV1 L) (jV1 L)) ↦{(lf (jV1 L)).left} I.tp d) ∗ ((shV).view.loc (V d (cV1 L) (jV1 L)) ↦{(lf (jV1 L)).right} I.tp d)) := by
  unfold tabPts
  rw [if_neg Nat.one_ne_zero]
  exact BI.Entails.antisymm (pointsTo_share (ℓ := shLoc1 d (cV1 L)) (PosShare.mem_left_op_right _)).1 (pointsTo_share (ℓ := shLoc1 d (cV1 L)) (PosShare.mem_left_op_right _)).2

theorem oAt1_start (d : Dev nD) (j : Fin k1_t1_loop.trips) : oAt1 I d 0 j = I.f6 d := if_neg (Nat.not_lt_zero _)
theorem oAt1_end (d : Dev nD) (j : Fin k1_t1_loop.trips) : oAt1 I d k1_t1_loop.trips j = res1 I d := if_pos j.isLt
theorem chunks_end1 (d : Dev nD) (L : grid1.Coords) : (bigSep Finset.univ fun j : Fin k1_t1_loop.trips => chunk1 I d L (oAt1 I d k1_t1_loop.trips j) j)
    ⊢ bigSep Finset.univ fun j : Fin k1_t1_loop.trips => chunk1 I d L (res1 I d) j :=
  Entails.of_eq (bigSep_congr fun j _ => by rw [oAt1_end])

set_option maxHeartbeats 8000000 in
set_option maxRecDepth 65536 in
/-- The task of tile `L`: the table's copy (tile 0's), the barrier, the zeros, the loop. -/
theorem tile1 (d : Dev nD) (L : grid1.Coords) (O : CellTallies nD τ sig (HIx 2)) (W : Waits sig (HIx 2)) (hO : ∀ g, O g none = 0)
    (hOlev : ∀ g ι, 0 < O g ι → 8 * (1 : Fin 2).val + 6 ≤ (K (F := F)).lev g ι) :
    iprop(levAts (K (F := F)).L (K (F := F)).lev ∗ bkit I 1 d (cV1 L) (jV1 L) ∗ go1 I d L
        ∗ scopedBufs (V d (cV1 L) (jV1 L)) ∗ scopedSems0 (V d (cV1 L) (jV1 L)) ∗ owes (V d (cV1 L) (jV1 L)) (O + oxV 1 d (cV1 L)) W)
      ⊢ wp frame (wpE (defs₀ (F := F)) 𝒱₀ (V d (cV1 L) (jV1 L)) none) Set.univ
          (cc1_gather_kernel L tV (Memref.isWhole_whole _) iV (Memref.isWhole_whole _) oV (Memref.isWhole_whole _) aV (Memref.isWhole_whole _) bV (Memref.isWhole_whole _)
            gV (Memref.isWhole_whole _) shV (Memref.isWhole_whole _) cc1_scratch4 cc1_scratch5 cc1_scoped0 cc1_scoped1 cc1_scoped2)
          fun _ => iprop(td1 I d L ∗ scopedBufs (V d (cV1 L) (jV1 L)) ∗ scopedSems0 (V d (cV1 L) (jV1 L))
            ∗ ∃ W', ⌜∀ p ∈ W', p ∈ W ∨ p.2 = none ∨ p.2 = some (1 : Fin 2)⌝ ∗ owes (V d (cV1 L) (jV1 L)) O W') := by
  rw [(K (F := F)).scopedBufs_V facts d (cV1 L) (jV1 L), SparseCore.Cfg.scopedSems0_V (Val := Elt F) d (cV1 L) (jV1 L), ownSems0_V1, ownBufs_V1]
  unfold go1 td1
  iintro ⟨#Hlv, Hkit, ⟨Hpos, Ht, Hscr, Hch⟩, ⟨⟨%fa, Ha⟩, ⟨%fb, Hb⟩, ⟨%fg, Hg⟩, Hbufs⟩, ⟨H4, H5, H0, H1, H2, Hsems⟩, HO⟩
  have hO' : ∀ g, (O + oxV 1 d (cV1 L)) g none = 0 := fun g => by rw [Pi.add_apply, Finsupp.add_apply, hO g, oxV_none]
  ihave #Hmw1 := (show levAts (K (F := F)).L (K (F := F)).lev ⊢ Transfers.MayWaits (V d (cV1 L) (jV1 L)) (default : HIx 2) (O + oxV 1 d (cV1 L)) from
    (K (F := F)).mayWaits_none (thr := V d (cV1 L) (jV1 L)) hO') $$ Hlv
  ihave #Hmw2 := (show levAts (K (F := F)).L (K (F := F)).lev ⊢ Transfers.MayWaits (V d (cV1 L) (jV1 L)) (default : HIx 2) O from
    (K (F := F)).mayWaits_none (thr := V d (cV1 L) (jV1 L)) hO) $$ Hlv
  ihave Ha' := (show ((V d (cV1 L) (jV1 L)).loc cc1_scratch0 ↦{fullShare} fa : sProp 𝕄) ⊢ (aV).view.loc (V d (cV1 L) (jV1 L)) ↦{fullShare} fa from Entails.of_eq rfl) $$ Ha
  ihave Hb' := (show ((V d (cV1 L) (jV1 L)).loc cc1_scratch1 ↦{fullShare} fb : sProp 𝕄) ⊢ (bV).view.loc (V d (cV1 L) (jV1 L)) ↦{fullShare} fb from Entails.of_eq rfl) $$ Hb
  ihave Hg' := (show ((V d (cV1 L) (jV1 L)).loc cc1_scratch2 ↦{fullShare} fg : sProp 𝕄) ⊢ (gV).view.loc (V d (cV1 L) (jV1 L)) ↦{fullShare} fg from Entails.of_eq rfl) $$ Hg
  rw [cc1_gather_kernel_eq_skeleton]
  unfold cc1_gather_kernel_skel
  by_cases h : (L 1).val = 0
  on_goal 1 =>
    have k1_h1 := (isZero (L 1)).mpr h
    ihave Ht' := (Entails.of_eq (tabHbm_zero I d L h)) $$ Ht
    ihave Hs := (Entails.of_eq (scr1_zero d L h)) $$ Hscr
    icases Hs with ⟨%f, Hs'⟩
    sl_exec
    ihave Hp := (tab1 I d L f) $$ [Hs']
    · sl_unfold_run_names; iexact Hs'
    ihave Hpays := (show (tabPts I d (cV1 L) 1 fullShare : sProp 𝕄) ⊢ (bigSep Finset.univ fun j : Fin τ.nSub => (bRd I).payload (bcell d (cV1 L) j) (1 : Fin 2).val (jV1 L).val) from
      pays_at I d (cV1 L) (1 : Fin 2).val (jV1 L).val h) $$ Hp
    ihave Ht := (Entails.of_eq (tabHbm_zero I d L h).symm) $$ Ht'
    ihave HO := (owes_more _ _ _ _) $$ HO
    icases HO with ⟨%W1, %hW1, HO⟩
  on_goal 2 =>
    have k1_h1 := mt (isZero (L 1)).mp h
    sl_exec
    ihave Hpays := (pays_other I d (cV1 L) (1 : Fin 2).val (jV1 L).val h) $$ []
    · iempintro
    ihave HO := (owes_same _ _ _) $$ HO
    icases HO with ⟨%W1, %hW1, HO⟩
  all_goals
    iapply (wp_bar I 1 d (cV1 L) (jV1 L) (grid1.bound 1) hsub1 (L 1) rfl rfl O W1 hOlev) $$ [Hkit Hpos Hpays HO]
    · isplitr; · iexact Hlv
      isplitl [Hkit]; · iexact Hkit
      isplitl [Hpos]; · iexact Hpos
      isplitl [Hpays]; · iexact Hpays
      iexact HO
    iintro ⟨HO, Hat, -, Htab, %κ, #Hcell⟩
    imod (Rounds.cell_close EB (bRd I) (g := bcell d (cV1 L) (jV1 L)) (Set.mem_univ κ) (fun h => h) (R := (1 : Fin 2).val + 1) (bRd_duties_end I _)) $$ [Hat] with Hbar
    · isplitr; · iexact Hcell
      iexact Hat
    sl_exec
    ihave Hz := (zeros1 d L fg _) $$ Hg'
    ihave Hz' := Hz $$ []
    · ipureintro
      refine ⟨rfl, ?_⟩
      iterate 32
        refine List.forall_mem_cons.mpr ⟨fun x => ?_, ?_⟩
        · sl_unfold_run_names
          rfl
      exact fun p hp => absurd hp List.not_mem_nil
    icases Hz' with ⟨%fg', %hfg', Hg⟩
    ihave Hh := (show (tabPts I d (cV1 L) (1 : Fin 2).val (lf (jV1 L)) : sProp 𝕄) ⊢ _ from Entails.of_eq (halves1 I d L)) $$ Htab
    icases Hh with ⟨Hs1, Hs2⟩
    sl_for (inv1 I d L O (insert (SemLoc.reg sc_bar0, some (1 : Fin 2)) W1)) $$ [Hch Hs1 Hs2 Ha' Hb' Hg H4 H5 H1 H2 HO]
    case region =>
      intro k u
      exact step1 I d L O _ _ _ k u
    · unfold inv1
      isplitr; · iexact Hmw2
      isplitl [Hch]
      · iapply (Entails.of_eq (bigSep_congr fun j _ => by rw [show oAt1 I d 0 j = I.f6 d from if_neg (Nat.not_lt_zero _)]))
        iexact Hch
      isplitl [Hs1]; · iexact Hs1
      isplitl [Hs2]; · iexact Hs2
      isplitl [Ha']; · iexists _; iexact Ha'
      isplitl [Hb']; · iexists _; iexact Hb'
      isplitl [Hg]
      · iexists fg'; isplitr
        · ipureintro; exact hfg'
        · iexact Hg
      isplitl [H4]; · iexact H4
      isplitl [H5]; · iexact H5
      isplitl [H1]; · iexact H1
      isplitl [H2]; · iexact H2
      iexists _; isplitr
      swap; · iexact HO
      ipureintro; exact fun p hp => .inl hp
    iintro %_ HI
    unfold inv1
    icases HI with ⟨-, Hch, Hs1, Hs2, ⟨%fa', Ha⟩, ⟨%fb', Hb⟩, ⟨%fg'', -, Hg⟩, H4, H5, H1, H2, %W2, %hW2, HO⟩
    sl_exec
    sl_step
    isplitl [Ht Hs1 Hs2 Hch Hbar]
    · isplitl [Ht]; · iexact Ht
      isplitl [Hs1 Hs2]
      · iapply (Entails.of_eq (halves1 I d L).symm)
        isplitl [Hs1] <;> iassumption
      isplitl [Hch]
      · iapply (chunks_end1 I d L)
        iexact Hch
      iexact Hbar
    isplitl [Ha Hb Hg Hbufs]
    · isplitl [Ha]; · iexists _; iexact Ha
      isplitl [Hb]; · iexists _; iexact Hb
      isplitl [Hg]; · iexists _; iexact Hg
      iexact Hbufs
    isplitl [H4 H5 H0 H1 H2 Hsems]
    · isplitl [H4]; · iexact H4
      isplitl [H5]; · iexact H5
      isplitl [H0]; · iexact H0
      isplitl [H1]; · iexact H1
      isplitl [H2]; · iexact H2
      iexact Hsems
    iexists W2; isplitr
    swap; · iexact HO
    ipureintro; intro p hp
    rcases hW2 p hp with hp | hp
    · rcases Finset.mem_insert.mp hp with hp | hp
      · exact .inr (.inr (hp ▸ rfl))
      · rcases hW1 p hp with hp | hp
        · exact .inl hp
        · exact .inr (.inl hp)
    · exact .inr (.inl hp)

end Cert.Proof
-- ==== Proof.Deal.lean ====
/-
  What the two SparseCore calls carry between the TensorCore, the sequencers and the tiles, how a call's operands split into
  its tiles' shares and join again, and the launch element of the proof's ghost state.
-/
module

public import proofs.«01_k».proof.Proof.Tile0
public import proofs.«01_k».proof.Proof.Tile1

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (I : Inp F)

/-! ## The tiles by their two coordinates -/

def co0 (c : Fin τ.nSC) (i : Fin τ.nSub) : grid0.Coords :=
  fun | 0 => ⟨c.val, c.isLt⟩ | 1 => ⟨i.val, i.isLt⟩ | ⟨_ + 2, h⟩ => absurd h (Nat.not_lt.2 (Nat.le_add_left _ _))
def co1 (c : Fin τ.nSC) (i : Fin τ.nSub) : grid1.Coords :=
  fun | 0 => ⟨c.val, c.isLt⟩ | 1 => ⟨i.val, i.isLt⟩ | ⟨_ + 2, h⟩ => absurd h (Nat.not_lt.2 (Nat.le_add_left _ _))

/-- A SparseCore's chunks, all of its tiles'. -/
def chs0 (d : Dev nD) (c : Fin τ.nSC) (f : S1024x384.Idx → Elt F .f32) : sProp 𝕄 :=
  bigSep Finset.univ fun i : Fin τ.nSub => bigSep Finset.univ fun k : Fin k0_t1_loop.trips => chunk0 I d (co0 c i) f k
def chs1 (d : Dev nD) (c : Fin τ.nSC) (f : S3072x384.Idx → Elt F .f32) : sProp 𝕄 :=
  bigSep Finset.univ fun i : Fin τ.nSub => bigSep Finset.univ fun k : Fin k1_t1_loop.trips => chunk1 I d (co1 c i) f k

instance chs0_storable (d : Dev nD) (c : Fin τ.nSC) (f : S1024x384.Idx → Elt F .f32) : BI.Storable (upEmb : UEmb _ 𝕄) (chs0 I d c f) := by
  unfold chs0; infer_instance
instance chs1_storable (d : Dev nD) (c : Fin τ.nSC) (f : S3072x384.Idx → Elt F .f32) : BI.Storable (upEmb : UEmb _ 𝕄) (chs1 I d c f) := by
  unfold chs1; infer_instance

/-- Where a SparseCore's tiles stand between the two calls. -/
def mid (d : Dev nD) (c : Fin τ.nSC) : sProp 𝕄 :=
  iprop((bigSep Finset.univ fun i : Fin τ.nSub => reached (EB (F := F)) (bcell d c i) 1)
    ∗ bigSep Finset.univ fun i : Fin τ.nSub => atPos (EB (F := F)) (bcell d c i) 1 ∅ 0)
instance mid_storable (d : Dev nD) (c : Fin τ.nSC) : BI.Storable (upEmb : UEmb _ 𝕄) (mid (F := F) d c) := by
  unfold mid; infer_instance
/-- A SparseCore's barrier semaphores at zero. -/
def bars (d : Dev nD) (c : Fin τ.nSC) : sProp 𝕄 := bigSep Finset.univ fun i : Fin τ.nSub => semVal (bcell d c i) 0
instance bars_storable (d : Dev nD) (c : Fin τ.nSC) : BI.Storable (upEmb : UEmb _ 𝕄) (bars (F := F) d c) := by
  unfold bars; infer_instance

/-- What a call takes from the TensorCore for SparseCore `c`, -/
def stP (q : Fin 2) (d : Dev nD) (c : Fin τ.nSC) : sProp 𝕄 :=
  match q with
  | 0 => iprop((tLoc d ↦{hs c} I.tp d) ∗ chs0 I d c (I.f3 d))
  | 1 => iprop((tLoc d ↦{hs c} I.tp d) ∗ chs1 I d c (I.f6 d) ∗ mid d c)
/-- and brings back. -/
def dnP (q : Fin 2) (d : Dev nD) (c : Fin τ.nSC) : sProp 𝕄 :=
  match q with
  | 0 => iprop((tLoc d ↦{hs c} I.tp d) ∗ chs0 I d c (res0 I d) ∗ mid d c)
  | 1 => iprop((tLoc d ↦{hs c} I.tp d) ∗ chs1 I d c (res1 I d) ∗ bars d c)
def goP (q : Fin 2) (d : Dev nD) (c : Fin τ.nSC) (i : Fin τ.nSub) : sProp 𝕄 :=
  match q with | 0 => go0 I d (co0 c i) | 1 => go1 I d (co1 c i)
def tdP (q : Fin 2) (d : Dev nD) (c : Fin τ.nSC) (i : Fin τ.nSub) : sProp 𝕄 :=
  match q with | 0 => td0 I d (co0 c i) | 1 => td1 I d (co1 c i)
def xP (q : Fin 2) (d : Dev nD) (c : Fin τ.nSC) (i : Fin τ.nSub) : sProp 𝕄 :=
  match q with | 0 => iprop(bkit I 0 d c i ∗ bpos 0 d c i) | 1 => bkit I 1 d c i

instance stP_storable (q : Fin 2) (d : Dev nD) (c : Fin τ.nSC) : BI.Storable (upEmb : UEmb _ 𝕄) (stP I q d c) := by
  unfold stP; split <;> infer_instance
instance dnP_storable (q : Fin 2) (d : Dev nD) (c : Fin τ.nSC) : BI.Storable (upEmb : UEmb _ 𝕄) (dnP I q d c) := by
  unfold dnP; split <;> infer_instance
instance goP_storable (q : Fin 2) (d : Dev nD) (c : Fin τ.nSC) (i : Fin τ.nSub) : BI.Storable (upEmb : UEmb _ 𝕄) (goP I q d c i) := by
  unfold goP; split <;> infer_instance
instance tdP_storable (q : Fin 2) (d : Dev nD) (c : Fin τ.nSC) (i : Fin τ.nSub) : BI.Storable (upEmb : UEmb _ 𝕄) (tdP I q d c i) := by
  unfold tdP; split <;> infer_instance

set_option backward.proofsInPublic true in
/-- The two calls. -/
def P : (K (F := F)).Pay (nD := nD) (Val := Elt F) (Name := ℕ) (U := UU) where
  st := fun q d c => stP I q d ((K (F := F)).core q c)
  dn := fun q d c => dnP I q d ((K (F := F)).core q c)
  go := fun q d c i => goP I q d ((K (F := F)).core q c) ((K (F := F)).sub q i)
  td := fun q d c i => tdP I q d ((K (F := F)).core q c) ((K (F := F)).sub q i)
  x := fun q thr => match thr with
    | (d, .scVector c i) => xP I q d c i
    | _ => iprop(emp)
  ox := fun q thr => match thr with
    | (d, .scVector c _) => oxV q d c
    | _ => 0
  ox_band := by
    intro q thr g ι h
    rcases thr with ⟨d, _ | c | ⟨c, i⟩⟩
    · exact absurd h (lt_irrefl 0)
    · exact absurd h (lt_irrefl 0)
    · obtain ⟨j, rfl, rfl⟩ := oxV_apply_pos h
      rw [(K (F := F)).lev_V_reg d c j (show (sc_bar0 : Sem sig) ≠ (K (F := F)).go from sc_bar0_ne_go)]; exact ⟨le_rfl, Nat.add_le_add_left (by decide) _⟩
  ox_tc := fun _ _ => rfl
  ox_sc := fun _ _ _ h => absurd rfl h
  ox_vc := by
    intro q d c i h
    match q with
    | 0 => exact ⟨rfl, c.isLt, i.isLt⟩
    | 1 => exact ⟨rfl, c.isLt, i.isLt⟩

instance P_storable : (P I).IsStorable where
  st q d c := stP_storable I q d _
  dn q d c := dnP_storable I q d _
  go q d c i := goP_storable I q d _ _
  td q d c i := tdP_storable I q d _ _

/-! ## The tiles' obligations -/

theorem defs₀_vector0 (c : Fin τ.nSC) (s : Fin τ.nSub) :
    defs₀ (F := F) (.scVector c s) 0 ()
      = SparseCore.onTile hcore0 hsub0 (fun c s => cc0_gather_kernel (fun | 0 => c | 1 => s | ⟨_ + 2, h⟩ => absurd h (Nat.not_lt.2 (Nat.le_add_left _ _)))
          (Memref.whole main_v0_scv) (Memref.isWhole_whole _) (Memref.whole main_v2_scv) (Memref.isWhole_whole _) (Memref.whole main_v3_scv) (Memref.isWhole_whole _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) cc0_scratch4 cc0_scratch5 cc0_scoped0 cc0_scoped1 cc0_scoped2) ⟨⟩ c s := rfl
theorem defs₀_vector1 (c : Fin τ.nSC) (s : Fin τ.nSub) :
    defs₀ (F := F) (.scVector c s) 1 ()
      = SparseCore.onTile hcore1 hsub1 (fun c s => cc1_gather_kernel (fun | 0 => c | 1 => s | ⟨_ + 2, h⟩ => absurd h (Nat.not_lt.2 (Nat.le_add_left _ _)))
          (Memref.whole main_v0_scv) (Memref.isWhole_whole _) (Memref.whole main_v5_scv) (Memref.isWhole_whole _) (Memref.whole main_v6_scv) (Memref.isWhole_whole _)
          (Memref.whole cc1_scratch0) (Memref.isWhole_whole _) (Memref.whole cc1_scratch1) (Memref.isWhole_whole _) (Memref.whole cc1_scratch2) (Memref.isWhole_whole _)
          (Memref.whole cc1_scratch3) (Memref.isWhole_whole _) cc1_scratch4 cc1_scratch5 cc1_scoped0 cc1_scoped1 cc1_scoped2) ⟨⟩ c s := rfl

theorem tileObl0 : (K (F := F)).TileObl (D (F := F)) 𝒱 (P I) v₀ 0 := by
  intro d c i O W hO hOlev _
  have hci : ((K (F := F)).core 0 c).val < grid0.bound 0 ∧ ((K (F := F)).sub 0 i).val < grid0.bound 1 := ⟨c.isLt, i.isLt⟩
  rw [show (P I).ox 0 (V d ((K (F := F)).core 0 c) ((K (F := F)).sub 0 i)) = oxV 0 d ((K (F := F)).core 0 c) from rfl,
    show (P I).x 0 (V d ((K (F := F)).core 0 c) ((K (F := F)).sub 0 i))
      = iprop(bkit I 0 d ((K (F := F)).core 0 c) ((K (F := F)).sub 0 i) ∗ bpos 0 d ((K (F := F)).core 0 c) ((K (F := F)).sub 0 i)) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact tile0 I d (co0 ((K (F := F)).core 0 c) ((K (F := F)).sub 0 i)) O W hO hOlev

theorem tileObl1 : (K (F := F)).TileObl (D (F := F)) 𝒱 (P I) v₀ 1 := by
  intro d c i O W hO hOlev _
  have hci : ((K (F := F)).core 1 c).val < grid1.bound 0 ∧ ((K (F := F)).sub 1 i).val < grid1.bound 1 := ⟨c.isLt, i.isLt⟩
  rw [show (P I).ox 1 (V d ((K (F := F)).core 1 c) ((K (F := F)).sub 1 i)) = oxV 1 d ((K (F := F)).core 1 c) from rfl,
    show (P I).x 1 (V d ((K (F := F)).core 1 c) ((K (F := F)).sub 1 i)) = bkit I 1 d ((K (F := F)).core 1 c) ((K (F := F)).sub 1 i) from rfl]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact tile1 I d (co1 ((K (F := F)).core 1 c) ((K (F := F)).sub 1 i)) O W hO hOlev

/-! ## A call's operands split into its tiles' shares and join again -/

omit [FloatOps F] in
/-- What tile 0 alone is handed. -/
theorem zero_only (X : sProp 𝕄) : (bigSep Finset.univ fun i : Fin τ.nSub => if i.val = 0 then X else iprop(emp)) = X := by
  have h0 : (⟨0, by decide⟩ : Fin τ.nSub) ∈ (Finset.univ : Finset (Fin τ.nSub)) := Finset.mem_univ _
  rw [SparseCore.bigSep_erase' h0, if_pos rfl,
    show (bigSep ((Finset.univ : Finset (Fin τ.nSub)).erase ⟨0, by decide⟩) fun i : Fin τ.nSub => if i.val = 0 then X else iprop(emp))
      = bigSep ((Finset.univ : Finset (Fin τ.nSub)).erase ⟨0, by decide⟩) fun _ => (iprop(emp) : sProp 𝕄) from
      bigSep_congr fun i hi => if_neg fun e => (Finset.mem_erase.mp hi).1 (Fin.ext e), bigSep_emp']
  exact BI.Entails.antisymm BI.sep_emp.1 BI.sep_emp.2

omit [FloatOps F] in
theorem bigSep_tiles0 (Φ : Fin τ.nSub → sProp 𝕄) :
    (bigSep Finset.univ fun i : Fin ((K (F := F)).nSub 0) => Φ ((K (F := F)).sub 0 i)) = bigSep Finset.univ Φ :=
  bigSep_congr fun _ _ => congrArg Φ (Fin.ext rfl)
omit [FloatOps F] in
theorem bigSep_tiles1 (Φ : Fin τ.nSub → sProp 𝕄) :
    (bigSep Finset.univ fun i : Fin ((K (F := F)).nSub 1) => Φ ((K (F := F)).sub 1 i)) = bigSep Finset.univ Φ :=
  bigSep_congr fun _ _ => congrArg Φ (Fin.ext rfl)

theorem go0_all (d : Dev nD) (c : Fin τ.nSC) : (bigSep Finset.univ fun i : Fin τ.nSub => go0 I d (co0 c i))
    = iprop((tLoc d ↦{hs c} I.tp d) ∗ (∃ f, shLoc0 d c ↦{fullShare} f) ∗ chs0 I d c (I.f3 d)) := by
  show (bigSep Finset.univ fun i : Fin τ.nSub => iprop((if i.val = 0 then iprop(tLoc d ↦{hs c} I.tp d) else iprop(emp))
    ∗ (if i.val = 0 then iprop(∃ f, shLoc0 d c ↦{fullShare} f) else iprop(emp)) ∗ bigSep Finset.univ fun k => chunk0 I d (co0 c i) (I.f3 d) k)) = _
  rw [bigSep_sep', bigSep_sep', zero_only, zero_only]; rfl
theorem td0_all (d : Dev nD) (c : Fin τ.nSC) : (bigSep Finset.univ fun i : Fin τ.nSub => td0 I d (co0 c i))
    = iprop((tLoc d ↦{hs c} I.tp d) ∗ tabPts I d c 0 fullShare ∗ chs0 I d c (res0 I d) ∗ mid d c) := by
  show (bigSep Finset.univ fun i : Fin τ.nSub => iprop((if i.val = 0 then iprop(tLoc d ↦{hs c} I.tp d) else iprop(emp))
    ∗ tabPts I d c 0 (lf i) ∗ (bigSep Finset.univ fun k => chunk0 I d (co0 c i) (res0 I d) k)
    ∗ reached EB (bcell d c i) 1 ∗ atPos EB (bcell d c i) 1 ∅ 0)) = _
  rw [bigSep_sep', bigSep_sep', bigSep_sep', bigSep_sep', zero_only, ← tab_leaves]; rfl
theorem go1_all (d : Dev nD) (c : Fin τ.nSC) : (bigSep Finset.univ fun i : Fin τ.nSub => go1 I d (co1 c i))
    = iprop((bigSep Finset.univ fun i : Fin τ.nSub => bpos 1 d c i) ∗ (tLoc d ↦{hs c} I.tp d) ∗ (∃ f, shLoc1 d c ↦{fullShare} f) ∗ chs1 I d c (I.f6 d)) := by
  show (bigSep Finset.univ fun i : Fin τ.nSub => iprop(bpos 1 d c i ∗ (if i.val = 0 then iprop(tLoc d ↦{hs c} I.tp d) else iprop(emp))
    ∗ (if i.val = 0 then iprop(∃ f, shLoc1 d c ↦{fullShare} f) else iprop(emp)) ∗ bigSep Finset.univ fun k => chunk1 I d (co1 c i) (I.f6 d) k)) = _
  rw [bigSep_sep', bigSep_sep', bigSep_sep', zero_only, zero_only]; rfl
theorem td1_all (d : Dev nD) (c : Fin τ.nSC) : (bigSep Finset.univ fun i : Fin τ.nSub => td1 I d (co1 c i))
    = iprop((tLoc d ↦{hs c} I.tp d) ∗ tabPts I d c 1 fullShare ∗ chs1 I d c (res1 I d) ∗ bars d c) := by
  show (bigSep Finset.univ fun i : Fin τ.nSub => iprop((if i.val = 0 then iprop(tLoc d ↦{hs c} I.tp d) else iprop(emp))
    ∗ tabPts I d c 1 (lf i) ∗ (bigSep Finset.univ fun k => chunk1 I d (co1 c i) (res1 I d) k) ∗ semVal (bcell d c i) 0)) = _
  rw [bigSep_sep', bigSep_sep', bigSep_sep', zero_only, ← tab_leaves]; rfl

omit [FloatOps F] in
/-- A persistent resource beside a big separating conjunction goes to each conjunct. -/
theorem bigSep_share {J : Type} [DecidableEq J] {R : sProp 𝕄} [BI.Persistent R] {s : Finset J} {Φ Ψ : J → sProp 𝕄}
    (h : ∀ i ∈ s, iprop(R ∗ Φ i) ⊢ Ψ i) : iprop(R ∗ bigSep s Φ) ⊢ bigSep s Ψ := by
  have h1 : iprop(R ∗ bigSep s Φ) ⊢ iprop((bigSep s fun _ => R) ∗ bigSep s Φ) := by
    iintro ⟨#HR, H⟩
    isplitr
    · iapply (bigSep_intro_persistent (S := s) (R := R) (Φ := fun _ => R) fun _ _ => fun _ hx => hx); iexact HR
    iexact H
  refine BI.Entails.trans h1 ?_
  rw [← bigSep_sep']
  exact bigSep_mono h

/-- Between the calls every tile stands at the second round. -/
theorem mid_bpos (d : Dev nD) (c : Fin τ.nSC) : (mid d c : sProp 𝕄) ⊢ bigSep Finset.univ fun i : Fin τ.nSub => bpos 1 d c i := by
  unfold mid
  exact bigSep_share (Ψ := fun i : Fin τ.nSub => bpos (F := F) 1 d c i) fun i _ => fun _ hx => hx

omit [FloatOps F] in
/-- The two calls' copies of the table are among the sequencer's own buffers. -/
theorem ownBufs_S (r : Fin 2) (d : Dev nD) (c : Fin τ.nSC) :
    (ownBufs (S d c) : sProp 𝕄)
      = iprop((∃ f, ((d, ⟨.shared, ⟨r.val, r.isLt⟩, c⟩) : Loc nD τ sig) ↦{fullShare} f)
        ∗ bigSep ((ownRefs (τ := τ) (.scScalar c)).erase ⟨.shared, ⟨r.val, r.isLt⟩, c⟩) fun b => iprop(∃ f, ((d, b) : Loc nD τ sig) ↦{fullShare} f)) := by
  unfold SparseCore.Cfg.ownBufs
  have h : (⟨.shared, ⟨r.val, r.isLt⟩, c⟩ : DevRef τ sig) ∈ ownRefs (τ := τ) (sig := sig) (.scScalar c) :=
    (mem_ownRefs (p := Proc.scScalar c) (b := ⟨.shared, ⟨r.val, r.isLt⟩, c⟩)).mpr rfl
  exact SparseCore.bigSep_erase' h

theorem vecSplit0 : (K (F := F)).VecSplit (P I) 0 := by
  intro d c
  show iprop(stP I 0 d ((K (F := F)).core 0 c) ∗ ownBufs (S d ((K (F := F)).core 0 c))) ⊢ |={Set.univ}=> iprop(
      (bigSep Finset.univ fun i : Fin ((K (F := F)).nSub 0) => (fun i => go0 I d (co0 ((K (F := F)).core 0 c) i)) ((K (F := F)).sub 0 i))
      ∗ ((bigSep Finset.univ fun i : Fin ((K (F := F)).nSub 0) => (fun i => td0 I d (co0 ((K (F := F)).core 0 c) i)) ((K (F := F)).sub 0 i))
          -∗ iprop(dnP I 0 d ((K (F := F)).core 0 c) ∗ ownBufs (S d ((K (F := F)).core 0 c)))))
  generalize (K (F := F)).core 0 c = c'
  rw [bigSep_tiles0 (F := F) (fun i => go0 I d (co0 c' i)), bigSep_tiles0 (F := F) (fun i => td0 I d (co0 c' i))]
  rw [go0_all, td0_all, ownBufs_S 0]
  unfold stP dnP
  iintro ⟨⟨Ht, Hch⟩, Hs, Hrest⟩; imodintro
  isplitl [Ht Hch Hs]
  · isplitl [Ht]; · iexact Ht
    isplitl [Hs]; · iexact Hs
    iexact Hch
  iintro ⟨Ht, Htab, Hch, Hm⟩
  isplitl [Ht Hch Hm]
  · isplitl [Ht]; · iexact Ht
    isplitl [Hch]; · iexact Hch
    iexact Hm
  isplitl [Htab]
  · iexists _; iapply (show tabPts I d c' 0 fullShare ⊢ (shLoc0 d c' ↦{fullShare} I.tp d : sProp 𝕄) from Entails.of_eq (if_pos rfl)); iexact Htab
  iexact Hrest

theorem vecSplit1 : (K (F := F)).VecSplit (P I) 1 := by
  intro d c
  show iprop(stP I 1 d ((K (F := F)).core 1 c) ∗ ownBufs (S d ((K (F := F)).core 1 c))) ⊢ |={Set.univ}=> iprop(
      (bigSep Finset.univ fun i : Fin ((K (F := F)).nSub 1) => (fun i => go1 I d (co1 ((K (F := F)).core 1 c) i)) ((K (F := F)).sub 1 i))
      ∗ ((bigSep Finset.univ fun i : Fin ((K (F := F)).nSub 1) => (fun i => td1 I d (co1 ((K (F := F)).core 1 c) i)) ((K (F := F)).sub 1 i))
          -∗ iprop(dnP I 1 d ((K (F := F)).core 1 c) ∗ ownBufs (S d ((K (F := F)).core 1 c)))))
  generalize (K (F := F)).core 1 c = c'
  rw [bigSep_tiles1 (F := F) (fun i => go1 I d (co1 c' i)), bigSep_tiles1 (F := F) (fun i => td1 I d (co1 c' i))]
  rw [go1_all, td1_all, ownBufs_S 1]
  unfold stP dnP
  iintro ⟨⟨Ht, Hch, Hm⟩, Hs, Hrest⟩; imodintro
  isplitl [Ht Hch Hs Hm]
  · isplitl [Hm]; · iapply (mid_bpos d c'); iexact Hm
    isplitl [Ht]; · iexact Ht
    isplitl [Hs]; · iexact Hs
    iexact Hch
  iintro ⟨Ht, Htab, Hch, Hm⟩
  isplitl [Ht Hch Hm]
  · isplitl [Ht]; · iexact Ht
    isplitl [Hch]; · iexact Hch
    iexact Hm
  isplitl [Htab]
  · iexists _; iapply (show tabPts I d c' 1 fullShare ⊢ (shLoc1 d c' ↦{fullShare} I.tp d : sProp 𝕄) from Entails.of_eq (if_neg Nat.one_ne_zero)); iexact Htab
  iexact Hrest

/-! ## The launch element -/

abbrev DCI : Type := Dev nD × Fin τ.nSC × Fin τ.nSub
abbrev bcell₃ (x : DCI) : GSem nD τ sig := bcell x.1 x.2.1 x.2.2

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

/-- The barrier cells, every tile's. -/
def bCells : Finset (GSem nD τ sig) := (Finset.univ : Finset DCI).image bcell₃
/-- Every tile's token in every cell of its SparseCore, for both rounds. -/
def bToks : Finset (GSem nD τ sig × ℕ × ℕ) :=
  ((Finset.univ : Finset DCI) ×ˢ ((Finset.univ : Finset (Fin 2)) ×ˢ (Finset.univ : Finset (Fin τ.nSub)))).image
    fun x : DCI × (Fin 2 × Fin τ.nSub) => (bcell x.1.1 x.1.2.1 x.2.2, x.2.1.val, x.1.2.2.val)
/-- The pipelines as the TensorCore runs them. -/
abbrev aAdm : (p : Fin 2) → (pcfgs (F := F) p).Adm := fun p => (cfgs p).toPCfg_adm
abbrev pcells : Finset (GSem nD τ sig) := Pipeline.cells (Pipeline.pin (pcfgs (F := F)) aAdm) cellOf_inj
abbrev ptoks : Finset (GSem nD τ sig × ℕ × Unit) := Pipeline.launchToks (Pipeline.pin (pcfgs (F := F)) aAdm) cellOf_inj
def u₀ : UU := (initOf (K (F := F)).hsCells (K (F := F)).hsToks, (initOf bCells bToks, (initOf (pcells (F := F)) (ptoks (F := F)), 1)))

omit [FloatOps F] in
theorem ownU_split (a : UH) (b : UB) (p : UP) :
    (ownU ((a, (b, (p, 1))) : UU) : sProp 𝕄) ⊢ iprop(BI.own (EH a) ∗ BI.own (EB b) ∗ BI.own (EP p)) := by
  have h1 : (ownU ((a, (b, (p, 1))) : UU) : sProp 𝕄) ⊢ iprop(BI.own (EH a)
      ∗ BI.own ((uEmb (nD := nD) (sig := sig) (Ix := HIx 2) (Val := Elt F) (Name := ℕ) (U := UU) (Lvl := ℕ)).toEmb ((1, (b, (p, 1))) : UU))) :=
    BI.own_op_elim ((uEmb (nD := nD) (sig := sig) (Ix := HIx 2) (Val := Elt F) (Name := ℕ) (U := UU) (Lvl := ℕ)).toEmb.op_of_mem
      (Prod.mk_mem_op (URA.mem_op_one a) (URA.mem_one_op (b, (p, (1 : Counters))))))
  have h2 : (BI.own ((uEmb (nD := nD) (sig := sig) (Ix := HIx 2) (Val := Elt F) (Name := ℕ) (U := UU) (Lvl := ℕ)).toEmb ((1, (b, (p, 1))) : UU)) : sProp 𝕄)
      ⊢ iprop(BI.own (EB b) ∗ BI.own (EP p)) :=
    BI.own_op_elim ((uEmb (nD := nD) (sig := sig) (Ix := HIx 2) (Val := Elt F) (Name := ℕ) (U := UU) (Lvl := ℕ)).toEmb.op_of_mem
      (Prod.mk_mem_op (URA.mem_one_op (1 : UH)) (Prod.mk_mem_op (URA.mem_op_one b) (URA.mem_one_op (p, (1 : Counters))))))
  exact BI.Entails.trans h1 (sep_mono_right h2)

/-- Every barrier semaphore at zero, out of the free semaphores the launch hands over. -/
theorem sems_b : ((K (F := F)).freeOn (· ∈ bCells) : sProp 𝕄) ⊢ bigSep bCells fun g => semVal g 0 := by
  unfold SparseCore.Cfg.freeOn bCells
  rw [SparseCore.bigSep_image_of_injOn (fun a _ b _ e => bcell₃_injective e)]
  refine sep_elim_right.trans (bigSep_mono fun dci _ => ?_)
  exact bigSep_elim (Φ := fun sm : SemLoc sig => (semVal (V dci.1 dci.2.1 dci.2.2, sm) 0 : sProp 𝕄)) (Finset.mem_filter.mpr
      ⟨Finset.mem_erase.mpr ⟨fun h => sc_bar0_ne_go (SemLoc.reg.inj h), Finset.mem_filter.mpr ⟨Finset.mem_univ _, by decide⟩⟩,
        Finset.mem_image_of_mem bcell₃ (Finset.mem_univ dci)⟩)

/-- The barrier cells' invariants, allocated at once. -/
theorem invs_b : iprop((bigSep bCells fun g => (semVal g 0 : sProp 𝕄)) ∗ bigSep bCells fun g => roundState EB (bRd I) g 0)
    ⊢ |={Set.univ}=> iprop(∃ κ : GSem nD τ sig → ℕ, bigSep bCells fun g => cellInv EB (bRd I) (κ g) g) := by
  refine (Rounds.bodies_intro EB (bRd I) bCells).trans ((inv_alloc_family bCells (Rounds.body EB (bRd I)) ∅ (E := Set.univ)).trans ?_)
  iintro H
  imod H with ⟨%κ, -, Hinv⟩
  imodintro; iexists κ; iexact Hinv

omit [FloatOps F] in
theorem sum_tallyAt_one (g : GSem nD τ sig) (ι : HIx 2) (n : ℕ) : ∑ _ : Fin n, tallyAt g ι 1 = (tallyAt g ι n : CellTallies nD τ sig (HIx 2)) := by
  induction n with
  | zero => rw [tallyAt_zero]; rfl
  | succ n ih => rw [Fin.sum_univ_castSucc, ih, tallyAt_add]

omit [FloatOps F] in
theorem cred_oxV (q : Fin 2) (d : Dev nD) (c : Fin τ.nSC) :
    (bigSep Finset.univ fun _ : Fin τ.nSub => (cred (oxV q d c) : sProp 𝕄)) = bigSep Finset.univ fun j : Fin τ.nSub => cred (tallyAt (bcell d c j) (some q) 16) := by
  unfold oxV
  simp only [SparseCore.Cfg.cred_finsum]
  rw [bigSep_univ_comm]
  refine bigSep_congr fun j _ => ?_
  rw [← SparseCore.Cfg.cred_finsum, sum_tallyAt_one]

/-- The credit for the tiles' debts, regrouped: each tile the sixteen units of its own cell, for each call. -/
theorem creds_b : ((P I).oxCred : sProp 𝕄)
    ⊢ iprop((bigSep Finset.univ fun x : DCI => cred (tallyAt (bcell₃ x) (some (0 : Fin 2)) 16)) ∗ bigSep Finset.univ fun x : DCI => cred (tallyAt (bcell₃ x) (some (1 : Fin 2)) 16)) := by
  unfold SparseCore.Cfg.Pay.oxCred
  rw [SparseCore.Cfg.bigSep_threads (fun thr : Thread nD τ => (cred ((P I).oxFrom 0 thr) : sProp 𝕄))]
  refine sep_elim_right.trans (sep_elim_right.trans ?_)
  have hox : ∀ d c i, (P I).oxFrom 0 (V d c i) = oxV 0 d c + oxV 1 d c := fun d c i => by
    rw [show (0 : ℕ) = (0 : Fin 2).val from rfl, (P I).oxFrom_step, show (0 : Fin 2).val + 1 = (1 : Fin 2).val from rfl, (P I).oxFrom_step,
      (P I).oxFrom_end _ (n := (1 : Fin 2).val + 1) le_rfl, add_zero]; try rfl
  rw [← bigSep_sep', bigSep_univ_prod, bigSep_univ_prod]
  refine bigSep_mono fun d _ => ?_
  rw [bigSep_univ_prod, bigSep_univ_prod]
  refine bigSep_mono fun c _ => ?_
  simp only [hox, SparseCore.Cfg.cred_add_eq]
  rw [bigSep_sep', bigSep_sep', cred_oxV, cred_oxV]
  exact fun _ hx => hx

omit [FloatOps F] in
theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- What tile `x` puts in every cell of its SparseCore in call `q`. -/
abbrev toksOf (q : Fin 2) (x : DCI) : sProp 𝕄 := bigSep Finset.univ fun j : Fin τ.nSub => dutyTok (EB (F := F)) (bcell x.1 x.2.1 j) q.val x.2.2.val

omit [FloatOps F] in
theorem toks_eq : (bigSep bToks fun x => (dutyTok EB x.1 x.2.1 x.2.2 : sProp 𝕄))
    = iprop((bigSep Finset.univ fun x : DCI => toksOf (F := F) 0 x) ∗ bigSep Finset.univ fun x : DCI => toksOf (F := F) 1 x) := by
  unfold bToks
  rw [SparseCore.bigSep_image_of_injOn, SparseCore.bigSep_product, ← bigSep_sep']
  · refine bigSep_congr fun x _ => ?_
    rw [SparseCore.bigSep_product, bigSep_two]
  rintro ⟨⟨d, c, i⟩, r, j⟩ - ⟨⟨d', c', i'⟩, r', j'⟩ - e
  have e1 := (Prod.mk.inj (Prod.mk.inj e).1).1
  have e2 : i.val = i'.val := (Prod.mk.inj (Prod.mk.inj e).2).2
  have e3 : r.val = r'.val := (Prod.mk.inj (Prod.mk.inj e).2).1
  obtain ⟨rfl, h⟩ := Prod.mk.inj e1
  obtain ⟨rfl, hj⟩ := Proc.scVector.inj h
  obtain rfl : j = j' := hj
  obtain rfl : i = i' := Fin.ext e2
  obtain rfl : r = r' := Fin.ext e3
  rfl

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

theorem Px_V (d : Dev nD) (c : Fin τ.nSC) (i : Fin τ.nSub) :
    (bigSep Finset.univ fun q : Fin 2 => (P I).x q (V d c i)) = iprop((bkit I 0 d c i ∗ bpos 0 d c i) ∗ bkit I 1 d c i) := bigSep_two _
theorem Px_T (d : Dev nD) : (bigSep Finset.univ fun q : Fin 2 => (P I).x q (SparseCore.T d)) = iprop(emp) := bigSep_emp' (F := F) _
theorem Px_S (d : Dev nD) (c : Fin τ.nSC) : (bigSep Finset.univ fun q : Fin 2 => (P I).x q (S d c)) = iprop(emp) := bigSep_emp' (F := F) _

/-- What every tile is handed alike. -/
abbrev shared : sProp 𝕄 :=
  iprop((∃ κ : GSem nD τ sig → ℕ, bigSep Finset.univ fun x : DCI => cellInv EB (bRd I) (κ (bcell₃ x)) (bcell₃ x))
    ∗ bigSep Finset.univ fun x : DCI => reached (EB (F := F)) (bcell₃ x) 0)
/-- What each tile is handed of its own. -/
abbrev mine (x : DCI) : sProp 𝕄 :=
  iprop(atPos EB (bcell₃ x) 0 ∅ 0 ∗ (toksOf 0 x ∗ toksOf 1 x) ∗ (cred (tallyAt (bcell₃ x) (some (0 : Fin 2)) 16) ∗ cred (tallyAt (bcell₃ x) (some (1 : Fin 2)) 16)))

/-- A family over all the tiles has the family over one SparseCore's. -/
theorem bigSep_core {Φ : DCI → sProp 𝕄} [hp : BI.Persistent (bigSep Finset.univ Φ)] (d : Dev nD) (c : Fin τ.nSC) :
    bigSep Finset.univ Φ ⊢ bigSep Finset.univ fun j : Fin τ.nSub => Φ (d, c, j) :=
  bigSep_intro_persistent fun j _ => bigSep_elim (Finset.mem_univ _)

theorem kit_intro (x : DCI) : iprop(shared I ∗ mine (F := F) x)
    ⊢ (iprop((bkit I 0 x.1 x.2.1 x.2.2 ∗ bpos 0 x.1 x.2.1 x.2.2) ∗ bkit I 1 x.1 x.2.1 x.2.2) : sProp 𝕄) := by
  obtain ⟨d, c, i⟩ := x
  iintro ⟨⟨⟨%κ, #Hinv⟩, #Hr⟩, Hat, ⟨Ht0, Ht1⟩, Hc0, Hc1⟩
  ihave #Hinv' := (bigSep_core (Φ := fun x : DCI => cellInv EB (bRd I) (κ (bcell₃ x)) (bcell₃ x)) d c) $$ Hinv
  ihave #Hr' := (bigSep_core (Φ := fun x : DCI => reached (EB (F := F)) (bcell₃ x) 0) d c) $$ Hr
  unfold bkit bpos
  isplitr [Ht1 Hc1]
  · isplitl [Ht0 Hc0]
    · isplitr; · iexists κ; iexact Hinv'
      isplitl [Ht0]; · iexact Ht0
      iexact Hc0
    isplitr; · iexact Hr'
    iexact Hat
  isplitr; · iexists κ; iexact Hinv'
  isplitl [Ht1]; · iexact Ht1
  iexact Hc1

/-- The pipelines' own ghost state on device `d`. -/
abbrev G (d : Dev nD) : sProp 𝕄 :=
  iprop((bigSep Finset.univ fun p : Fin 2 => Pipeline.cellsGhost (Pipeline.pin (pcfgs (F := F)) aAdm) EP p d)
    ∗ bigSep Finset.univ fun p : Fin 2 => Pipeline.toksInit (Pipeline.pin (pcfgs (F := F)) aAdm) EP p d)

theorem hu₀ : iprop(ownU (u₀ (F := F)) ∗ (P I).oxCred ∗ (K (F := F)).freeOn (· ∈ bCells))
    ⊢ |={Set.univ}=> iprop(BI.own (EH (initOf (K (F := F)).hsCells (K (F := F)).hsToks)) ∗ (bigSep Finset.univ fun d : Dev nD => G (F := F) d)
        ∗ (bigSep Finset.univ fun thr : Thread nD τ => bigSep Finset.univ fun q : Fin 2 => (P I).x q thr) : sProp 𝕄) := by
  unfold u₀
  iintro ⟨Hu, Hcred, Hfree⟩
  ihave H := (ownU_split _ _ _) $$ Hu
  icases H with ⟨HH, HB, HP⟩
  imod (Rounds.fund EB (bRd I) bCells bToks) $$ HB with ⟨Hst, #Hr, Hat, Htok⟩
  imod (Pipeline.fund_ghost (Pipeline.pin (pcfgs (F := F)) aAdm) EP cellOf_inj) $$ HP with ⟨Hcg, Htg⟩
  ihave Hsems := (sems_b (F := F)) $$ Hfree
  imod (invs_b I) $$ [Hsems Hst] with ⟨%κ, #Hinv⟩
  · isplitl [Hsems] <;> iassumption
  ihave Hcred' := (creds_b I) $$ Hcred
  icases Hcred' with ⟨Hc0, Hc1⟩
  ihave #Hinv' := (Entails.of_eq (bCells_eq (F := F) fun g => cellInv EB (bRd I) (κ g) g)) $$ Hinv
  ihave #Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  icases Htok' with ⟨Ht0, Ht1⟩
  imodintro
  isplitl [HH]; · iexact HH
  isplitl [Hcg Htg]
  · unfold G
    rw [bigSep_sep']
    isplitl [Hcg]; · iexact Hcg
    iexact Htg
  rw [SparseCore.Cfg.bigSep_threads (fun thr : Thread nD τ => bigSep Finset.univ fun q : Fin 2 => (P I).x q thr)]
  simp only [Px_T, Px_S, Px_V, bigSep_emp']
  isplitr; · iempintro
  isplitr; · iempintro
  iapply (bigSep_share (R := shared I) (Φ := mine (F := F)) fun x _ => kit_intro I x)
  isplitr
  · isplitl; · iexists κ; iexact Hinv'
    iexact Hr'
  unfold mine
  rw [bigSep_sep', bigSep_sep', bigSep_sep', bigSep_sep']
  isplitl [Hat']; · iexact Hat'
  isplitl [Ht0 Ht1]
  · isplitl [Ht0]; · iexact Ht0
    iexact Ht1
  isplitl [Hc0]; · iexact Hc0
  iexact Hc1

end Cert.Proof
-- ==== Proof.Split.lean ====
/-
  The two SparseCore calls' arrays over the cores, tiles and chunks: the index list and the result, whole, are the pieces the
  chunks hold, and the chunks' pieces are the arrays whole again.
-/
module

public import proofs.«01_k».proof.Proof.Deal

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose)

variable {F : FTy → Type} [FloatOps F]

local notation "𝕄" => MT nD τ sig (HIx 2) (Elt F) ℕ UU ℕ

open Idealize.ShloMosaic.SparseCore (S V T)

variable (I : Inp F)

/-! ## Call 0 -/

abbrev Ix0 : Type := Fin τ.nSC × (Fin τ.nSub × Fin k0_t1_loop.trips)
abbrev iSet0 (t : Ix0) : Finset S20480.Idx := (iCh0 (co0 t.1 t.2.1) t.2.2).view.set
abbrev oSet0 (t : Ix0) : Finset S1024x384.Idx := (oCh0 (co0 t.1 t.2.1) t.2.2).view.set

theorem trips0 (k : Fin k0_t1_loop.trips) : k.val < 4 := lt_of_lt_of_le k.isLt (by decide)
theorem trips0_ge {n : ℕ} (h : n < 4) : n < k0_t1_loop.trips := lt_of_lt_of_le h (by decide)

theorem mem_iSet0 (t : Ix0) (y : S20480.Idx) : y ∈ iSet0 t ↔
    1280 * t.2.1.val + 640 * t.1.val + 160 * t.2.2.val ≤ (y 0).val ∧ (y 0).val < 1280 * t.2.1.val + 640 * t.1.val + 160 * t.2.2.val + 160 := by
  rw [show iSet0 t = (Rect.unit (s := S20480) (k0_off1 (co0 t.1 t.2.1) t.2.2) S160.size (k0_off1_inb _ _)).set from View.set_slice_whole _ _, Rect.mem_set_unit]
  constructor
  · intro h
    have := h 0
    rw [k0_off1_eq] at this
    exact this
  · intro h a
    fin_cases a
    rw [k0_off1_eq]
    exact h

theorem mem_oSet0 (t : Ix0) (y : S1024x384.Idx) : y ∈ oSet0 t ↔
    64 * t.2.1.val + 32 * t.1.val + 8 * t.2.2.val ≤ (y 0).val ∧ (y 0).val < 64 * t.2.1.val + 32 * t.1.val + 8 * t.2.2.val + 8 := by
  have h1 : (y 1).val < 384 := (y 1).isLt
  rw [show oSet0 t = (Rect.unit (s := S1024x384) (k0_off2 (co0 t.1 t.2.1) t.2.2) S8x384.size (k0_off2_inb _ _)).set from View.set_slice_whole _ _, Rect.mem_set_unit]
  constructor
  · intro h
    have := h 0
    rw [k0_off2_eq] at this
    exact this
  · intro h a
    rw [k0_off2_eq]
    fin_cases a
    · exact h
    · exact ⟨Nat.zero_le _, show (y 1).val < 0 + 384 by omega⟩

theorem ix0_eq (t t' : Ix0) (x : ℕ) (h : 64 * t.2.1.val + 32 * t.1.val + 8 * t.2.2.val = 64 * t'.2.1.val + 32 * t'.1.val + 8 * t'.2.2.val) : t = t' := by
  obtain ⟨c, i, k⟩ := t
  obtain ⟨c', i', k'⟩ := t'
  have hc : c.val < 2 := c.isLt
  have hc' : c'.val < 2 := c'.isLt
  have hk := trips0 k
  have hk' := trips0 k'
  simp only at h
  have e1 : c = c' := Fin.ext (by omega)
  have e2 : i = i' := Fin.ext (by omega)
  have e3 : k = k' := Fin.ext (by omega)
  rw [e1, e2, e3]

theorem iSet0_disjoint : ∀ t ∈ (Finset.univ : Finset Ix0), ∀ t' ∈ (Finset.univ : Finset Ix0), t ≠ t' → Disjoint (iSet0 t) (iSet0 t') := by
  intro t _ t' _ hn
  rw [Finset.disjoint_left]
  intro y hy hy'
  rw [mem_iSet0] at hy hy'
  exact hn (ix0_eq t t' 0 (by omega))

theorem oSet0_disjoint : ∀ t ∈ (Finset.univ : Finset Ix0), ∀ t' ∈ (Finset.univ : Finset Ix0), t ≠ t' → Disjoint (oSet0 t) (oSet0 t') := by
  intro t _ t' _ hn
  rw [Finset.disjoint_left]
  intro y hy hy'
  rw [mem_oSet0] at hy hy'
  exact hn (ix0_eq t t' 0 (by omega))

theorem ix0_cover (x : ℕ) (h : x < 1024) : ∃ t : Ix0, 64 * t.2.1.val + 32 * t.1.val + 8 * t.2.2.val ≤ x ∧ x < 64 * t.2.1.val + 32 * t.1.val + 8 * t.2.2.val + 8 :=
  ⟨(⟨x / 32 % 2, Nat.mod_lt _ (by decide)⟩, (⟨x / 64, show x / 64 < 16 by omega⟩, ⟨x / 8 % 4, trips0_ge (Nat.mod_lt _ (by decide))⟩)),
    by simp only; omega, by simp only; omega⟩

theorem iSet0_cover : (Finset.univ : Finset Ix0).biUnion iSet0 = Finset.univ := by
  ext y
  simp only [Finset.mem_biUnion, Finset.mem_univ, true_and, iff_true]
  have h : (y 0).val < 20480 := (y 0).isLt
  obtain ⟨t, h1, h2⟩ := ix0_cover ((y 0).val / 20) (by omega)
  exact ⟨t, (mem_iSet0 t y).mpr ⟨by omega, by omega⟩⟩

theorem oSet0_cover : (Finset.univ : Finset Ix0).biUnion oSet0 = Finset.univ := by
  ext y
  simp only [Finset.mem_biUnion, Finset.mem_univ, true_and, iff_true]
  have h : (y 0).val < 1024 := (y 0).isLt
  obtain ⟨t, h1, h2⟩ := ix0_cover (y 0).val (by omega)
  exact ⟨t, (mem_oSet0 t y).mpr ⟨h1, h2⟩⟩

/-- The index list and the result, whole, as every core's chunks. -/
theorem chs0_eq (d : Dev nD) (f : S1024x384.Idx → Elt F .f32) :
    (bigSep Finset.univ fun c : Fin τ.nSC => (chs0 I d c f : sProp 𝕄))
      = iprop(((SparseCore.T d).loc main_v2 ↦{fullShare} I.f2 d) ∗ ((SparseCore.T d).loc main_v3 ↦{fullShare} f)) := by
  have e1 : (((SparseCore.T d).loc main_v2 ↦{fullShare} I.f2 d) : sProp 𝕄)
      = bigSep Finset.univ fun t : Ix0 => ((SparseCore.T d).loc main_v2 ↦[iSet0 t]{fullShare} I.f2 d) := by
    rw [← pointsTo_biUnion Finset.univ (ℓ := (SparseCore.T d).loc main_v2) iSet0 iSet0_disjoint, iSet0_cover]; try rfl
  have e2 : (((SparseCore.T d).loc main_v3 ↦{fullShare} f) : sProp 𝕄)
      = bigSep Finset.univ fun t : Ix0 => ((SparseCore.T d).loc main_v3 ↦[oSet0 t]{fullShare} f) := by
    rw [← pointsTo_biUnion Finset.univ (ℓ := (SparseCore.T d).loc main_v3) oSet0 oSet0_disjoint, oSet0_cover]; try rfl
  rw [e1, e2, ← bigSep_sep', bigSep_univ_prod]
  refine bigSep_congr fun c _ => ?_
  rw [bigSep_univ_prod]
  rfl

/-! ## Call 1 -/

abbrev Ix1 : Type := Fin τ.nSC × (Fin τ.nSub × Fin k1_t1_loop.trips)
abbrev iSet1 (t : Ix1) : Finset S61440.Idx := (iCh1 (co1 t.1 t.2.1) t.2.2).view.set
abbrev oSet1 (t : Ix1) : Finset S3072x384.Idx := (oCh1 (co1 t.1 t.2.1) t.2.2).view.set

theorem trips1 (k : Fin k1_t1_loop.trips) : k.val < 12 := lt_of_lt_of_le k.isLt (by decide)
theorem trips1_ge {n : ℕ} (h : n < 12) : n < k1_t1_loop.trips := lt_of_lt_of_le h (by decide)

theorem mem_iSet1 (t : Ix1) (y : S61440.Idx) : y ∈ iSet1 t ↔
    3840 * t.2.1.val + 1920 * t.1.val + 160 * t.2.2.val ≤ (y 0).val ∧ (y 0).val < 3840 * t.2.1.val + 1920 * t.1.val + 160 * t.2.2.val + 160 := by
  rw [show iSet1 t = (Rect.unit (s := S61440) (k1_off1 (co1 t.1 t.2.1) t.2.2) S160.size (k1_off1_inb _ _)).set from View.set_slice_whole _ _, Rect.mem_set_unit]
  constructor
  · intro h
    have := h 0
    rw [k1_off1_eq] at this
    exact this
  · intro h a
    fin_cases a
    rw [k1_off1_eq]
    exact h

theorem mem_oSet1 (t : Ix1) (y : S3072x384.Idx) : y ∈ oSet1 t ↔
    192 * t.2.1.val + 96 * t.1.val + 8 * t.2.2.val ≤ (y 0).val ∧ (y 0).val < 192 * t.2.1.val + 96 * t.1.val + 8 * t.2.2.val + 8 := by
  have h1 : (y 1).val < 384 := (y 1).isLt
  rw [show oSet1 t = (Rect.unit (s := S3072x384) (k1_off2 (co1 t.1 t.2.1) t.2.2) S8x384.size (k1_off2_inb _ _)).set from View.set_slice_whole _ _, Rect.mem_set_unit]
  constructor
  · intro h
    have := h 0
    rw [k1_off2_eq] at this
    exact this
  · intro h a
    rw [k1_off2_eq]
    fin_cases a
    · exact h
    · exact ⟨Nat.zero_le _, show (y 1).val < 0 + 384 by omega⟩

theorem ix1_eq (t t' : Ix1) (x : ℕ) (h : 192 * t.2.1.val + 96 * t.1.val + 8 * t.2.2.val = 192 * t'.2.1.val + 96 * t'.1.val + 8 * t'.2.2.val) : t = t' := by
  obtain ⟨c, i, k⟩ := t
  obtain ⟨c', i', k'⟩ := t'
  have hc : c.val < 2 := c.isLt
  have hc' : c'.val < 2 := c'.isLt
  have hk := trips1 k
  have hk' := trips1 k'
  simp only at h
  have e1 : c = c' := Fin.ext (by omega)
  have e2 : i = i' := Fin.ext (by omega)
  have e3 : k = k' := Fin.ext (by omega)
  rw [e1, e2, e3]

theorem iSet1_disjoint : ∀ t ∈ (Finset.univ : Finset Ix1), ∀ t' ∈ (Finset.univ : Finset Ix1), t ≠ t' → Disjoint (iSet1 t) (iSet1 t') := by
  intro t _ t' _ hn
  rw [Finset.disjoint_left]
  intro y hy hy'
  rw [mem_iSet1] at hy hy'
  exact hn (ix1_eq t t' 0 (by omega))

theorem oSet1_disjoint : ∀ t ∈ (Finset.univ : Finset Ix1), ∀ t' ∈ (Finset.univ : Finset Ix1), t ≠ t' → Disjoint (oSet1 t) (oSet1 t') := by
  intro t _ t' _ hn
  rw [Finset.disjoint_left]
  intro y hy hy'
  rw [mem_oSet1] at hy hy'
  exact hn (ix1_eq t t' 0 (by omega))

theorem ix1_cover (x : ℕ) (h : x < 3072) : ∃ t : Ix1, 192 * t.2.1.val + 96 * t.1.val + 8 * t.2.2.val ≤ x ∧ x < 192 * t.2.1.val + 96 * t.1.val + 8 * t.2.2.val + 8 :=
  ⟨(⟨x / 96 % 2, Nat.mod_lt _ (by decide)⟩, (⟨x / 192, show x / 192 < 16 by omega⟩, ⟨x / 8 % 12, trips1_ge (Nat.mod_lt _ (by decide))⟩)),
    by simp only; omega, by simp only; omega⟩

theorem iSet1_cover : (Finset.univ : Finset Ix1).biUnion iSet1 = Finset.univ := by
  ext y
  simp only [Finset.mem_biUnion, Finset.mem_univ, true_and, iff_true]
  have h : (y 0).val < 61440 := (y 0).isLt
  obtain ⟨t, h1, h2⟩ := ix1_cover ((y 0).val / 20) (by omega)
  exact ⟨t, (mem_iSet1 t y).mpr ⟨by omega, by omega⟩⟩

theorem oSet1_cover : (Finset.univ : Finset Ix1).biUnion oSet1 = Finset.univ := by
  ext y
  simp only [Finset.mem_biUnion, Finset.mem_univ, true_and, iff_true]
  have h : (y 0).val < 3072 := (y 0).isLt
  obtain ⟨t, h1, h2⟩ := ix1_cover (y 0).val (by omega)
  exact ⟨t, (mem_oSet1 t y).mpr ⟨h1, h2⟩⟩

/-- The index list and the result, whole, as every core's chunks. -/
theorem chs1_eq (d : Dev nD) (f : S3072x384.Idx → Elt F .f32) :
    (bigSep Finset.univ fun c : Fin τ.nSC => (chs1 I d c f : sProp 𝕄))
      = iprop(((SparseCore.T d).loc main_v5 ↦{fullShare} I.f5 d) ∗ ((SparseCore.T d).loc main_v6 ↦{fullShare} f)) := by
  have e1 : (((SparseCore.T d).loc main_v5 ↦{fullShare} I.f5 d) : sProp 𝕄)
      = bigSep Finset.univ fun t : Ix1 => ((SparseCore.T d).loc main_v5 ↦[iSet1 t]{fullShare} I.f5 d) := by
    rw [← pointsTo_biUnion Finset.univ (ℓ := (SparseCore.T d).loc main_v5) iSet1 iSet1_disjoint, iSet1_cover]; try rfl
  have e2 : (((SparseCore.T d).loc main_v6 ↦{fullShare} f) : sProp 𝕄)
      = bigSep Finset.univ fun t : Ix1 => ((SparseCore.T d).loc main_v6 ↦[oSet1 t]{fullShare} f) := by
    rw [← pointsTo_biUnion Finset.univ (ℓ := (SparseCore.T d).loc main_v6) oSet1 oSet1_disjoint, oSet1_cover]; try rfl
  rw [e1, e2, ← bigSep_sep', bigSep_univ_prod]
  refine bigSep_congr fun c _ => ?_
  rw [bigSep_univ_prod]
  rfl

/-- The padded table, one half per SparseCore. -/
theorem table_eq (d : Dev nD) :
    (tLoc d ↦{fullShare} I.tp d : sProp 𝕄) = bigSep Finset.univ fun c : Fin τ.nSC => (tLoc d ↦{hs c} I.tp d) :=
  ShareLeaves.pointsTo_leaves (ℓ := tLoc d) Finset.univ (I.tp d) 1 fullShare

end Cert.Proof

end
-- ==== Proof.Mlp.lean ====
/-
  What one point of the two TensorCore grids computes: the block of logits of 256 batch rows at ten positions, from the
  point's blocks of the seven inputs; and that the ten stores of a body leave exactly that block.
-/
module

public import proofs.«01_k».proof.Proof.Setup
public import Idealize.ShloMosaic.Lib.Pipeline.FrameBody
public import Idealize.ShloMosaic.Lib.Pipeline.RegionArraysS
public import Idealize.ShloMosaic.Lib.Pipeline.Value

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose)

variable {F : FTy → Type} [FloatOps F]

local notation "𝕄" => MT nD τ sig (HIx 2) (Elt F) ℕ UU ℕ

/-! ## A list of unmasked writes that agree with one function -/

theorem canon_eq_of {s : Shape} {e : EltTy} {Val : EltTy → Type} [∀ e, Nonempty (Val e)] (f : s.Idx → Val e) (y : s.Idx) :
    ∀ L : List (View.Piece Val s e), (∀ p ∈ L, ∀ x, p.2 x = f (p.1.emb x)) → (∃ p ∈ L, y ∈ p.1.set) → View.canon L y = f y
  | [], _, h => by obtain ⟨_, hm, _⟩ := h; exact absurd hm List.not_mem_nil
  | p :: L, hL, h => by
    by_cases hy : y ∈ p.1.set
    · obtain ⟨r, w⟩ := p
      obtain ⟨x, rfl⟩ : ∃ x, r.emb x = y := r.exists_idx_of_mem hy
      rw [View.canon_cons_emb]; exact hL _ (List.mem_cons_self ..) x
    · rw [View.canon_cons_of_not_mem p L hy]
      refine canon_eq_of f y L (fun p hp => hL p (List.mem_cons_of_mem _ hp)) ?_
      obtain ⟨p', hm, hy'⟩ := h
      rcases List.mem_cons.mp hm with rfl | hm
      · exact absurd hy' hy
      · exact ⟨p', hm, hy'⟩

/-! ## The block -/

/-- An index of a rank-two shape. -/
abbrev ix2 {a b : Nat} (x : Fin a) (y : Fin b) : (⟨2, ![a, b]⟩ : Shape).Idx :=
  fun | 0 => x | 1 => y

/-- Row `r`'s logits of a block, from the hidden values `h` of all ten rows. -/
def mlpRow (h : FVec F S640x256 .bf16) (x5 : Vec F S1000x64 .bf16) (x6 : Vec F S1000x1 .f32) (r : Fin 10) : FVec F S1000x256 .f32 :=
  addf (matmul dot_S1000x64_S64x256_S1000x256_1_0_0_1_n_n none (shapeCast S1000x64 x5 shapeCasts_S1000x64_S1000x64)
      (fun j : S64x256.Idx => h (ix2 ⟨64 * r.val + (j 0).val, by have := (j 0).isLt; have : (j 0).val < 64 := this; omega⟩ (j 1)))
      (constant S1000x256 .f32 0x00000000#32))
    (broadcastTo S1000x256 (shapeCast S1000x1 x6 shapeCasts_S1000x1_S1000x1) broadcasts_S1000x1_S1000x256)

/-- The block a point writes. -/
def mlpOut (x0 : Vec F S256x384 .f32) (x1 : Vec F S1x304 .f32) (x2 : Vec F S640x384 .bf16) (x3 : Vec F S640x304 .f32) (x4 : Vec F S640x1 .f32)
    (x5 : Vec F S1000x64 .bf16) (x6 : Vec F S1000x1 .f32) : Vec F S10x1000x256 .f32 :=
  fun y => mlpRow (k2_pay4 x3 x1 x0 x2 x4) x5 x6 (y 0) (ix2 (y 1) (y 2))

theorem slice_row (h : FVec F S640x256 .bf16) (r : Fin 10) (hs) :
    extractStridedSlice S64x256 ![64 * r.val, 0] h hs
      = fun j : S64x256.Idx => h (ix2 ⟨64 * r.val + (j 0).val, by have := (j 0).isLt; have : (j 0).val < 64 := this; omega⟩ (j 1)) := by
  funext j
  unfold extractStridedSlice
  refine congrArg h ?_
  funext a; apply Fin.ext
  fin_cases a
  · rfl
  · show 0 + _ = _; simp

theorem cast_row (v : FVec F S1000x256 .f32) (x : S1x1000x256.Idx) :
    shapeCast S1x1000x256 v shapeCasts_S1000x256_S1x1000x256 x = v (ix2 (x 1) (x 2)) := by
  rw [shapeCast_addUnit_apply ![1000, 256]]
  refine congrArg v ?_
  funext a; fin_cases a <;> rfl

/-- A row as the body stores it. -/
theorem pay_row (h : FVec F S640x256 .bf16) (x5 : Vec F S1000x64 .bf16) (x6 : Vec F S1000x1 .f32) (r : Fin 10) (hs) (x : S1x1000x256.Idx) :
    shapeCast S1x1000x256 (addf (matmul dot_S1000x64_S64x256_S1000x256_1_0_0_1_n_n none (shapeCast S1000x64 x5 shapeCasts_S1000x64_S1000x64)
      (extractStridedSlice S64x256 ![64 * r.val, 0] h hs) (constant S1000x256 .f32 0x00000000#32))
      (broadcastTo S1000x256 (shapeCast S1000x1 x6 shapeCasts_S1000x1_S1000x1) broadcasts_S1000x1_S1000x256)) shapeCasts_S1000x256_S1x1000x256 x
      = mlpRow h x5 x6 r (ix2 (x 1) (x 2)) := by
  rw [cast_row, slice_row]; rfl

theorem row_emb (r : Fin 10) (h) (x : S1x1000x256.Idx) (f : Fin 10 → S1000x256.Idx → Elt F .f32) :
    f ((Rect.unit (s := S10x1000x256) ![r.val, 0, 0] S1x1000x256.size h).emb x 0)
      (ix2 ((Rect.unit (s := S10x1000x256) ![r.val, 0, 0] S1x1000x256.size h).emb x 1) ((Rect.unit (s := S10x1000x256) ![r.val, 0, 0] S1x1000x256.size h).emb x 2))
      = f r (ix2 (x 1) (x 2)) := by
  have h0 : (x 0).val < 1 := (x 0).isLt
  have e0 : (Rect.unit (s := S10x1000x256) ![r.val, 0, 0] S1x1000x256.size h).emb x 0 = r :=
    Fin.ext (show r.val + 1 * (x 0).val = r.val by omega)
  have e1 : (Rect.unit (s := S10x1000x256) ![r.val, 0, 0] S1x1000x256.size h).emb x 1 = x 1 :=
    Fin.ext (show 0 + 1 * (x 1).val = (x 1).val by omega)
  have e2 : (Rect.unit (s := S10x1000x256) ![r.val, 0, 0] S1x1000x256.size h).emb x 2 = x 2 :=
    Fin.ext (show 0 + 1 * (x 2).val = (x 2).val by omega)
  rw [e0, e1, e2]

/-- Ten stores, one per row, cover the block. -/
theorem out_cover (w0 w1 w2 w3 w4 w5 w6 w7 w8 w9 : Vec F S1x1000x256 .f32) : ∀ y : S10x1000x256.Idx, ∃ p ∈ ([
    ⟨Rect.unit (s := S10x1000x256) ![9, 0, 0] S1x1000x256.size inb_S10x1000x256_S1x1000x256_9_0_0, w9⟩, ⟨Rect.unit (s := S10x1000x256) ![8, 0, 0] S1x1000x256.size inb_S10x1000x256_S1x1000x256_8_0_0, w8⟩, ⟨Rect.unit (s := S10x1000x256) ![7, 0, 0] S1x1000x256.size inb_S10x1000x256_S1x1000x256_7_0_0, w7⟩, ⟨Rect.unit (s := S10x1000x256) ![6, 0, 0] S1x1000x256.size inb_S10x1000x256_S1x1000x256_6_0_0, w6⟩, ⟨Rect.unit (s := S10x1000x256) ![5, 0, 0] S1x1000x256.size inb_S10x1000x256_S1x1000x256_5_0_0, w5⟩, ⟨Rect.unit (s := S10x1000x256) ![4, 0, 0] S1x1000x256.size inb_S10x1000x256_S1x1000x256_4_0_0, w4⟩, ⟨Rect.unit (s := S10x1000x256) ![3, 0, 0] S1x1000x256.size inb_S10x1000x256_S1x1000x256_3_0_0, w3⟩, ⟨Rect.unit (s := S10x1000x256) ![2, 0, 0] S1x1000x256.size inb_S10x1000x256_S1x1000x256_2_0_0, w2⟩, ⟨Rect.unit (s := S10x1000x256) ![1, 0, 0] S1x1000x256.size inb_S10x1000x256_S1x1000x256_1_0_0, w1⟩, ⟨Rect.unit (s := S10x1000x256) ![0, 0, 0] S1x1000x256.size inb_S10x1000x256_S1x1000x256_0_0_0, w0⟩] : List (View.Piece (Elt F) S10x1000x256 .f32)), y ∈ p.1.set := by
  intro y
  have h1 : (y 1).val < 1000 := (y 1).isLt
  have h2 : (y 2).val < 256 := (y 2).isLt
  have key : ∀ (r : Nat) (h : ∀ a, (![r, 0, 0] : Fin 3 → Nat) a + S1x1000x256.size a ≤ S10x1000x256.size a), (y 0).val = r →
      y ∈ (Rect.unit (s := S10x1000x256) ![r, 0, 0] S1x1000x256.size h).set := by
    intro r h hr
    rw [Rect.mem_set_unit]
    intro a
    fin_cases a
    · show r ≤ (y 0).val ∧ (y 0).val < r + 1; omega
    · show 0 ≤ (y 1).val ∧ (y 1).val < 0 + 1000; omega
    · show 0 ≤ (y 2).val ∧ (y 2).val < 0 + 256; omega
  obtain ⟨r, hr⟩ : ∃ r : Fin 10, r = y 0 := ⟨y 0, rfl⟩
  have hv : (y 0).val = r.val := by rw [hr]
  fin_cases r
  · exact ⟨_, .tail _ (.tail _ (.tail _ (.tail _ (.tail _ (.tail _ (.tail _ (.tail _ (.tail _ (.head _))))))))), key 0 inb_S10x1000x256_S1x1000x256_0_0_0 hv⟩
  · exact ⟨_, .tail _ (.tail _ (.tail _ (.tail _ (.tail _ (.tail _ (.tail _ (.tail _ (.head _)))))))), key 1 inb_S10x1000x256_S1x1000x256_1_0_0 hv⟩
  · exact ⟨_, .tail _ (.tail _ (.tail _ (.tail _ (.tail _ (.tail _ (.tail _ (.head _))))))), key 2 inb_S10x1000x256_S1x1000x256_2_0_0 hv⟩
  · exact ⟨_, .tail _ (.tail _ (.tail _ (.tail _ (.tail _ (.tail _ (.head _)))))), key 3 inb_S10x1000x256_S1x1000x256_3_0_0 hv⟩
  · exact ⟨_, .tail _ (.tail _ (.tail _ (.tail _ (.tail _ (.head _))))), key 4 inb_S10x1000x256_S1x1000x256_4_0_0 hv⟩
  · exact ⟨_, .tail _ (.tail _ (.tail _ (.tail _ (.head _)))), key 5 inb_S10x1000x256_S1x1000x256_5_0_0 hv⟩
  · exact ⟨_, .tail _ (.tail _ (.tail _ (.head _))), key 6 inb_S10x1000x256_S1x1000x256_6_0_0 hv⟩
  · exact ⟨_, .tail _ (.tail _ (.head _)), key 7 inb_S10x1000x256_S1x1000x256_7_0_0 hv⟩
  · exact ⟨_, .tail _ (.head _), key 8 inb_S10x1000x256_S1x1000x256_8_0_0 hv⟩
  · exact ⟨_, .head _, key 9 inb_S10x1000x256_S1x1000x256_9_0_0 hv⟩

/-- The ten stores leave `mlpOut`, when each stores its row. -/
theorem out_canon (h : FVec F S640x256 .bf16) (x5 : Vec F S1000x64 .bf16) (x6 : Vec F S1000x1 .f32) (w0 w1 w2 w3 w4 w5 w6 w7 w8 w9 : Vec F S1x1000x256 .f32)
    (e0 : ∀ x, w0 x = mlpRow h x5 x6 0 (ix2 (x 1) (x 2)))
    (e1 : ∀ x, w1 x = mlpRow h x5 x6 1 (ix2 (x 1) (x 2)))
    (e2 : ∀ x, w2 x = mlpRow h x5 x6 2 (ix2 (x 1) (x 2)))
    (e3 : ∀ x, w3 x = mlpRow h x5 x6 3 (ix2 (x 1) (x 2)))
    (e4 : ∀ x, w4 x = mlpRow h x5 x6 4 (ix2 (x 1) (x 2)))
    (e5 : ∀ x, w5 x = mlpRow h x5 x6 5 (ix2 (x 1) (x 2)))
    (e6 : ∀ x, w6 x = mlpRow h x5 x6 6 (ix2 (x 1) (x 2)))
    (e7 : ∀ x, w7 x = mlpRow h x5 x6 7 (ix2 (x 1) (x 2)))
    (e8 : ∀ x, w8 x = mlpRow h x5 x6 8 (ix2 (x 1) (x 2)))
    (e9 : ∀ x, w9 x = mlpRow h x5 x6 9 (ix2 (x 1) (x 2))) :
    View.canon ([⟨Rect.unit (s := S10x1000x256) ![9, 0, 0] S1x1000x256.size inb_S10x1000x256_S1x1000x256_9_0_0, w9⟩, ⟨Rect.unit (s := S10x1000x256) ![8, 0, 0] S1x1000x256.size inb_S10x1000x256_S1x1000x256_8_0_0, w8⟩, ⟨Rect.unit (s := S10x1000x256) ![7, 0, 0] S1x1000x256.size inb_S10x1000x256_S1x1000x256_7_0_0, w7⟩, ⟨Rect.unit (s := S10x1000x256) ![6, 0, 0] S1x1000x256.size inb_S10x1000x256_S1x1000x256_6_0_0, w6⟩, ⟨Rect.unit (s := S10x1000x256) ![5, 0, 0] S1x1000x256.size inb_S10x1000x256_S1x1000x256_5_0_0, w5⟩, ⟨Rect.unit (s := S10x1000x256) ![4, 0, 0] S1x1000x256.size inb_S10x1000x256_S1x1000x256_4_0_0, w4⟩, ⟨Rect.unit (s := S10x1000x256) ![3, 0, 0] S1x1000x256.size inb_S10x1000x256_S1x1000x256_3_0_0, w3⟩, ⟨Rect.unit (s := S10x1000x256) ![2, 0, 0] S1x1000x256.size inb_S10x1000x256_S1x1000x256_2_0_0, w2⟩, ⟨Rect.unit (s := S10x1000x256) ![1, 0, 0] S1x1000x256.size inb_S10x1000x256_S1x1000x256_1_0_0, w1⟩, ⟨Rect.unit (s := S10x1000x256) ![0, 0, 0] S1x1000x256.size inb_S10x1000x256_S1x1000x256_0_0_0, w0⟩] : List (View.Piece (Elt F) S10x1000x256 .f32))
      = fun y => mlpRow h x5 x6 (y 0) (ix2 (y 1) (y 2)) := by
  funext y
  refine canon_eq_of (fun y => mlpRow h x5 x6 (y 0) (ix2 (y 1) (y 2))) y _ ?_ (out_cover _ _ _ _ _ _ _ _ _ _ y)
  simp only [List.mem_cons, List.not_mem_nil, or_false, forall_eq_or_imp, forall_eq]
  exact ⟨fun x => (e9 x).trans (row_emb 9 _ x (mlpRow h x5 x6)).symm, fun x => (e8 x).trans (row_emb 8 _ x (mlpRow h x5 x6)).symm, fun x => (e7 x).trans (row_emb 7 _ x (mlpRow h x5 x6)).symm, fun x => (e6 x).trans (row_emb 6 _ x (mlpRow h x5 x6)).symm, fun x => (e5 x).trans (row_emb 5 _ x (mlpRow h x5 x6)).symm, fun x => (e4 x).trans (row_emb 4 _ x (mlpRow h x5 x6)).symm, fun x => (e3 x).trans (row_emb 3 _ x (mlpRow h x5 x6)).symm, fun x => (e2 x).trans (row_emb 2 _ x (mlpRow h x5 x6)).symm, fun x => (e1 x).trans (row_emb 1 _ x (mlpRow h x5 x6)).symm, fun x => (e0 x).trans (row_emb 0 _ x (mlpRow h x5 x6)).symm⟩

end Cert.Proof

end
-- ==== Proof.Mlp2.lean ====
/-
  The TensorCore grid of 8 points, custom call 2: one point's body, run once at symbolic staging buffers, leaves its inputs as
  they were and its output block at `mlpOut` of them; the proof data of the pipeline, and its body obligation.
-/
module

public import proofs.«01_k».proof.Proof.Mlp

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose)

variable {F : FTy → Type} [FloatOps F]

local notation "𝕄" => MT nD τ sig (HIx 2) (Elt F) ℕ UU ℕ

set_option maxHeartbeats 4000000 in
/-- The body on whole staging buffers: the inputs stay, the output ends at `mlpOut` of them. -/
theorem sound2 (c : Dev nD) (E : Set ℕ) (i : grid2.Coords) (arg2 : Memref sig .tc .vmem S256x384 .f32) (harg2 : arg2.IsWhole) (arg3 : Memref sig .tc .vmem S1x304 .f32) (harg3 : arg3.IsWhole) (arg4 : Memref sig .tc .vmem S640x384 .bf16) (harg4 : arg4.IsWhole) (arg5 : Memref sig .tc .vmem S640x304 .f32) (harg5 : arg5.IsWhole) (arg6 : Memref sig .tc .vmem S640x1 .f32) (harg6 : arg6.IsWhole) (arg7 : Memref sig .tc .vmem S1000x64 .bf16) (harg7 : arg7.IsWhole) (arg8 : Memref sig .tc .vmem S1000x1 .f32) (harg8 : arg8.IsWhole) (arg9 : Memref sig .tc .vmem S10x1000x256 .f32) (harg9 : arg9.IsWhole)
    (x0 : Vec F S256x384 .f32) (x1 : Vec F S1x304 .f32) (x2 : Vec F S640x384 .bf16) (x3 : Vec F S640x304 .f32) (x4 : Vec F S640x1 .f32) (x5 : Vec F S1000x64 .bf16) (x6 : Vec F S1000x1 .f32) (K : PUnit → sProp 𝕄) :
    iprop((owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ (∃ d, owns c arg9 fullShare d))
        ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg9 fullShare (mlpOut x0 x1 x2 x3 x4 x5 x6)) -∗ K ⟨⟩))
      ⊢ wp frame (wpE (defs₀ (F := F)) Variants.none c none) E (cc2__mlp_body i arg2 harg2 arg3 harg3 arg4 harg4 arg5 harg5 arg6 harg6 arg7 harg7 arg8 harg8 arg9 harg9) K := by
  simp only [cc2__mlp_body_eq_skeleton]; unfold cc2__mlp_body_skel
  simp only [k2_part1_eq_skeleton, k2_part2_eq_skeleton, k2_part3_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (out_cover _ _ _ _ _ _ _ _ _ _)).trans ?_
  have hz : (![0, 0] : Fin 2 → Nat) = fun _ => 0 := by funext a; fin_cases a <;> rfl
  have l0 : ∀ X : Vec F S256x384 .f32, View.ld X (Rect.unit (s := S256x384) ![0, 0] ![256, 384] inb_S256x384_S256x384_0_0) = X := fun X => View.ld_unit_zero (S := S256x384) hz _ X
  have l1 : ∀ X : Vec F S1x304 .f32, View.ld X (Rect.unit (s := S1x304) ![0, 0] ![1, 304] inb_S1x304_S1x304_0_0) = X := fun X => View.ld_unit_zero (S := S1x304) hz _ X
  have l2 : ∀ X : Vec F S640x384 .bf16, View.ld X (Rect.unit (s := S640x384) ![0, 0] ![640, 384] inb_S640x384_S640x384_0_0) = X := fun X => View.ld_unit_zero (S := S640x384) hz _ X
  have l3 : ∀ X : Vec F S640x304 .f32, View.ld X (Rect.unit (s := S640x304) ![0, 0] ![640, 304] inb_S640x304_S640x304_0_0) = X := fun X => View.ld_unit_zero (S := S640x304) hz _ X
  have l4 : ∀ X : Vec F S640x1 .f32, View.ld X (Rect.unit (s := S640x1) ![0, 0] ![640, 1] inb_S640x1_S640x1_0_0) = X := fun X => View.ld_unit_zero (S := S640x1) hz _ X
  have l5 : ∀ X : Vec F S1000x64 .bf16, View.ld X (Rect.unit (s := S1000x64) ![0, 0] ![1000, 64] inb_S1000x64_S1000x64_0_0) = X := fun X => View.ld_unit_zero (S := S1000x64) hz _ X
  have l6 : ∀ X : Vec F S1000x1 .f32, View.ld X (Rect.unit (s := S1000x1) ![0, 0] ![1000, 1] inb_S1000x1_S1000x1_0_0) = X := fun X => View.ld_unit_zero (S := S1000x1) hz _ X
  delta sound2.sl.r sound2.sl.r_1 sound2.sl.r_2 sound2.sl.r_3
  simp only [View.readAt_eq_ld, l0, l1, l2, l3, l4, l5, l6]
  exact out_canon _ _ _ _ _ _ _ _ _ _ _ _ _ (pay_row _ _ _ 0 slices_S640x256_o0_0_S64x256) (pay_row _ _ _ 1 slices_S640x256_o64_0_S64x256) (pay_row _ _ _ 2 slices_S640x256_o128_0_S64x256) (pay_row _ _ _ 3 slices_S640x256_o192_0_S64x256) (pay_row _ _ _ 4 slices_S640x256_o256_0_S64x256) (pay_row _ _ _ 5 slices_S640x256_o320_0_S64x256) (pay_row _ _ _ 6 slices_S640x256_o384_0_S64x256) (pay_row _ _ _ 7 slices_S640x256_o448_0_S64x256) (pay_row _ _ _ 8 slices_S640x256_o512_0_S64x256) (pay_row _ _ _ 9 slices_S640x256_o576_0_S64x256)

/-! ## The pipeline's proof data -/

/-- Window `w`'s block at point `t` of the contents `X`. -/
def iblk2 (X : Valuation τ sig (Elt F)) (c : Dev nD) (w : Fin cfg2.W) (t : Fin cfg2.N) : ((cfg2.win w).xblock (cfg2.grid.coords t)).Idx → Elt F (cfg2.win w).elt :=
  ((cfg2.win w).blk t).view.read (Elt F) (X (Proc.devRef .tc (Pipeline.arrRef spec2 w)))

/-- The arrays as the region finds them; after a point's body each input's buffer at its block, the output's at `mlpOut` of them. -/
def dat2 (X : Valuation τ sig (Elt F)) (c : Dev nD) : Dat τ (Elt F) (HIx 2) ℕ UU ℕ cfg2 c where
  A w := X (Proc.devRef .tc (Pipeline.arrRef spec2 w))
  after w t := match w with
    | ⟨0, _⟩ => iblk2 X c 0 t
    | ⟨1, _⟩ => iblk2 X c 1 t
    | ⟨2, _⟩ => iblk2 X c 2 t
    | ⟨3, _⟩ => iblk2 X c 3 t
    | ⟨4, _⟩ => iblk2 X c 4 t
    | ⟨5, _⟩ => iblk2 X c 5 t
    | ⟨6, _⟩ => iblk2 X c 6 t
    | ⟨7, _⟩ => mlpOut (iblk2 X c 0 t) (iblk2 X c 1 t) (iblk2 X c 2 t) (iblk2 X c 3 t) (iblk2 X c 4 t) (iblk2 X c 5 t) (iblk2 X c 6 t)
  Φ _ := Pipeline.scopedRest cfg2.spec c
  q _ := fullShare
  owed _ := 0
  recorded _ := {p | (K (F := F)).lev (SparseCore.T c, p.1) p.2 ≤ 16}

theorem before2_0 (X : Valuation τ sig (Elt F)) (c : Dev nD) (t : Fin cfg2.N) (d) : (dat2 X c).before 0 t d = iblk2 X c 0 t :=
  ((dat2 X c).before_in_eq_fetched 0 rfl (fun _ => rfl) (fun _ _ _ => rfl) (fun _ => rfl) t d).trans rfl

theorem before2_1 (X : Valuation τ sig (Elt F)) (c : Dev nD) (t : Fin cfg2.N) (d) : (dat2 X c).before 1 t d = iblk2 X c 1 t :=
  ((dat2 X c).before_in_eq_fetched 1 rfl (fun _ => rfl) (fun _ _ _ => rfl) (fun _ => rfl) t d).trans rfl

theorem before2_2 (X : Valuation τ sig (Elt F)) (c : Dev nD) (t : Fin cfg2.N) (d) : (dat2 X c).before 2 t d = iblk2 X c 2 t :=
  ((dat2 X c).before_in_eq_fetched 2 rfl (fun _ => rfl) (fun _ _ _ => rfl) (fun _ => rfl) t d).trans rfl

theorem before2_3 (X : Valuation τ sig (Elt F)) (c : Dev nD) (t : Fin cfg2.N) (d) : (dat2 X c).before 3 t d = iblk2 X c 3 t :=
  ((dat2 X c).before_in_eq_fetched 3 rfl (fun _ => rfl) (fun _ _ _ => rfl) (fun _ => rfl) t d).trans rfl

theorem before2_4 (X : Valuation τ sig (Elt F)) (c : Dev nD) (t : Fin cfg2.N) (d) : (dat2 X c).before 4 t d = iblk2 X c 4 t :=
  ((dat2 X c).before_in_eq_fetched 4 rfl (fun _ => rfl) (fun _ _ _ => rfl) (fun _ => rfl) t d).trans rfl

theorem before2_5 (X : Valuation τ sig (Elt F)) (c : Dev nD) (t : Fin cfg2.N) (d) : (dat2 X c).before 5 t d = iblk2 X c 5 t :=
  ((dat2 X c).before_in_eq_fetched 5 rfl (fun _ => rfl) (fun _ _ _ => rfl) (fun _ => rfl) t d).trans rfl

theorem before2_6 (X : Valuation τ sig (Elt F)) (c : Dev nD) (t : Fin cfg2.N) (d) : (dat2 X c).before 6 t d = iblk2 X c 6 t :=
  ((dat2 X c).before_in_eq_fetched 6 rfl (fun _ => rfl) (fun _ _ _ => rfl) (fun _ => rfl) t d).trans rfl

theorem row2 (t : Fin cfg2.N) : defs₀ (F := F) .tc cfg2.body (cfg2.bodyArgs t (cfg2.slots t)) = bodyAt2 t := by
  rfl

/-- The body obligation at every point. -/
theorem body2 (X : Valuation τ sig (Elt F)) (c : Dev nD) : BodyObligation (dat2 X c) (defs₀ (F := F)) Variants.none none Set.univ := fun t => by
  rw [bigSep_W2, bigSep_W2, row2, show (dat2 X c).Φ t.succ = (dat2 X c).Φ t.castSucc from rfl,
    show (dat2 X c).owesAt none t.succ = (dat2 X c).owesAt none t.castSucc from rfl]
  simp only [before2_0, before2_1, before2_2, before2_3, before2_4, before2_5, before2_6]
  show _ ⊢ wp frame (wpE (defs₀ (F := F)) Variants.none c none) Set.univ (bodyAt2 t) _
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  iapply (sound2 c Set.univ _ _ _ _ _ _ _ _ _ _ _ _ _ _ _ _ _ (iblk2 X c 0 t) (iblk2 X c 1 t) (iblk2 X c 2 t) (iblk2 X c 3 t) (iblk2 X c 4 t) (iblk2 X c 5 t) (iblk2 X c 6 t) _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  iintro ⟨H0, H1, H2, H3, H4, H5, H6, H7⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Proof

end
-- ==== Proof.Mlp3.lean ====
/-
  The TensorCore grid of 24 points, custom call 3: one point's body, run once at symbolic staging buffers, leaves its inputs as
  they were and its output block at `mlpOut` of them; the proof data of the pipeline, and its body obligation.
-/
module

public import proofs.«01_k».proof.Proof.Mlp

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose)

variable {F : FTy → Type} [FloatOps F]

local notation "𝕄" => MT nD τ sig (HIx 2) (Elt F) ℕ UU ℕ

set_option maxHeartbeats 4000000 in
/-- The body on whole staging buffers: the inputs stay, the output ends at `mlpOut` of them. -/
theorem sound3 (c : Dev nD) (E : Set ℕ) (i : grid3.Coords) (arg2 : Memref sig .tc .vmem S256x384 .f32) (harg2 : arg2.IsWhole) (arg3 : Memref sig .tc .vmem S1x304 .f32) (harg3 : arg3.IsWhole) (arg4 : Memref sig .tc .vmem S640x384 .bf16) (harg4 : arg4.IsWhole) (arg5 : Memref sig .tc .vmem S640x304 .f32) (harg5 : arg5.IsWhole) (arg6 : Memref sig .tc .vmem S640x1 .f32) (harg6 : arg6.IsWhole) (arg7 : Memref sig .tc .vmem S1000x64 .bf16) (harg7 : arg7.IsWhole) (arg8 : Memref sig .tc .vmem S1000x1 .f32) (harg8 : arg8.IsWhole) (arg9 : Memref sig .tc .hbm S20x1000x4096 .f32) (harg9 : arg9.IsWhole) (arg10 : Memref sig .tc .vmem S10x1000x256 .f32) (harg10 : arg10.IsWhole)
    (x0 : Vec F S256x384 .f32) (x1 : Vec F S1x304 .f32) (x2 : Vec F S640x384 .bf16) (x3 : Vec F S640x304 .f32) (x4 : Vec F S640x1 .f32) (x5 : Vec F S1000x64 .bf16) (x6 : Vec F S1000x1 .f32) (K : PUnit → sProp 𝕄) :
    iprop((owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ (∃ d, owns c arg10 fullShare d))
        ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare x6 ∗ owns c arg10 fullShare (mlpOut x0 x1 x2 x3 x4 x5 x6)) -∗ K ⟨⟩))
      ⊢ wp frame (wpE (defs₀ (F := F)) Variants.none c none) E (cc3__mlp_body2 i arg2 harg2 arg3 harg3 arg4 harg4 arg5 harg5 arg6 harg6 arg7 harg7 arg8 harg8 arg9 harg9 arg10 harg10) K := by
  simp only [cc3__mlp_body2_eq_skeleton]; unfold cc3__mlp_body2_skel
  simp only [k3_part1_eq_skeleton, k3_part2_eq_skeleton, k3_part3_eq_skeleton]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (out_cover _ _ _ _ _ _ _ _ _ _)).trans ?_
  have hz : (![0, 0] : Fin 2 → Nat) = fun _ => 0 := by funext a; fin_cases a <;> rfl
  have l0 : ∀ X : Vec F S256x384 .f32, View.ld X (Rect.unit (s := S256x384) ![0, 0] ![256, 384] inb_S256x384_S256x384_0_0) = X := fun X => View.ld_unit_zero (S := S256x384) hz _ X
  have l1 : ∀ X : Vec F S1x304 .f32, View.ld X (Rect.unit (s := S1x304) ![0, 0] ![1, 304] inb_S1x304_S1x304_0_0) = X := fun X => View.ld_unit_zero (S := S1x304) hz _ X
  have l2 : ∀ X : Vec F S640x384 .bf16, View.ld X (Rect.unit (s := S640x384) ![0, 0] ![640, 384] inb_S640x384_S640x384_0_0) = X := fun X => View.ld_unit_zero (S := S640x384) hz _ X
  have l3 : ∀ X : Vec F S640x304 .f32, View.ld X (Rect.unit (s := S640x304) ![0, 0] ![640, 304] inb_S640x304_S640x304_0_0) = X := fun X => View.ld_unit_zero (S := S640x304) hz _ X
  have l4 : ∀ X : Vec F S640x1 .f32, View.ld X (Rect.unit (s := S640x1) ![0, 0] ![640, 1] inb_S640x1_S640x1_0_0) = X := fun X => View.ld_unit_zero (S := S640x1) hz _ X
  have l5 : ∀ X : Vec F S1000x64 .bf16, View.ld X (Rect.unit (s := S1000x64) ![0, 0] ![1000, 64] inb_S1000x64_S1000x64_0_0) = X := fun X => View.ld_unit_zero (S := S1000x64) hz _ X
  have l6 : ∀ X : Vec F S1000x1 .f32, View.ld X (Rect.unit (s := S1000x1) ![0, 0] ![1000, 1] inb_S1000x1_S1000x1_0_0) = X := fun X => View.ld_unit_zero (S := S1000x1) hz _ X
  delta sound3.sl.r sound3.sl.r_1 sound3.sl.r_2 sound3.sl.r_3
  simp only [View.readAt_eq_ld, l0, l1, l2, l3, l4, l5, l6]
  exact out_canon _ _ _ _ _ _ _ _ _ _ _ _ _ (pay_row _ _ _ 0 slices_S640x256_o0_0_S64x256) (pay_row _ _ _ 1 slices_S640x256_o64_0_S64x256) (pay_row _ _ _ 2 slices_S640x256_o128_0_S64x256) (pay_row _ _ _ 3 slices_S640x256_o192_0_S64x256) (pay_row _ _ _ 4 slices_S640x256_o256_0_S64x256) (pay_row _ _ _ 5 slices_S640x256_o320_0_S64x256) (pay_row _ _ _ 6 slices_S640x256_o384_0_S64x256) (pay_row _ _ _ 7 slices_S640x256_o448_0_S64x256) (pay_row _ _ _ 8 slices_S640x256_o512_0_S64x256) (pay_row _ _ _ 9 slices_S640x256_o576_0_S64x256)

/-! ## The pipeline's proof data -/

/-- Window `w`'s block at point `t` of the contents `X`. -/
def iblk3 (X : Valuation τ sig (Elt F)) (c : Dev nD) (w : Fin cfg3.W) (t : Fin cfg3.N) : ((cfg3.win w).xblock (cfg3.grid.coords t)).Idx → Elt F (cfg3.win w).elt :=
  ((cfg3.win w).blk t).view.read (Elt F) (X (Proc.devRef .tc (Pipeline.arrRef spec3 w)))

/-- The arrays as the region finds them; after a point's body each input's buffer at its block, the output's at `mlpOut` of them. -/
def dat3 (X : Valuation τ sig (Elt F)) (c : Dev nD) : Dat τ (Elt F) (HIx 2) ℕ UU ℕ cfg3 c where
  A w := X (Proc.devRef .tc (Pipeline.arrRef spec3 w))
  after w t := match w with
    | ⟨0, _⟩ => iblk3 X c 0 t
    | ⟨1, _⟩ => iblk3 X c 1 t
    | ⟨2, _⟩ => iblk3 X c 2 t
    | ⟨3, _⟩ => iblk3 X c 3 t
    | ⟨4, _⟩ => iblk3 X c 4 t
    | ⟨5, _⟩ => iblk3 X c 5 t
    | ⟨6, _⟩ => iblk3 X c 6 t
    | ⟨7, _⟩ => mlpOut (iblk3 X c 0 t) (iblk3 X c 1 t) (iblk3 X c 2 t) (iblk3 X c 3 t) (iblk3 X c 4 t) (iblk3 X c 5 t) (iblk3 X c 6 t)
  Φ _ := Pipeline.scopedRest cfg3.spec c
  q _ := fullShare
  owed _ := 0
  recorded _ := {p | (K (F := F)).lev (SparseCore.T c, p.1) p.2 ≤ 16}

theorem before3_0 (X : Valuation τ sig (Elt F)) (c : Dev nD) (t : Fin cfg3.N) (d) : (dat3 X c).before 0 t d = iblk3 X c 0 t :=
  ((dat3 X c).before_in_eq_fetched 0 rfl (fun _ => rfl) (fun _ _ _ => rfl) (fun _ => rfl) t d).trans rfl

theorem before3_1 (X : Valuation τ sig (Elt F)) (c : Dev nD) (t : Fin cfg3.N) (d) : (dat3 X c).before 1 t d = iblk3 X c 1 t :=
  ((dat3 X c).before_in_eq_fetched 1 rfl (fun _ => rfl) (fun _ _ _ => rfl) (fun _ => rfl) t d).trans rfl

theorem before3_2 (X : Valuation τ sig (Elt F)) (c : Dev nD) (t : Fin cfg3.N) (d) : (dat3 X c).before 2 t d = iblk3 X c 2 t :=
  ((dat3 X c).before_in_eq_fetched 2 rfl (fun _ => rfl) (fun _ _ _ => rfl) (fun _ => rfl) t d).trans rfl

theorem before3_3 (X : Valuation τ sig (Elt F)) (c : Dev nD) (t : Fin cfg3.N) (d) : (dat3 X c).before 3 t d = iblk3 X c 3 t :=
  ((dat3 X c).before_in_eq_fetched 3 rfl (fun _ => rfl) (fun _ _ _ => rfl) (fun _ => rfl) t d).trans rfl

theorem before3_4 (X : Valuation τ sig (Elt F)) (c : Dev nD) (t : Fin cfg3.N) (d) : (dat3 X c).before 4 t d = iblk3 X c 4 t :=
  ((dat3 X c).before_in_eq_fetched 4 rfl (fun _ => rfl) (fun _ _ _ => rfl) (fun _ => rfl) t d).trans rfl

theorem before3_5 (X : Valuation τ sig (Elt F)) (c : Dev nD) (t : Fin cfg3.N) (d) : (dat3 X c).before 5 t d = iblk3 X c 5 t :=
  ((dat3 X c).before_in_eq_fetched 5 rfl (fun _ => rfl) (fun _ _ _ => rfl) (fun _ => rfl) t d).trans rfl

theorem before3_6 (X : Valuation τ sig (Elt F)) (c : Dev nD) (t : Fin cfg3.N) (d) : (dat3 X c).before 6 t d = iblk3 X c 6 t :=
  ((dat3 X c).before_in_eq_fetched 6 rfl (fun _ => rfl) (fun _ _ _ => rfl) (fun _ => rfl) t d).trans rfl

theorem row3 (t : Fin cfg3.N) : defs₀ (F := F) .tc cfg3.body (cfg3.bodyArgs t (cfg3.slots t)) = bodyAt3 t := by
  rfl

/-- The body obligation at every point. -/
theorem body3 (X : Valuation τ sig (Elt F)) (c : Dev nD) : BodyObligation (dat3 X c) (defs₀ (F := F)) Variants.none none Set.univ := fun t => by
  rw [bigSep_W3, bigSep_W3, row3, show (dat3 X c).Φ t.succ = (dat3 X c).Φ t.castSucc from rfl,
    show (dat3 X c).owesAt none t.succ = (dat3 X c).owesAt none t.castSucc from rfl]
  simp only [before3_0, before3_1, before3_2, before3_3, before3_4, before3_5, before3_6]
  show _ ⊢ wp frame (wpE (defs₀ (F := F)) Variants.none c none) Set.univ (bodyAt3 t) _
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩⟩
  iapply (sound3 c Set.univ _ _ _ _ _ _ _ _ _ _ _ _ _ _ _ _ _ _ _ (iblk3 X c 0 t) (iblk3 X c 1 t) (iblk3 X c 2 t) (iblk3 X c 3 t) (iblk3 X c 4 t) (iblk3 X c 5 t) (iblk3 X c 6 t) _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  iintro ⟨H0, H1, H2, H3, H4, H5, H6, H7⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Proof

end
-- ==== Proof.Regs.lean ====
/-
  The two TensorCore regions as segments: entered and left with the thread's recorded waits below the calls' levels, so the
  TensorCore's state between SparseCore calls survives them.
-/
module

public import proofs.«01_k».proof.Proof.Mlp2
public import proofs.«01_k».proof.Proof.Mlp3
public import proofs.«01_k».proof.Proof.Deal

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose)

variable {F : FTy → Type} [FloatOps F]

local notation "𝕄" => MT nD τ sig (HIx 2) (Elt F) ℕ UU ℕ

/-- The two pipelines' proof data. -/
def pdats (V2 V3 : Valuation τ sig (Elt F)) : (p : Fin 2) → (c : Dev nD) → Dat τ (Elt F) (HIx 2) ℕ UU ℕ (Pipeline.pin (pcfgs (F := F)) aAdm p) c
  | ⟨0, _⟩, c => dat2 V2 c
  | ⟨1, _⟩, c => dat3 V3 c

/-- What the TensorCore owes between and after the calls' handshakes, its recorded waits below level 16. -/
def owed16 (c : Dev nD) : sProp 𝕄 :=
  iprop(∃ W, ⌜(K (F := F)).WBelow (SparseCore.T c) W 16⌝ ∗ owes (SparseCore.T c) (0 : CellTallies nD τ sig (HIx 2)) W)

section
variable (V2 V3 : Valuation τ sig (Elt F)) (p : Fin 2)

theorem owesAt_intro (c : Dev nD) (t) (h0 : (pdats V2 V3 p c).owed t = 0)
    (hr : (pdats V2 V3 p c).recorded t = {p | (K (F := F)).lev (SparseCore.T c, p.1) p.2 ≤ 16}) :
    (owed16 c : sProp 𝕄) ⊢ (pdats V2 V3 p c).owesAt none t := by
  unfold owed16 Pipeline.Dat.owesAt Pipeline.owesWithin Pipeline.Dat.bound; rw [h0, hr]
  iintro ⟨%W, %hW, HO⟩; iexists W; isplitr; · ipureintro; exact fun x hx => Or.inl (hW x hx)
  iexact HO

theorem owesAt_elim (c : Dev nD) (t) (h0 : (pdats V2 V3 p c).owed t = 0)
    (hr : (pdats V2 V3 p c).recorded t = {p | (K (F := F)).lev (SparseCore.T c, p.1) p.2 ≤ 16}) :
    ((pdats V2 V3 p c).owesAt none t : sProp 𝕄) ⊢ owed16 c := by
  unfold owed16 Pipeline.Dat.owesAt Pipeline.owesWithin Pipeline.Dat.bound; rw [h0, hr]
  iintro ⟨%W, %hW, HO⟩; iexists W; isplitr
  · ipureintro
    intro x hx
    rcases hW hx with h | ⟨w, s, rfl⟩
    · exact h
    · exact Nat.zero_le _
  iexact HO

/-- The segment of pipeline `p`, from its launch facts and its body obligation. -/
def seg (kit : Pipeline.PLaunchFacts (nD := nD) (τ := τ) (pcfgs (F := F)) p) (hK : (pcfgs (F := F) p).pre.K = 0)
    (hbody : ∀ c, BodyObligationLoose (pdats V2 V3 p c) (defs₀ (F := F)) 𝒱₀ none Set.univ)
    (h0 : ∀ c t, (pdats V2 V3 p c).owed t = 0)
    (hr : ∀ c t, (pdats V2 V3 p c).recorded t = {p | (K (F := F)).lev (SparseCore.T c, p.1) p.2 ≤ 16})
    (hshare : ∀ c w, (pdats V2 V3 p c).share w = fullShare)
    (hΦ : ∀ c t, (pdats V2 V3 p c).Φ t = Pipeline.scopedRest (Pipeline.pin (pcfgs (F := F)) aAdm p).spec c)
    (W W' : Dev nD → Valuation τ sig (Elt F))
    (hW : ∀ c w, (pdats V2 V3 p c).arrAt w 0 = W c (Proc.devRef .tc (Pipeline.arrRef (Pipeline.pin (pcfgs (F := F)) aAdm p).spec w)))
    (hW' : ∀ c w, (pdats V2 V3 p c).arrAt w (Pipeline.pin (pcfgs (F := F)) aAdm p).N
      = W' c (Proc.devRef .tc (Pipeline.arrRef (Pipeline.pin (pcfgs (F := F)) aAdm p).spec w))) :
    Pipeline.RegionSeg (pcfgs (F := F)) aAdm (pdats V2 V3) none (defs₀ (F := F)) 𝒱₀ (K (F := F)).L (K (F := F)).lev p where
  win := kit.to₀.win
  block_pos := kit.to₀.block_pos
  stage_whole := kit.to₀.stage_whole
  K := PEmpty
  osem k := k.elim
  ho := Pipeline.OwnSemFacts.none _
  hbody := hbody
  hwaits := Pipeline.hwaits_of_owed_zero _ _ _ _ (K (F := F)).L (K (F := F)).lev p h0
  pre c := iprop(StableHlo.held (c.tc : Thread nD τ) (Pipeline.arrRefs (pcfgs (F := F) p).spec) (W c) ∗ owed16 c)
  post c := iprop(StableHlo.held (c.tc : Thread nD τ) (Pipeline.arrRefs (pcfgs (F := F) p).spec) (W' c) ∗ owed16 c)
  X _ := BI.emp
  Y _ := BI.emp
  Z _ := BI.emp
  hentry c := by
    rw [Pipeline.ownSems0_none, Pipeline.prefHeld_of_none _ hK,
      ← Pipeline.arrays_held (pcfgs (F := F)) aAdm (pdats V2 V3) p kit c (hshare c) ((pdats V2 V3 p c).arrAt · 0) (W c) (hW c)]
    iintro ⟨⟨Ha, HO⟩, -, -⟩
    imodintro
    isplitl [Ha]; · iexact Ha
    isplitr; · iempintro
    isplitl [HO]; · iapply (owesAt_intro V2 V3 p c 0 (h0 c 0) (hr c 0)); iexact HO
    isplitr <;> iempintro
  hin c := by
    rw [hΦ]; iintro ⟨-, -, H⟩; iexact H
  hout c := by
    rw [hΦ, Pipeline.ownSems0_none]
    iintro H
    isplitr; · iempintro
    isplitr; · iempintro
    iexact H
  hexit c := by
    rw [← Pipeline.arrays_held (pcfgs (F := F)) aAdm (pdats V2 V3) p kit c (hshare c) ((pdats V2 V3 p c).arrAt · (Pipeline.pin (pcfgs (F := F)) aAdm p).N) (W' c) (hW' c)]
    iintro ⟨Ha, HO, -, -⟩
    imodintro
    isplitl [Ha]; · iexact Ha
    iapply (owesAt_elim V2 V3 p c _ (h0 c _) (hr c _)); iexact HO

end

/-- Contents after the region of custom call 2, entered at `X`. -/
abbrev aft2 (X : Valuation τ sig (Elt F)) (c : Dev nD) : Valuation τ sig (Elt F) := Pipeline.afterRegion (dat2 X c) X
abbrev aft3 (X : Valuation τ sig (Elt F)) (c : Dev nD) : Valuation τ sig (Elt F) := Pipeline.afterRegion (dat3 X c) X

theorem spec_pin0 : (Pipeline.pin (pcfgs (F := F)) aAdm 0).spec = cfg2.spec := rfl

theorem phi0 (V2 V3 : Valuation τ sig (Elt F)) (c : Dev nD) (t) :
    (pdats V2 V3 0 c).Φ t = Pipeline.scopedRest (Pipeline.pin (pcfgs (F := F)) aAdm 0).spec c :=
  (show (pdats V2 V3 0 c).Φ t = Pipeline.scopedRest cfg2.spec c from rfl).trans
    (congrArg (fun s => Pipeline.scopedRest (Ix := HIx 2) (Name := ℕ) (U := UU) (Lvl := ℕ) (Val := Elt F) s c) (spec_pin0 (F := F)).symm)

def seg0 (V2 V3 : Valuation τ sig (Elt F)) :=
  seg V2 V3 0 (Pipeline.LaunchFacts.toP (Val := Elt F) launch2) rfl (fun c => (body2 V2 c).loose) (fun _ _ => rfl) (fun _ _ => rfl) (fun c w => by fin_cases w <;> rfl)
    (phi0 V2 V3) (fun _ => V2) (fun c => aft2 V2 c) (fun _ _ => rfl) (fun c w => (Pipeline.afterRegion_arr (dat2 V2 c) V2 launch2.win.arr_inj w).symm)

theorem spec_pin1 : (Pipeline.pin (pcfgs (F := F)) aAdm 1).spec = cfg3.spec := rfl

theorem phi1 (V2 V3 : Valuation τ sig (Elt F)) (c : Dev nD) (t) :
    (pdats V2 V3 1 c).Φ t = Pipeline.scopedRest (Pipeline.pin (pcfgs (F := F)) aAdm 1).spec c :=
  (show (pdats V2 V3 1 c).Φ t = Pipeline.scopedRest cfg3.spec c from rfl).trans
    (congrArg (fun s => Pipeline.scopedRest (Ix := HIx 2) (Name := ℕ) (U := UU) (Lvl := ℕ) (Val := Elt F) s c) (spec_pin1 (F := F)).symm)

def seg1 (V2 V3 : Valuation τ sig (Elt F)) :=
  seg V2 V3 1 (Pipeline.LaunchFacts.toP (Val := Elt F) launch3) rfl (fun c => (body3 V3 c).loose) (fun _ _ => rfl) (fun _ _ => rfl) (fun c w => by fin_cases w <;> rfl)
    (phi1 V2 V3) (fun _ => V3) (fun c => aft3 V3 c) (fun _ _ => rfl) (fun c w => (Pipeline.afterRegion_arr (dat3 V3 c) V3 launch3.win.arr_inj w).symm)

end Cert.Proof

end
-- ==== Proof.Steps.lean ====
/- # The steps of the main function

A line of host operations, a gather and a dense kernel, each run from the TensorCore's launch buffers at named contents. -/
module

public import proofs.«01_k».proof.Proof.Host
public import proofs.«01_k».proof.Proof.Split
public import proofs.«01_k».proof.Proof.Regs

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose)

variable {F : FTy → Type} [FloatOps F]

local notation "𝕄" => MT nD τ sig (HIx 2) (Elt F) ℕ UU ℕ

/-- The TensorCore's launch buffers at contents `V`. -/
abbrev H (d : Dev nD) (V : Valuation τ sig (Elt F)) : sProp 𝕄 := StableHlo.held (SparseCore.T d) (Pipeline.ucRefs τ sig) V

/-- A line of host operations, run. -/
theorem wp_line (d : Dev nD) (ops : List (HloOp τ sig (Elt F))) (hs : InTc ops) (hf : NoFresh ops) (V : Valuation τ sig (Elt F))
    (Φ : PUnit → sProp 𝕄) :
    iprop(boundary (SparseCore.T d) ∗ H d V ∗ (iprop(boundary (SparseCore.T d) ∗ H d (StableHlo.after ops V)) -∗ Φ ⟨⟩))
      ⊢ wp frame (wpE ((K (F := F)).defs (D (F := F))) 𝒱 (SparseCore.T d) none) Set.univ
          (StableHlo.seq ops : Prog (TpuEff nD τ sig (Elt F) (SparseCore.Sig (ΛP (F := F)) 2) .tc) PUnit) Φ := by
  iintro ⟨Hb, HH, Hk⟩
  rw [show (StableHlo.seq ops : Prog (TpuEff nD τ sig (Elt F) (SparseCore.Sig (ΛP (F := F)) 2) .tc) PUnit)
    = StableHlo.seq ops >>= fun _ => pure ⟨⟩ from (bind_pure _).symm]
  iapply (StableHlo.wp_seq 𝒱 none Set.univ d (Pipeline.ucRefs τ sig) _ ops
    (fun op h => Pipeline.sub_ucRefs op ((List.forall_iff_forall_mem.mp hs) op h))
    (fun op h => (List.forall_iff_forall_mem.mp hf) op h) V) $$ [Hb HH]
  · isplitl [Hb]; · iexact Hb
    iexact HH
  iintro Hb
  rw [wp_pure]
  imodintro
  iapply Hk; iexact Hb

/-- Three launch buffers taken out of the rest. -/
theorem held_three (d : Dev nD) (V : Valuation τ sig (Elt F)) (a b c : Ref sig .tc) (ha : a.isScoped = false) (hb : b.isScoped = false)
    (hc : c.isScoped = false) (hab : a ≠ b) (hac : a ≠ c) (hbc : b ≠ c) :
    (H d V : sProp 𝕄) = iprop((((d, Proc.devRef .tc a) ↦{fullShare} V (Proc.devRef .tc a)) ∗ ((d, Proc.devRef .tc b) ↦{fullShare} V (Proc.devRef .tc b))
        ∗ ((d, Proc.devRef .tc c) ↦{fullShare} V (Proc.devRef .tc c)))
      ∗ StableHlo.held (SparseCore.T d) (Pipeline.ucRefs τ sig \ {Proc.devRef .tc a, Proc.devRef .tc b, Proc.devRef .tc c}) V) := by
  have hm : ∀ r : Ref sig .tc, r.isScoped = false → (Proc.devRef .tc r : DevRef τ sig) ∈ Pipeline.ucRefs τ sig := fun r hr =>
    Finset.mem_filter.mpr ⟨StableHlo.devRef_mem_tcRefs r, fun h' => Bool.false_ne_true (hr.symm.trans h')⟩
  have hne : ∀ r r' : Ref sig .tc, r ≠ r' → (Proc.devRef .tc r : DevRef τ sig) ≠ Proc.devRef .tc r' := fun r r' h e => h (Proc.devRef_injective _ e)
  have hT : ({Proc.devRef .tc a, Proc.devRef .tc b, Proc.devRef .tc c} : Finset (DevRef τ sig)) ⊆ Pipeline.ucRefs τ sig := by
    intro x hx
    simp only [Finset.mem_insert, Finset.mem_singleton] at hx
    rcases hx with rfl | rfl | rfl
    · exact hm a ha
    · exact hm b hb
    · exact hm c hc
  unfold H
  rw [StableHlo.held_sub_split (SparseCore.T d) hT V]
  congr 1
  unfold StableHlo.held
  rw [bigSep_insert (by
      simp only [Finset.mem_insert, Finset.mem_singleton, not_or]; exact ⟨hne _ _ hab, hne _ _ hac⟩),
    bigSep_insert (by simp only [Finset.mem_singleton]; exact hne _ _ hbc), bigSep_singleton]
  rfl

/-- Off the updated buffer nothing changes. -/
theorem held_update (d : Dev nD) (V : Valuation τ sig (Elt F)) (a b c : Ref sig .tc) (ha : a.isScoped = false) (hb : b.isScoped = false)
    (hc : c.isScoped = false) (hab : a ≠ b) (hac : a ≠ c) (hbc : b ≠ c) (X : (Proc.devRef .tc c : DevRef τ sig).ty.Contents (Elt F)) :
    (H d (Function.update V (Proc.devRef .tc c) X) : sProp 𝕄) = iprop((((d, Proc.devRef .tc a) ↦{fullShare} V (Proc.devRef .tc a)) ∗ ((d, Proc.devRef .tc b) ↦{fullShare} V (Proc.devRef .tc b))
        ∗ ((d, Proc.devRef .tc c) ↦{fullShare} X))
      ∗ StableHlo.held (SparseCore.T d) (Pipeline.ucRefs τ sig \ {Proc.devRef .tc a, Proc.devRef .tc b, Proc.devRef .tc c}) V) := by
  have hne : ∀ r r' : Ref sig .tc, r ≠ r' → (Proc.devRef .tc r : DevRef τ sig) ≠ Proc.devRef .tc r' := fun r r' h e => h (Proc.devRef_injective _ e)
  rw [held_three d _ a b c ha hb hc hab hac hbc, Function.update_self, Function.update_of_ne (hne _ _ hac), Function.update_of_ne (hne _ _ hbc)]
  congr 1
  refine StableHlo.held_congr _ fun x hx => ?_
  rw [Function.update_of_ne]
  rintro rfl
  exact (Finset.mem_sdiff.mp hx).2 (by simp)

variable (I : Inp F)

theorem st0_join (d : Dev nD) :
    iprop((tLoc d ↦{fullShare} I.tp d) ∗ ((SparseCore.T d).loc main_v2 ↦{fullShare} I.f2 d) ∗ ((SparseCore.T d).loc main_v3 ↦{fullShare} I.f3 d))
      ⊢ (bigSep Finset.univ fun c : Fin τ.nSC => stP I 0 d c : sProp 𝕄) := by
  unfold stP
  rw [bigSep_sep', chs0_eq, ← table_eq]

theorem dn0_split (d : Dev nD) :
    (bigSep Finset.univ fun c : Fin τ.nSC => dnP I 0 d c : sProp 𝕄)
      ⊢ iprop((tLoc d ↦{fullShare} I.tp d) ∗ ((SparseCore.T d).loc main_v2 ↦{fullShare} I.f2 d) ∗ ((SparseCore.T d).loc main_v3 ↦{fullShare} res0 I d)
          ∗ (bigSep Finset.univ fun c : Fin τ.nSC => mid (F := F) d c)) := by
  unfold dnP
  rw [bigSep_sep', bigSep_sep', chs0_eq, ← table_eq]
  iintro ⟨Ht, ⟨Hi, Ho⟩, Hm⟩
  isplitl [Ht]; · iexact Ht
  isplitl [Hi]; · iexact Hi
  isplitl [Ho]; · iexact Ho
  iexact Hm

theorem st1_join (d : Dev nD) :
    iprop((tLoc d ↦{fullShare} I.tp d) ∗ ((SparseCore.T d).loc main_v5 ↦{fullShare} I.f5 d) ∗ ((SparseCore.T d).loc main_v6 ↦{fullShare} I.f6 d)
        ∗ (bigSep Finset.univ fun c : Fin τ.nSC => mid (F := F) d c))
      ⊢ (bigSep Finset.univ fun c : Fin τ.nSC => stP I 1 d c : sProp 𝕄) := by
  unfold stP
  rw [bigSep_sep', bigSep_sep', chs1_eq, ← table_eq]
  iintro ⟨Ht, Hi, Ho, Hm⟩
  isplitl [Ht]; · iexact Ht
  isplitr [Hm]
  · isplitl [Hi]; · iexact Hi
    iexact Ho
  iexact Hm

theorem dn1_split (d : Dev nD) :
    (bigSep Finset.univ fun c : Fin τ.nSC => dnP I 1 d c : sProp 𝕄)
      ⊢ iprop((tLoc d ↦{fullShare} I.tp d) ∗ ((SparseCore.T d).loc main_v5 ↦{fullShare} I.f5 d) ∗ ((SparseCore.T d).loc main_v6 ↦{fullShare} res1 I d)
          ∗ (bigSep Finset.univ fun c : Fin τ.nSC => bars (F := F) d c)) := by
  unfold dnP
  rw [bigSep_sep', bigSep_sep', chs1_eq, ← table_eq]
  iintro ⟨Ht, ⟨Hi, Ho⟩, Hm⟩
  isplitl [Ht]; · iexact Ht
  isplitl [Hi]; · iexact Hi
  isplitl [Ho]; · iexact Ho
  iexact Hm

/-- Call 0: from the padded table, its indices and its output, to the output at its gathered rows. -/
theorem run0 (κ : GSem nD τ sig → ℕ) (d : Dev nD) (V : Valuation τ sig (Elt F)) (h0 : V (Proc.devRef .tc main_v0) = I.tp d)
    (hi : V (Proc.devRef .tc main_v2) = I.f2 d) (ho : V (Proc.devRef .tc main_v3) = I.f3 d) (Φ : PUnit → sProp 𝕄) :
    iprop((K (F := F)).ctx EH (P I) κ ∗ (K (F := F)).tcSt EH d 0 ∗ H d V
        ∗ (iprop((K (F := F)).tcSt EH d 1 ∗ H d (Function.update V (Proc.devRef .tc main_v3) (res0 I d)) ∗ (bigSep Finset.univ fun c : Fin τ.nSC => mid (F := F) d c)) -∗ Φ ⟨⟩))
      ⊢ wp frame (wpE ((K (F := F)).defs (D (F := F))) 𝒱 (SparseCore.T d) none) Set.univ
          (sc.run d 0 : Prog (TpuEff nD τ sig (Elt F) (SparseCore.Sig (ΛP (F := F)) 2) .tc) PUnit) Φ := by
  rw [held_three d V main_v0 main_v2 main_v3 rfl rfl rfl (by decide) (by decide) (by decide),
    held_update d V main_v0 main_v2 main_v3 rfl rfl rfl (by decide) (by decide) (by decide), h0, hi, ho]
  iintro ⟨#Hctx, Hst, ⟨⟨Ht, Hi, Ho⟩, Hr⟩, Hk⟩
  iapply ((K (F := F)).wp_run (D (F := F)) 𝒱 (EH := EH) (P := P I) κ d 0) $$ [Hst Ht Hi Ho Hr Hk]
  isplitr; · iexact Hctx
  isplitl [Hst]; · iexact Hst
  isplitl [Ht Hi Ho ]
  · iapply (show iprop((tLoc d ↦{fullShare} I.tp d) ∗ ((SparseCore.T d).loc main_v2 ↦{fullShare} I.f2 d) ∗ ((SparseCore.T d).loc main_v3 ↦{fullShare} I.f3 d) )
        ⊢ (bigSep Finset.univ fun c : Fin ((K (F := F)).nCore 0) => (P I).st 0 d c : sProp 𝕄) from st0_join I d)
    isplitl [Ht]; · iexact Ht
    isplitl [Hi]; · iexact Hi
    iexact Ho
  iintro ⟨Hst, Hdn⟩
  ihave Hdn' := (show (bigSep Finset.univ fun c : Fin ((K (F := F)).nCore 0) => (P I).dn 0 d c : sProp 𝕄)
      ⊢ iprop((tLoc d ↦{fullShare} I.tp d) ∗ ((SparseCore.T d).loc main_v2 ↦{fullShare} I.f2 d) ∗ ((SparseCore.T d).loc main_v3 ↦{fullShare} res0 I d)
          ∗ (bigSep Finset.univ fun c : Fin τ.nSC => mid (F := F) d c)) from dn0_split I d) $$ Hdn
  icases Hdn' with ⟨Ht, Hi, Ho, Hm⟩
  iapply Hk
  isplitl [Hst]; · iexact Hst
  isplitr [Hm]
  · isplitr [Hr]
    · isplitl [Ht]; · iexact Ht
      isplitl [Hi]; · iexact Hi
      iexact Ho
    iexact Hr
  iexact Hm

/-- Call 1: from the padded table, its indices and its output, to the output at its gathered rows. -/
theorem run1 (κ : GSem nD τ sig → ℕ) (d : Dev nD) (V : Valuation τ sig (Elt F)) (h0 : V (Proc.devRef .tc main_v0) = I.tp d)
    (hi : V (Proc.devRef .tc main_v5) = I.f5 d) (ho : V (Proc.devRef .tc main_v6) = I.f6 d) (Φ : PUnit → sProp 𝕄) :
    iprop((K (F := F)).ctx EH (P I) κ ∗ (K (F := F)).tcSt EH d 1 ∗ H d V ∗ (bigSep Finset.univ fun c : Fin τ.nSC => mid (F := F) d c)
        ∗ (iprop((K (F := F)).tcSt EH d 2 ∗ H d (Function.update V (Proc.devRef .tc main_v6) (res1 I d)) ∗ (bigSep Finset.univ fun c : Fin τ.nSC => bars (F := F) d c)) -∗ Φ ⟨⟩))
      ⊢ wp frame (wpE ((K (F := F)).defs (D (F := F))) 𝒱 (SparseCore.T d) none) Set.univ
          (sc.run d 1 : Prog (TpuEff nD τ sig (Elt F) (SparseCore.Sig (ΛP (F := F)) 2) .tc) PUnit) Φ := by
  rw [held_three d V main_v0 main_v5 main_v6 rfl rfl rfl (by decide) (by decide) (by decide),
    held_update d V main_v0 main_v5 main_v6 rfl rfl rfl (by decide) (by decide) (by decide), h0, hi, ho]
  iintro ⟨#Hctx, Hst, ⟨⟨Ht, Hi, Ho⟩, Hr⟩, Hm, Hk⟩
  iapply ((K (F := F)).wp_run (D (F := F)) 𝒱 (EH := EH) (P := P I) κ d 1) $$ [Hst Ht Hi Ho Hr Hm Hk]
  isplitr; · iexact Hctx
  isplitl [Hst]; · iexact Hst
  isplitl [Ht Hi Ho Hm ]
  · iapply (show iprop((tLoc d ↦{fullShare} I.tp d) ∗ ((SparseCore.T d).loc main_v5 ↦{fullShare} I.f5 d) ∗ ((SparseCore.T d).loc main_v6 ↦{fullShare} I.f6 d) ∗ (bigSep Finset.univ fun c : Fin τ.nSC => mid (F := F) d c))
        ⊢ (bigSep Finset.univ fun c : Fin ((K (F := F)).nCore 1) => (P I).st 1 d c : sProp 𝕄) from st1_join I d)
    isplitl [Ht]; · iexact Ht
    isplitl [Hi]; · iexact Hi
    isplitl [Ho]; · iexact Ho
    iexact Hm
  iintro ⟨Hst, Hdn⟩
  ihave Hdn' := (show (bigSep Finset.univ fun c : Fin ((K (F := F)).nCore 1) => (P I).dn 1 d c : sProp 𝕄)
      ⊢ iprop((tLoc d ↦{fullShare} I.tp d) ∗ ((SparseCore.T d).loc main_v5 ↦{fullShare} I.f5 d) ∗ ((SparseCore.T d).loc main_v6 ↦{fullShare} res1 I d)
          ∗ (bigSep Finset.univ fun c : Fin τ.nSC => bars (F := F) d c)) from dn1_split I d) $$ Hdn
  icases Hdn' with ⟨Ht, Hi, Ho, Hm⟩
  iapply Hk
  isplitl [Hst]; · iexact Hst
  isplitr [Hm]
  · isplitr [Hr]
    · isplitl [Ht]; · iexact Ht
      isplitl [Hi]; · iexact Hi
      iexact Ho
    iexact Hr
  iexact Hm

/-- After the two gathers the TensorCore owes no handshake. -/
theorem Otc_two (d : Dev nD) : (K (F := F)).Otc d 2 = 0 := by
  unfold SparseCore.Cfg.Otc
  refine Finset.sum_eq_zero fun q _ => if_neg ?_
  have := q.isLt; omega

/-- The TensorCore's state after the two gathers, what it owes apart. -/
theorem tcSt_two (d : Dev nD) : ((K (F := F)).tcSt EH d 2 : sProp 𝕄) = iprop(owed16 d
    ∗ atPos EH ((K (F := F)).doneCell d) 2 ∅ 0 ∗ reached EH ((K (F := F)).doneCell d) 2
    ∗ (bigSep Finset.univ fun c : Fin τ.nSC => reached EH ((K (F := F)).startCell d c) ((K (F := F)).sRank c 2))
    ∗ bigSep (SparseCore.Cfg.callsFrom 2) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1))) := by
  unfold SparseCore.Cfg.tcSt owed16
  rw [Otc_two]
  rfl

/-- Dense kernel 0, entered at contents `V`. -/
theorem reg0 (κ : GSem nD τ sig → ℕ) (d : Dev nD) (V : Valuation τ sig (Elt F)) (Φ : PUnit → sProp 𝕄) :
    iprop((K (F := F)).ctx EH (P I) κ ∗ (K (F := F)).tcSt EH d 2 ∗ boundary (SparseCore.T d) ∗ H d V
        ∗ Pipeline.cellsGhost (Pipeline.pin (pcfgs (F := F)) aAdm) EP 0 d ∗ Pipeline.toksInit (Pipeline.pin (pcfgs (F := F)) aAdm) EP 0 d
        ∗ (iprop((K (F := F)).tcSt EH d 2 ∗ boundary (SparseCore.T d) ∗ H d (aft2 V d)) -∗ Φ ⟨⟩))
      ⊢ wp frame (wpE ((K (F := F)).defs (D (F := F))) 𝒱 (SparseCore.T d) none) Set.univ
          (Prog.lift (.customCall (SparseCore.inner (Pipeline.entry 0)) ()) : Prog (TpuEff nD τ sig (Elt F) (SparseCore.Sig (ΛP (F := F)) 2) .tc) PUnit) Φ := by
  have hS : Pipeline.arrRefs (τ := τ) (pcfgs (F := F) 0).spec ⊆ Pipeline.ucRefs τ sig :=
    Pipeline.arrRefs_sub_ucRefs (pcfgs (F := F) 0).spec fun w => by fin_cases w <;> rfl
  have e2 : (StableHlo.held (SparseCore.T d) (Pipeline.ucRefs τ sig \ Pipeline.arrRefs (τ := τ) (pcfgs (F := F) 0).spec) (aft2 V d) : sProp 𝕄)
      = StableHlo.held (SparseCore.T d) (Pipeline.ucRefs τ sig \ Pipeline.arrRefs (τ := τ) (pcfgs (F := F) 0).spec) V :=
    StableHlo.held_congr _ fun b hb => Pipeline.afterRegion_off (dat2 V d) V (Pipeline.ucRefs τ sig) b hb
  unfold H
  rw [tcSt_two, StableHlo.held_sub_split (SparseCore.T d) hS V, StableHlo.held_sub_split (SparseCore.T d) hS (aft2 V d), e2]
  iintro ⟨#Hctx, ⟨Howe, Hst⟩, Hb, ⟨Ha, Hr⟩, Hc, Ht, Hk⟩
  ihave #Hlev := ((K (F := F)).ctx_levAts (EH := EH) (P := P I) κ) $$ Hctx
  iapply (show wp frame (wpE (D (F := F)) 𝒱 (SparseCore.T d) none) Set.univ
      (.op (.customCall (Pipeline.entry 0) ()) fun _ => .ret ⟨⟩ : Prog (TpuEff nD τ sig (Elt F) (ΛP (F := F)) .tc) PUnit) Φ ⊢ wp frame (wpE ((K (F := F)).defs (D (F := F))) 𝒱 (SparseCore.T d) none) Set.univ
          (Prog.lift (.customCall (SparseCore.inner (Pipeline.entry 0)) ()) : Prog (TpuEff nD τ sig (Elt F) (SparseCore.Sig (ΛP (F := F)) 2) .tc) PUnit) Φ
    from (K (F := F)).wp_liftProg (D (F := F)) 𝒱 (SparseCore.T d) Set.univ none _ Φ)
  have hpre : (seg0 V V).pre d = iprop(StableHlo.held (SparseCore.T d) (Pipeline.arrRefs (τ := τ) (pcfgs (F := F) 0).spec) V ∗ owed16 d) := rfl
  have hpost : (seg0 V V).post d = iprop(StableHlo.held (SparseCore.T d) (Pipeline.arrRefs (τ := τ) (pcfgs (F := F) 0).spec) (aft2 V d) ∗ owed16 d) := rfl
  have hrun := Pipeline.RegionSeg.wp (pcfgs (F := F)) aAdm (pdats V V) none cellOf_inj EP (defs₀ (F := F)) 𝒱₀ (K (F := F)).L (K (F := F)).lev (seg0 V V) d none (fun u hu => nomatch hu) (fun _ => (.ret ⟨⟩ : Prog (TpuEff nD τ sig (Elt F) (ΛP (F := F)) .tc) PUnit)) Φ
  rw [hpre, hpost] at hrun
  iapply hrun
  isplitl [Hst Hr Hk]
  · iintro ⟨Hb, Ha, Howe⟩
    rw [wp_ret]
    imodintro
    iapply Hk
    isplitl [Howe Hst]
    · isplitl [Howe]; · iexact Howe
      iexact Hst
    isplitl [Hb]; · iexact Hb
    isplitl [Ha]; · iexact Ha
    iexact Hr
  isplitl [Hb]; · iexact Hb
  isplitl [Ha Howe]
  · isplitl [Ha]; · iexact Ha
    iexact Howe
  isplitr; · iexact Hlev
  isplitl [Hc]; · iexact Hc
  iexact Ht

/-- Dense kernel 1, entered at contents `V`. -/
theorem reg1 (κ : GSem nD τ sig → ℕ) (d : Dev nD) (V : Valuation τ sig (Elt F)) (Φ : PUnit → sProp 𝕄) :
    iprop((K (F := F)).ctx EH (P I) κ ∗ (K (F := F)).tcSt EH d 2 ∗ boundary (SparseCore.T d) ∗ H d V
        ∗ Pipeline.cellsGhost (Pipeline.pin (pcfgs (F := F)) aAdm) EP 1 d ∗ Pipeline.toksInit (Pipeline.pin (pcfgs (F := F)) aAdm) EP 1 d
        ∗ (iprop((K (F := F)).tcSt EH d 2 ∗ boundary (SparseCore.T d) ∗ H d (aft3 V d)) -∗ Φ ⟨⟩))
      ⊢ wp frame (wpE ((K (F := F)).defs (D (F := F))) 𝒱 (SparseCore.T d) none) Set.univ
          (Prog.lift (.customCall (SparseCore.inner (Pipeline.entry 1)) ()) : Prog (TpuEff nD τ sig (Elt F) (SparseCore.Sig (ΛP (F := F)) 2) .tc) PUnit) Φ := by
  have hS : Pipeline.arrRefs (τ := τ) (pcfgs (F := F) 1).spec ⊆ Pipeline.ucRefs τ sig :=
    Pipeline.arrRefs_sub_ucRefs (pcfgs (F := F) 1).spec fun w => by fin_cases w <;> rfl
  have e2 : (StableHlo.held (SparseCore.T d) (Pipeline.ucRefs τ sig \ Pipeline.arrRefs (τ := τ) (pcfgs (F := F) 1).spec) (aft3 V d) : sProp 𝕄)
      = StableHlo.held (SparseCore.T d) (Pipeline.ucRefs τ sig \ Pipeline.arrRefs (τ := τ) (pcfgs (F := F) 1).spec) V :=
    StableHlo.held_congr _ fun b hb => Pipeline.afterRegion_off (dat3 V d) V (Pipeline.ucRefs τ sig) b hb
  unfold H
  rw [tcSt_two, StableHlo.held_sub_split (SparseCore.T d) hS V, StableHlo.held_sub_split (SparseCore.T d) hS (aft3 V d), e2]
  iintro ⟨#Hctx, ⟨Howe, Hst⟩, Hb, ⟨Ha, Hr⟩, Hc, Ht, Hk⟩
  ihave #Hlev := ((K (F := F)).ctx_levAts (EH := EH) (P := P I) κ) $$ Hctx
  iapply (show wp frame (wpE (D (F := F)) 𝒱 (SparseCore.T d) none) Set.univ
      (.op (.customCall (Pipeline.entry 1) ()) fun _ => .ret ⟨⟩ : Prog (TpuEff nD τ sig (Elt F) (ΛP (F := F)) .tc) PUnit) Φ ⊢ wp frame (wpE ((K (F := F)).defs (D (F := F))) 𝒱 (SparseCore.T d) none) Set.univ
          (Prog.lift (.customCall (SparseCore.inner (Pipeline.entry 1)) ()) : Prog (TpuEff nD τ sig (Elt F) (SparseCore.Sig (ΛP (F := F)) 2) .tc) PUnit) Φ
    from (K (F := F)).wp_liftProg (D (F := F)) 𝒱 (SparseCore.T d) Set.univ none _ Φ)
  have hpre : (seg1 V V).pre d = iprop(StableHlo.held (SparseCore.T d) (Pipeline.arrRefs (τ := τ) (pcfgs (F := F) 1).spec) V ∗ owed16 d) := rfl
  have hpost : (seg1 V V).post d = iprop(StableHlo.held (SparseCore.T d) (Pipeline.arrRefs (τ := τ) (pcfgs (F := F) 1).spec) (aft3 V d) ∗ owed16 d) := rfl
  have hrun := Pipeline.RegionSeg.wp (pcfgs (F := F)) aAdm (pdats V V) none cellOf_inj EP (defs₀ (F := F)) 𝒱₀ (K (F := F)).L (K (F := F)).lev (seg1 V V) d none (fun u hu => nomatch hu) (fun _ => (.ret ⟨⟩ : Prog (TpuEff nD τ sig (Elt F) (ΛP (F := F)) .tc) PUnit)) Φ
  rw [hpre, hpost] at hrun
  iapply hrun
  isplitl [Hst Hr Hk]
  · iintro ⟨Hb, Ha, Howe⟩
    rw [wp_ret]
    imodintro
    iapply Hk
    isplitl [Howe Hst]
    · isplitl [Howe]; · iexact Howe
      iexact Hst
    isplitl [Hb]; · iexact Hb
    isplitl [Ha]; · iexact Ha
    iexact Hr
  isplitl [Hb]; · iexact Hb
  isplitl [Ha Howe]
  · isplitl [Ha]; · iexact Ha
    iexact Howe
  isplitr; · iexact Hlev
  isplitl [Hc]; · iexact Hc
  iexact Ht

end Cert.Proof

end
-- ==== Proof.Main.lean ====
/- # The run of the whole program

The main function from the launch memory to the final contents of every buffer, the launch's conditions, and the run. -/
module

public import proofs.«01_k».proof.Proof.Steps
public import Idealize.ShloMosaic.Lib.StableHlo.RunRead

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose)

variable {F : FTy → Type} [FloatOps F]

local notation "𝕄" => MT nD τ sig (HIx 2) (Elt F) ℕ UU ℕ

/-! ## The contents between the steps -/

section Vals
variable (m : (ℓ : Loc nD τ sig) → Buf (Elt F) ℓ) (d : Dev nD)

/-- At the launch, -/
def V0 : Valuation τ sig (Elt F) := fun b => m (d, b)
/-- before the first gather, -/
def VA : Valuation τ sig (Elt F) := StableHlo.after opsA (V0 m d)

/-- The gathers' operands: what the lines before them leave. -/
def InRange (m : (ℓ : Loc nD τ sig) → Buf (Elt F) ℓ) : Prop :=
  (∀ d x, ((VA m d (Proc.devRef .tc main_v2) : S20480.Idx → Elt F .i32) x).toNat < 1000)
    ∧ ∀ d x, ((StableHlo.after opsB (VA m d) (Proc.devRef .tc main_v5) : S61440.Idx → Elt F .i32) x).toNat < 1000

variable (hm : InRange m)

def inp : Inp F where
  tp d := VA m d (Proc.devRef .tc main_v0)
  f2 d := VA m d (Proc.devRef .tc main_v2)
  f5 d := StableHlo.after opsB (VA m d) (Proc.devRef .tc main_v5)
  f3 d := V0 m d (Proc.devRef .tc main_v3)
  f6 d := V0 m d (Proc.devRef .tc main_v6)
  h2 := hm.1
  h5 := hm.2

/-- after the first gather, -/
def V1 : Valuation τ sig (Elt F) := Function.update (VA m d) (Proc.devRef .tc main_v3) (res0 (inp m hm) d)
/-- before the second, -/
def VB : Valuation τ sig (Elt F) := StableHlo.after opsB (V1 m d hm)
/-- after the second, -/
def V2 : Valuation τ sig (Elt F) := Function.update (VB m d hm) (Proc.devRef .tc main_v6) (res1 (inp m hm) d)
/-- before the first dense kernel, -/
def VC : Valuation τ sig (Elt F) := StableHlo.after opsC (V2 m d hm)
/-- before the second dense kernel, -/
def VD : Valuation τ sig (Elt F) := StableHlo.after opsD (aft2 (VC m d hm) d)
/-- and at the end. -/
def VE : Valuation τ sig (Elt F) := StableHlo.after opsE (aft3 (VD m d hm) d)

theorem devRef_ne {r r' : Ref sig .tc} (h : r ≠ r') : (Proc.devRef .tc r : DevRef τ sig) ≠ Proc.devRef .tc r' :=
  fun e => h (Proc.devRef_injective _ e)

theorem VA_v3 : VA m d (Proc.devRef .tc main_v3) = V0 m d (Proc.devRef .tc main_v3) :=
  StableHlo.after_unwritten opsA_W opsA_writes (by decide) _

theorem VB_off (r : Ref sig .tc) (h : r ∉ opsB_W) (h3 : r ≠ main_v3) : VB m d hm (Proc.devRef .tc r) = VA m d (Proc.devRef .tc r) := by
  unfold VB
  rw [StableHlo.after_unwritten opsB_W opsB_writes h, V1, Function.update_of_ne (devRef_ne h3)]

theorem VB_v0 : VB m d hm (Proc.devRef .tc main_v0) = (inp m hm).tp d := VB_off m d hm main_v0 (by decide) (by decide)

theorem VB_v6 : VB m d hm (Proc.devRef .tc main_v6) = (inp m hm).f6 d :=
  (VB_off m d hm main_v6 (by decide) (by decide)).trans (StableHlo.after_unwritten opsA_W opsA_writes (by decide) _)

/-- The second gather's indices do not depend on what the first one wrote. -/
theorem opsB_v5 (X Y : Valuation τ sig (Elt F)) (h : X (Proc.devRef .tc main_arg0) = Y (Proc.devRef .tc main_arg0)) :
    StableHlo.after opsB X (Proc.devRef .tc main_v5) = StableHlo.after opsB Y (Proc.devRef .tc main_v5) := by
  unfold opsB
  after_results
  rw [h]

theorem VB_v5 : VB m d hm (Proc.devRef .tc main_v5) = (inp m hm).f5 d :=
  opsB_v5 _ _ (Function.update_of_ne (devRef_ne (by decide)) _ _)

/-- The references that the program writes. -/
def written : List (Ref sig .tc) := opsA_W ++ (opsB_W ++ (opsC_W ++ (opsD_W ++ opsE_W))) ++ [main_v3, main_v6, main_v52, main_v53]

theorem aft2_off (X : Valuation τ sig (Elt F)) (r : Ref sig .tc) (h : r ≠ main_v52) : aft2 X d (Proc.devRef .tc r) = X (Proc.devRef .tc r) :=
  Pipeline.afterRegion_keeps (dat2 X d) X launch2.win.arr_inj (fun _ => rfl) r fun w hw => by
    subst hw; fin_cases w <;> first | rfl | exact absurd rfl h

theorem aft3_off (X : Valuation τ sig (Elt F)) (r : Ref sig .tc) (h : r ≠ main_v53) : aft3 X d (Proc.devRef .tc r) = X (Proc.devRef .tc r) :=
  Pipeline.afterRegion_keeps (dat3 X d) X launch3.win.arr_inj (fun _ => rfl) r fun w hw => by
    subst hw; fin_cases w <;> first | rfl | exact absurd rfl h

/-- What the program does not write is at the end as at the launch. -/
theorem VE_keep (r : Ref sig .tc) (h : r ∉ written) : VE m d hm (Proc.devRef .tc r) = m (d, Proc.devRef .tc r) := by
  simp only [written, List.mem_append, List.mem_cons, List.not_mem_nil, or_false, not_or] at h
  obtain ⟨⟨hA, hB, hC, hD, hE⟩, h3, h6, h52, h53⟩ := h
  unfold VE
  rw [StableHlo.after_unwritten opsE_W opsE_writes hE, aft3_off d _ r h53]
  unfold VD
  rw [StableHlo.after_unwritten opsD_W opsD_writes hD, aft2_off d _ r h52]
  unfold VC
  rw [StableHlo.after_unwritten opsC_W opsC_writes hC, V2, Function.update_of_ne (devRef_ne h6), VB_off m d hm r hB h3]
  exact StableHlo.after_unwritten opsA_W opsA_writes hA _

end Vals

/-! ## The main function -/

variable (m : (ℓ : Loc nD τ sig) → Buf (Elt F) ℓ) (hm : InRange m) (ρ : Dev nD → PrngReg)

/-- What the program ends with: the launch buffers at the final contents, the barrier semaphores at zero. -/
def FIN (d : Dev nD) : sProp 𝕄 := iprop(H d (VE m d hm) ∗ bigSep Finset.univ fun c : Fin τ.nSC => bars (F := F) d c)

theorem G_open (d : Dev nD) : (G (F := F) d : sProp 𝕄)
    = iprop((Pipeline.cellsGhost (Pipeline.pin (pcfgs (F := F)) aAdm) EP 0 d ∗ Pipeline.cellsGhost (Pipeline.pin (pcfgs (F := F)) aAdm) EP 1 d)
        ∗ (Pipeline.toksInit (Pipeline.pin (pcfgs (F := F)) aAdm) EP 0 d ∗ Pipeline.toksInit (Pipeline.pin (pcfgs (F := F)) aAdm) EP 1 d)) := by
  unfold G
  rw [show (Finset.univ : Finset (Fin 2)) = {0, 1} from rfl, bigSep_insert (by decide), bigSep_insert (by decide), bigSep_singleton, bigSep_singleton]
  rfl

theorem hmain (κ : GSem nD τ sig → ℕ) (d : Dev nD) :
    iprop((K (F := F)).ctx EH (P (inp m hm)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m hm d ∗ (K (F := F)).tcEnd d) := by
  unfold SparseCore.Cfg.tcRes SparseCore.Cfg.tcEnd FIN
  rw [show (unscopedBufs d (fun b => m ((SparseCore.T d).loc b)) : sProp 𝕄) = H d (V0 m d) from Pipeline.unscopedBufs_held d (V0 m d), G_open, main_eq]
  simp only [wp_bind]
  iintro ⟨#Hctx, Hst, ⟨Hb, HH, Hts, -⟩, ⟨⟨Hc0, Hc1⟩, ⟨Ht0, Ht1⟩⟩⟩
  iapply (wp_line d opsA opsA_sub opsA_fresh (V0 m d)) $$ [-]
  isplitl [Hb]; · iexact Hb
  isplitl [HH]; · iexact HH
  iintro ⟨Hb, HH⟩
  iapply (run0 (inp m hm) κ d (VA m d) rfl rfl (VA_v3 m d)) $$ [-]
  isplitr; · iexact Hctx
  isplitl [Hst]; · iexact Hst
  isplitl [HH]; · iexact HH
  iintro ⟨Hst, HH, Hmid⟩
  iapply (wp_line d opsB opsB_sub opsB_fresh (V1 m d hm)) $$ [-]
  isplitl [Hb]; · iexact Hb
  isplitl [HH]; · iexact HH
  iintro ⟨Hb, HH⟩
  iapply (run1 (inp m hm) κ d (VB m d hm) (VB_v0 m d hm) (VB_v5 m d hm) (VB_v6 m d hm)) $$ [-]
  isplitr; · iexact Hctx
  isplitl [Hst]; · iexact Hst
  isplitl [HH]; · iexact HH
  isplitl [Hmid]; · iexact Hmid
  iintro ⟨Hst, HH, Hbars⟩
  iapply (wp_line d opsC opsC_sub opsC_fresh (V2 m d hm)) $$ [-]
  isplitl [Hb]; · iexact Hb
  isplitl [HH]; · iexact HH
  iintro ⟨Hb, HH⟩
  iapply (reg0 (inp m hm) κ d (VC m d hm)) $$ [-]
  isplitr; · iexact Hctx
  isplitl [Hst]; · iexact Hst
  isplitl [Hb]; · iexact Hb
  isplitl [HH]; · iexact HH
  isplitl [Hc0]; · iexact Hc0
  isplitl [Ht0]; · iexact Ht0
  iintro ⟨Hst, Hb, HH⟩
  iapply (wp_line d opsD opsD_sub opsD_fresh (aft2 (VC m d hm) d)) $$ [-]
  isplitl [Hb]; · iexact Hb
  isplitl [HH]; · iexact HH
  iintro ⟨Hb, HH⟩
  iapply (reg1 (inp m hm) κ d (VD m d hm)) $$ [-]
  isplitr; · iexact Hctx
  isplitl [Hst]; · iexact Hst
  isplitl [Hb]; · iexact Hb
  isplitl [HH]; · iexact HH
  isplitl [Hc1]; · iexact Hc1
  isplitl [Ht1]; · iexact Ht1
  iintro ⟨Hst, Hb, HH⟩
  iapply (wp_line d opsE opsE_sub opsE_fresh (aft3 (VD m d hm) d)) $$ [-]
  isplitl [Hb]; · iexact Hb
  isplitl [HH]; · iexact HH
  iintro ⟨Hb, HH⟩
  isplitl [Hst]; · iexact Hst
  isplitl [HH Hbars]
  · isplitl [HH]; · iexact HH
    iexact Hbars
  isplitl [Hb]; · iexact Hb
  iexact Hts

/-! ## What the final memory holds -/

def fq (d : Dev nD) (s' : Phys nD τ sig (Elt F)) : Prop :=
  (∀ r : Ref sig .tc, r.isScoped = false → s'.mem.mem (d, Proc.devRef .tc r) = VE m d hm (Proc.devRef .tc r))
    ∧ ∀ (c : Fin τ.nSC) (i : Fin τ.nSub), s'.mem.sem (bcell d c i) = 0

theorem hfin_r (d : Dev nD) (V : Valuation τ sig (Elt F)) (s' : Phys nD τ sig (Elt F)) (r : Ref sig .tc) (hr : r.isScoped = false) :
    iprop(H d V ∗ SI s') ⊢ (⌜s'.mem.mem (d, Proc.devRef .tc r) = V (Proc.devRef .tc r)⌝ : sProp 𝕄) := by
  have hm : (Proc.devRef .tc r : DevRef τ sig) ∈ Pipeline.ucRefs τ sig :=
    Finset.mem_filter.mpr ⟨StableHlo.devRef_mem_tcRefs r, fun h' => Bool.false_ne_true (hr.symm.trans h')⟩
  unfold H StableHlo.held
  iintro ⟨Hx, HSI⟩
  ihave Hx' := (show (bigSep (Pipeline.ucRefs τ sig) fun b => ((SparseCore.T d).1, b) ↦{fullShare} V b : sProp 𝕄) ⊢ ((d, Proc.devRef .tc r) ↦{fullShare} V (Proc.devRef .tc r))
    from SparseCore.ent (bigSep_elim hm)) $$ Hx
  ihave H := (SI_pointsTo_agree (st := s') (ℓ := (d, Proc.devRef .tc r)) (I := Finset.univ) (q := fullShare) (f := V (Proc.devRef .tc r))) $$ [HSI Hx']
  · isplitl [HSI] <;> iassumption
  icases H with %hx
  ipureintro; exact funext fun i => hx i (Finset.mem_univ i)

theorem hfin (d : Dev nD) (s' : Phys nD τ sig (Elt F)) : iprop(FIN m hm d ∗ SI s') ⊢ (⌜fq m hm d s'⌝ : sProp 𝕄) :=
  fun x hx => ⟨fun r hr => ((sep_mono_left sep_elim_left).trans (hfin_r d (VE m d hm) s' r hr)) x hx, fun c i =>
    ((sep_mono_left (sep_elim_right.trans ((SparseCore.ent (bigSep_elim (Finset.mem_univ c))).trans (SparseCore.ent (bigSep_elim (Finset.mem_univ i)))))).trans
      (SparseCore.Cfg.semVal_zero_read _ s')) x hx⟩

theorem hA (s' : Phys nD τ sig (Elt F)) (h : ∀ d, fq m hm d s') (g : GSem nD τ sig) (hg : g ∈ bCells) : s'.mem.sem g = 0 := by
  obtain ⟨⟨d, c, i⟩, hx, rfl⟩ := Finset.mem_image.mp hg
  exact (h d).2 c i

/-- Every run of the program ends, with every launch buffer at the final contents and every semaphore at zero. -/
def QC : PUnit × MemSt nD τ sig (Elt F) → Prop :=
  fun r => (∀ (c : Dev nD) (b : Ref sig .tc), b.isScoped = false → r.2.mem (c, Proc.devRef .tc b) = VE m c hm (Proc.devRef .tc b)) ∧ r.2.sem = fun _ => 0

theorem run_main [∀ e, Nonempty (Elt F e)] : θ_run (defs (F := F)) (threads (F := F)) ⟨m, fun _ => 0, ρ⟩ (QC m hm) :=
  SparseCore.Cfg.θ_run_sc_quiescent (K := K (F := F)) (D := D (F := F)) (𝒱 := 𝒱) (EH := EH) (P := P (inp m hm)) (hA := hA m hm) facts v₀
    (fun q hq => match q with | 0 => nomatch hq | 1 => nomatch hq)
    (fun q _ => match q with | 0 => tileObl0 (inp m hm) | 1 => tileObl1 (inp m hm))
    (fun q _ => match q with | 0 => vecSplit0 (inp m hm) | 1 => vecSplit1 (inp m hm))
    m ρ main (G (F := F)) (FIN m hm) (u₀ (F := F)) (hu₀ (inp m hm)) (hmain m hm ρ) (fq m hm) (hfin m hm) (QC m hm) (fun _ h hz => ⟨fun c => (h c).1, hz⟩)

end Cert.Proof

end
-- ==== Proof.Pre.lean ====
/- # The indices are in range

The stated precondition, read as a bound on every index, and carried to the two gathers' operands. -/
module

public import proofs.«01_k».proof.Proof.Main
public import proofs.«01_k».proof.Defs
public import proofs.«01_k».proof.Proof.Gen.Pre_in_vocab
public import Idealize.ShloMosaic.Lib.ReduceAll
public import Idealize.ShloMosaic.Lib.Affine

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose)

variable {F : FTy → Type} [FloatOps F]

local notation "𝕄" => MT nD τ sig (HIx 2) (Elt F) ℕ UU ℕ

/-- The precondition of an index array says that each index lies below 1000. -/
theorem idx_lt (x0 : IVec S4096x20 32) (x1 : FVec F S1001x16 .f32) (x2 : FVec F S320x64 .f32) (x3 : FVec F S64 .f32) (x4 : FVec F S64x1000 .f32)
    (x5 : FVec F S1000 .f32) (h : Cert.Pre_in_vocab.fn (F := F) x0 x1 x2 x3 x4 x5 = fun _ => 1#1) (i : S4096x20.Idx) : (x0 i).toNat < 1000 := by
  have h0 := congrFun h (fun k => k.elim0)
  unfold Cert.Pre_in_vocab.fn at h0
  haveI : Subsingleton Cert.Pre_in_vocab.S_.Idx := ⟨fun a b => funext fun k => k.elim0⟩
  have hi := Host.reduce_andi_all _ _ _ _ _ h0 i
  obtain ⟨ha, hb⟩ := IntOp.andi_eq_one.mp hi
  have ha' := IntOp.cmpi_sge.mp ha
  have hb' := IntOp.cmpi_slt.mp hb
  change (0#32 : BitVec 32).toInt ≤ (x0 i).toInt at ha'
  change (x0 i).toInt < (1000#32 : BitVec 32).toInt at hb'
  have h0' : (0#32 : BitVec 32).toInt = 0 := by decide
  have h1' : (1000#32 : BitVec 32).toInt = 1000 := by decide
  rw [h0'] at ha'
  rw [h1'] at hb'
  rw [BitVec.toInt_eq_toNat_cond] at ha' hb'
  have := (x0 i).isLt
  split at ha' <;> omega

/-- What the lines before the first gather leave of the indices, -/
theorem VA_v2 (m : (ℓ : Loc nD τ sig) → Buf (Elt F) ℓ) (d : Dev nD) :
    VA m d (Proc.devRef .tc main_v2) = shapeCast S20480 (extractStridedSlice S1024x20 ![0, 0] (m (d, Proc.devRef .tc main_arg0) : IVec S4096x20 32) slices_S4096x20_S1024x20_0_0) shapeCasts_S1024x20_S20480 := by
  unfold VA opsA
  after_results
  rfl

/-- and those before the second. -/
theorem opsB_v5_val (X : Valuation τ sig (Elt F)) :
    StableHlo.after opsB X (Proc.devRef .tc main_v5) = shapeCast S61440 (extractStridedSlice S3072x20 ![1024, 0] (X (Proc.devRef .tc main_arg0) : IVec S4096x20 32) slices_S4096x20_S3072x20_1024_0) shapeCasts_S3072x20_S61440 := by
  unfold opsB
  after_results
  rfl

theorem inRange (m : (ℓ : Loc nD τ sig) → Buf (Elt F) ℓ)
    (h : ∀ d (i : S4096x20.Idx), ((m (d, Proc.devRef .tc main_arg0) : IVec S4096x20 32) i).toNat < 1000) : InRange m := by
  refine ⟨fun d x => ?_, fun d x => ?_⟩
  · rw [VA_v2]; exact h d _
  · rw [opsB_v5_val, show VA m d (Proc.devRef .tc main_arg0) = m (d, Proc.devRef .tc main_arg0) from StableHlo.after_unwritten opsA_W opsA_writes (by decide) _]
    exact h d _

end Cert.Proof

end
-- ==== Proof.Same.lean ====
/- # One program, two names

The program as written and its reading have the same text; the run proved of the one is carried to the other. -/
module

public import proofs.«01_k».proof.Proof.Gen.Kernel
public import proofs.«01_k».proof.Proof.Main

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose)

variable {F : FTy → Type} [FloatOps F]

local notation "𝕄" => MT nD τ sig (HIx 2) (Elt F) ℕ UU ℕ

set_option maxHeartbeats 0

/-- The two programs' kernels, one label at a time. -/
theorem bodies_eq : Cert.Kernel.defs₀ (F := Bits) = Cert.KernelIdeal.defs₀ (F := Bits) := by
  funext p ℓ a
  cases p with
  | tc => match ℓ with | 0 => rfl | 1 => rfl | 2 => rfl | 3 => rfl
  | scScalar c => match ℓ with | 0 => rfl | 1 => rfl | 2 => rfl | 3 => rfl
  | scVector c s => match ℓ with | 0 => rfl | 1 => rfl | 2 => rfl | 3 => rfl

/-- The whole table. -/
theorem labels_eq : Cert.Kernel.defs (F := Bits) = Cert.KernelIdeal.defs (F := Bits) :=
  congrArg (fun D => (sc (F := Bits)).defs (Pipeline.defs (pcfgs (F := Bits)) D)) bodies_eq

/-- The threads. -/
theorem threads_eq : Cert.Kernel.threads (F := Bits) = Cert.KernelIdeal.threads (F := Bits) := (rfl)

/-- The program as written runs as its reading does, at any carrier; here at the bits. -/
theorem run_bits (m : (ℓ : Loc nD τ sig) → Buf (Elt Bits) ℓ) (ρ : Dev nD → PrngReg) (hm : InRange (F := Bits) m) :
    θ_run (Cert.Kernel.defs (F := Bits)) (Cert.Kernel.threads (F := Bits)) ⟨m, fun _ => 0, ρ⟩ (QC m hm) := by
  have e := congrArg (fun D => θ_run D (threads (F := Bits)) ⟨m, fun _ => 0, ρ⟩ (QC m hm)) labels_eq
  have e' := congrArg (fun t => θ_run (Cert.Kernel.defs (F := Bits)) t ⟨m, fun _ => 0, ρ⟩ (QC m hm)) threads_eq
  exact e'.mpr (e.mpr (run_main (F := Bits) m hm ρ))

end Cert.Proof

end
-- ==== Proof.Frames.lean ====
/- # The frames

The kernel as written and its reading over the extended reals run to their end with the arguments and the semaphores as
they were; and so does the reference. -/
module

public import proofs.«01_k».proof.Proof.Pre
public import proofs.«01_k».proof.Proof.Same
public import proofs.«01_k».proof.Proof.Gen.Kernel
public import proofs.«01_k».proof.Proof.Gen.KernelIdeal
public import proofs.«01_k».proof.Proof.Gen.ReferenceIdeal.Run

@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose)

variable {F : FTy → Type} [FloatOps F]

local notation "𝕄" => MT nD τ sig (HIx 2) (Elt F) ℕ UU ℕ

theorem inRange_bits (m : (ℓ : Loc Cert.Kernel.nD Cert.Kernel.τ Cert.Kernel.sig) → Buf (Elt Bits) ℓ) (h : Cert.Pre_Kernel m) : InRange (F := Bits) m :=
  inRange m fun d i => idx_lt _ _ _ _ _ _ (h d) i

theorem inRange_ideal (m : (ℓ : Loc nD τ sig) → Buf (Elt Ideal) ℓ) (h : Cert.Pre_KernelIdeal m) : InRange (F := Ideal) m :=
  inRange m fun d i => idx_lt _ _ _ _ _ _ (h d) i

/-- An argument ends as it started. -/
theorem QC_arg {m : (ℓ : Loc nD τ sig) → Buf (Elt F) ℓ} {hm : InRange m} {r : PUnit × MemSt nD τ sig (Elt F)} (h : QC m hm r) (c : Dev nD)
    (b : Ref sig .tc) (hs : b.isScoped = false) (hw : b ∉ written) : r.2.mem (c.tc.loc b) = m (c.tc.loc b) :=
  (h.1 c b hs).trans (VE_keep m c hm b hw)

/-- All the arguments at once. -/
theorem QC_args {m : (ℓ : Loc nD τ sig) → Buf (Elt F) ℓ} {hm : InRange m} {r : PUnit × MemSt nD τ sig (Elt F)} (h : QC m hm r) (c : Dev nD) :
    r.2.mem (c.tc.loc main_arg0) = m (c.tc.loc main_arg0) ∧ r.2.mem (c.tc.loc main_arg1) = m (c.tc.loc main_arg1) ∧ r.2.mem (c.tc.loc main_arg2) = m (c.tc.loc main_arg2)
      ∧ r.2.mem (c.tc.loc main_arg3) = m (c.tc.loc main_arg3) ∧ r.2.mem (c.tc.loc main_arg4) = m (c.tc.loc main_arg4) ∧ r.2.mem (c.tc.loc main_arg5) = m (c.tc.loc main_arg5) :=
  ⟨QC_arg h c main_arg0 rfl (by decide), QC_arg h c main_arg1 rfl (by decide), QC_arg h c main_arg2 rfl (by decide),
    QC_arg h c main_arg3 rfl (by decide), QC_arg h c main_arg4 rfl (by decide), QC_arg h c main_arg5 rfl (by decide)⟩

theorem frame_kernel : Cert.quiescent_Kernel := fun m ρ hp =>
  (θ_run (Cert.Kernel.defs (F := Bits)) _ _).mono (fun _ h => ⟨QC_args (F := Bits) h, h.2⟩) (run_bits m ρ (inRange_bits m hp))

theorem frame_ideal : Cert.quiescent_KernelIdeal := fun m ρ hp =>
  (θ_run (defs (F := Ideal)) _ _).mono (fun _ h => ⟨QC_args (F := Ideal) h, h.2⟩) (run_main (F := Ideal) m (inRange_ideal m hp) ρ)

theorem frame_ref : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

end Cert.Proof

end
-- ==== Proof.Idx.lean ====
/- # The function that both programs compute -/
module

public import proofs.«01_k».proof.Proof.Mlp
@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose)

variable {F : FTy → Type} [FloatOps F]

local notation "𝕄" => MT nD τ sig (HIx 2) (Elt F) ℕ UU ℕ

/-! ## Indices by natural numbers -/

/-- An index of an array of one dimension. -/
def n1 (a : ℕ) [NeZero a] (i : ℕ) : (⟨1, ![a]⟩ : Shape).Idx := fun x => match x with
  | 0 => ⟨i % a, Nat.mod_lt _ (Nat.pos_of_ne_zero (NeZero.ne a))⟩

/-- An index of an array of two dimensions. -/
def n2 (a b : ℕ) [NeZero a] [NeZero b] (i j : ℕ) : (⟨2, ![a, b]⟩ : Shape).Idx := fun x => match x with
  | 0 => ⟨i % a, Nat.mod_lt _ (Nat.pos_of_ne_zero (NeZero.ne a))⟩
  | 1 => ⟨j % b, Nat.mod_lt _ (Nat.pos_of_ne_zero (NeZero.ne b))⟩

/-- An index of an array of three dimensions. -/
def n3 (a b c : ℕ) [NeZero a] [NeZero b] [NeZero c] (i j k : ℕ) : (⟨3, ![a, b, c]⟩ : Shape).Idx := fun x => match x with
  | 0 => ⟨i % a, Nat.mod_lt _ (Nat.pos_of_ne_zero (NeZero.ne a))⟩
  | 1 => ⟨j % b, Nat.mod_lt _ (Nat.pos_of_ne_zero (NeZero.ne b))⟩
  | 2 => ⟨k % c, Nat.mod_lt _ (Nat.pos_of_ne_zero (NeZero.ne c))⟩

theorem n1_ext {a : ℕ} [NeZero a] (x : (⟨1, ![a]⟩ : Shape).Idx) (i : ℕ) (h0 : (x 0).val = i) : x = n1 a i := by
  funext k
  match k with
  | 0 => exact Fin.ext (h0.trans (Nat.mod_eq_of_lt (h0 ▸ (x 0).isLt)).symm)

theorem n2_ext {a b : ℕ} [NeZero a] [NeZero b] (x : (⟨2, ![a, b]⟩ : Shape).Idx) (i j : ℕ) (h0 : (x 0).val = i) (h1 : (x 1).val = j) : x = n2 a b i j := by
  funext k
  match k with
  | 0 => exact Fin.ext (h0.trans (Nat.mod_eq_of_lt (h0 ▸ (x 0).isLt)).symm)
  | 1 => exact Fin.ext (h1.trans (Nat.mod_eq_of_lt (h1 ▸ (x 1).isLt)).symm)

theorem n3_ext {a b c : ℕ} [NeZero a] [NeZero b] [NeZero c] (x : (⟨3, ![a, b, c]⟩ : Shape).Idx) (i j k : ℕ) (h0 : (x 0).val = i) (h1 : (x 1).val = j)
    (h2 : (x 2).val = k) : x = n3 a b c i j k := by
  funext q
  match q with
  | 0 => exact Fin.ext (h0.trans (Nat.mod_eq_of_lt (h0 ▸ (x 0).isLt)).symm)
  | 1 => exact Fin.ext (h1.trans (Nat.mod_eq_of_lt (h1 ▸ (x 1).isLt)).symm)
  | 2 => exact Fin.ext (h2.trans (Nat.mod_eq_of_lt (h2 ▸ (x 2).isLt)).symm)

theorem n1_0 {a : ℕ} [NeZero a] {i : ℕ} (h : i < a) : (n1 a i 0).val = i := Nat.mod_eq_of_lt h
theorem n2_0 {a b : ℕ} [NeZero a] [NeZero b] {i j : ℕ} (h : i < a) : (n2 a b i j 0).val = i := Nat.mod_eq_of_lt h
theorem n2_1 {a b : ℕ} [NeZero a] [NeZero b] {i j : ℕ} (h : j < b) : (n2 a b i j 1).val = j := Nat.mod_eq_of_lt h
theorem n3_0 {a b c : ℕ} [NeZero a] [NeZero b] [NeZero c] {i j k : ℕ} (h : i < a) : (n3 a b c i j k 0).val = i := Nat.mod_eq_of_lt h
theorem n3_1 {a b c : ℕ} [NeZero a] [NeZero b] [NeZero c] {i j k : ℕ} (h : j < b) : (n3 a b c i j k 1).val = j := Nat.mod_eq_of_lt h
theorem n3_2 {a b c : ℕ} [NeZero a] [NeZero b] [NeZero c] {i j k : ℕ} (h : k < c) : (n3 a b c i j k 2).val = k := Nat.mod_eq_of_lt h

theorem n2_n2 {a b : ℕ} [NeZero a] [NeZero b] (x : (⟨2, ![a, b]⟩ : Shape).Idx) : n2 a b (x 0).val (x 1).val = x := (n2_ext x _ _ rfl rfl).symm

/-! ## What the two programs compute -/

/-- The token at place `p` of row `b`'s padded sequence. -/
def tok (I : (⟨2, ![4096, 20]⟩ : Shape).Idx → BitVec 32) (b p : ℕ) : ℕ := if p < 19 then 1000 else (I (n2 4096 20 b (p - 19))).toNat

/-- Word `n` of row `b`'s padded sequence of embeddings, sixteen words for each token. -/
def word (I : (⟨2, ![4096, 20]⟩ : Shape).Idx → BitVec 32) (T : (⟨2, ![1001, 16]⟩ : Shape).Idx → EReal) (b n : ℕ) : EReal :=
  T (n2 1001 16 (tok I b (n / 16)) (n % 16))

/-- Unit `j` of the hidden layer at row `b`, time `t`: the tokens at and before `t`, latest first. -/
def unit (I : (⟨2, ![4096, 20]⟩ : Shape).Idx → BitVec 32) (T : (⟨2, ![1001, 16]⟩ : Shape).Idx → EReal) (W : (⟨2, ![320, 64]⟩ : Shape).Idx → EReal)
    (β : (⟨1, ![64]⟩ : Shape).Idx → EReal) (b t j : ℕ) : EReal :=
  Ideal.tanh ((∑ k ∈ Finset.range 320, word I T b (16 * (19 - k / 16 + t) + k % 16) * W (n2 320 64 k j)) + β (n1 64 j))

/-- The result at row `b`, time `t`, token `v`. -/
def logit (I : (⟨2, ![4096, 20]⟩ : Shape).Idx → BitVec 32) (T : (⟨2, ![1001, 16]⟩ : Shape).Idx → EReal) (W : (⟨2, ![320, 64]⟩ : Shape).Idx → EReal)
    (β : (⟨1, ![64]⟩ : Shape).Idx → EReal) (W' : (⟨2, ![64, 1000]⟩ : Shape).Idx → EReal) (β' : (⟨1, ![1000]⟩ : Shape).Idx → EReal) (b t v : ℕ) : EReal :=
  (∑ j ∈ Finset.range 64, unit I T W β b t j * W' (n2 64 1000 j v)) + β' (n1 1000 v)

/-! ## The banded weight -/

/-- Entry `(n, c)` of the weight laid out for all times at once: column `c` is unit `c % 64` at time `c / 64`, and row `n` is word `n` of the padded
sequence. -/
def wAll (W : (⟨2, ![320, 64]⟩ : Shape).Idx → EReal) (n c : ℕ) : EReal :=
  if 16 * (c / 64) ≤ n ∧ n < 16 * (c / 64) + 320 then
    W (n2 320 64 (16 * (19 - (n - 16 * (c / 64)) / 16) + (n - 16 * (c / 64)) % 16) (c % 64)) else 0

/-- The banded product over the whole padded sequence is the product over the window of twenty tokens. -/
theorem band_sum (W : (⟨2, ![320, 64]⟩ : Shape).Idx → EReal) (s : ℕ → EReal) (t j : ℕ) (ht : t < 20) (hj : j < 64) :
    (∑ y ∈ Finset.range 320, wAll W (304 + y) (64 * t + j) * s (304 + y)) + ∑ y ∈ Finset.range 304, wAll W y (64 * t + j) * s y
      = ∑ k ∈ Finset.range 320, s (16 * (19 - k / 16 + t) + k % 16) * W (n2 320 64 k j) := by
  have hc : (64 * t + j) / 64 = t := by omega
  have hm : (64 * t + j) % 64 = j := by omega
  rw [add_comm, ← Finset.sum_range_add (fun y => wAll W y (64 * t + j) * s y) 304 320]
  rw [show 304 + 320 = 16 * t + (320 + (304 - 16 * t)) by omega, Finset.sum_range_add, Finset.sum_range_add]
  rw [Finset.sum_eq_zero (fun y hy => ?_), zero_add, Finset.sum_eq_zero (s := Finset.range (304 - 16 * t)) (fun y hy => ?_), add_zero]
  · refine Finset.sum_nbij' (fun i => 16 * (19 - i / 16) + i % 16) (fun i => 16 * (19 - i / 16) + i % 16) ?_ ?_ ?_ ?_ ?_
    · intro i hi; simp only [Finset.mem_range] at hi ⊢; omega
    · intro i hi; simp only [Finset.mem_range] at hi ⊢; omega
    · intro i hi; simp only [Finset.mem_range] at hi; show 16 * (19 - (16 * (19 - i / 16) + i % 16) / 16) + (16 * (19 - i / 16) + i % 16) % 16 = i; omega
    · intro i hi; simp only [Finset.mem_range] at hi; show 16 * (19 - (16 * (19 - i / 16) + i % 16) / 16) + (16 * (19 - i / 16) + i % 16) % 16 = i; omega
    · intro i hi
      simp only [Finset.mem_range] at hi
      unfold wAll
      rw [hc, hm, if_pos ⟨by omega, by omega⟩, mul_comm, Nat.add_sub_cancel_left]
      congr 2
      omega
  · simp only [Finset.mem_range] at hy
    rw [wAll, hc, if_neg (by omega), zero_mul]
  · simp only [Finset.mem_range] at hy
    rw [wAll, hc, if_neg (by omega), zero_mul]

end Cert.Proof

end
-- ==== Proof.Bands.lean ====
/- # The shifted copies of the weight -/
module

public import proofs.«01_k».proof.Proof.Idx
public import proofs.«01_k».proof.Proof.Host
public import Idealize.ShloMosaic.Lib.KernelVsHost
@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose)

variable {F : FTy → Type} [FloatOps F]

local notation "𝕄" => MT nD τ sig (HIx 2) (Elt F) ℕ UU ℕ

/-! ## One shift of the weight -/

/-- The weight at rows `16 t` onward of 624, and `z` elsewhere. -/
def band {α : Type} (x : S320x64.Idx → α) (z : α) (t : ℕ) : S624x64.Idx → α := fun y =>
  if 16 * t ≤ (y 0).val ∧ (y 0).val < 16 * t + 320 then x (n2 320 64 ((y 0).val - 16 * t) (y 1).val) else z

theorem pad_band {α : Type} (t : ℕ) (lo hi : Fin 2 → ℕ) (x : S320x64.Idx → α) (v : S_.Idx → α) (h : S320x64.Pads lo hi ![0, 0] S624x64) (hu : 0 < S_.numel)
    (h0 : lo 0 = 16 * t) (h1 : lo 1 = 0) : pad S624x64 lo hi ![0, 0] x v h hu = band x (v (Shape.Idx.first hu)) t := by
  funext y
  unfold band
  split
  next hy =>
    refine pad_apply_of_inside _ _ _ x v h hu y _ (Fin.forall_fin_two.2 ⟨?_, ?_⟩)
    · show (y 0).val = lo 0 + (n2 320 64 ((y 0).val - 16 * t) (y 1).val 0).val * (0 + 1)
      rw [n2_0 (by omega), h0]; omega
    · show (y 1).val = lo 1 + (n2 320 64 ((y 0).val - 16 * t) (y 1).val 1).val * (0 + 1)
      rw [n2_1 (show (y 1).val < 64 from (y 1).isLt), h1]; omega
  next hy =>
    refine pad_apply_of_not_inside _ _ _ x v h hu y 0 fun hh => hy ?_
    have e1 : lo 0 ≤ (y 0).val := hh.1
    have e2 : ((y 0).val - lo 0) / (0 + 1) < 320 := hh.2.2
    omega

/-- Zero as the host's padding makes it. -/
def z0 : Elt F .f32 := sitofp (F := F) .f32 (constantI S_ 32 0#32) (Shape.Idx.first h_S_)

theorem bands2 (X : Valuation τ sig (Elt F)) :
    StableHlo.after opsC2 X (Proc.devRef .tc main_v16) = band (X (Proc.devRef .tc main_v15)) z0 0
    ∧ StableHlo.after opsC2 X (Proc.devRef .tc main_v17) = band (X (Proc.devRef .tc main_v15)) z0 1
    ∧ StableHlo.after opsC2 X (Proc.devRef .tc main_v18) = band (X (Proc.devRef .tc main_v15)) z0 2
    ∧ StableHlo.after opsC2 X (Proc.devRef .tc main_v19) = band (X (Proc.devRef .tc main_v15)) z0 3
    ∧ StableHlo.after opsC2 X (Proc.devRef .tc main_v20) = band (X (Proc.devRef .tc main_v15)) z0 4
    ∧ StableHlo.after opsC2 X (Proc.devRef .tc main_v21) = band (X (Proc.devRef .tc main_v15)) z0 5
    ∧ StableHlo.after opsC2 X (Proc.devRef .tc main_v22) = band (X (Proc.devRef .tc main_v15)) z0 6
    ∧ StableHlo.after opsC2 X (Proc.devRef .tc main_v23) = band (X (Proc.devRef .tc main_v15)) z0 7
    ∧ StableHlo.after opsC2 X (Proc.devRef .tc main_v24) = band (X (Proc.devRef .tc main_v15)) z0 8
    ∧ StableHlo.after opsC2 X (Proc.devRef .tc main_v25) = band (X (Proc.devRef .tc main_v15)) z0 9 := by
  simp only [opsC2, StableHlo.TRef.binary, StableHlo.TRef.nullary, StableHlo.TRef.unary, StableHlo.TRef.toBuf, StableHlo.TRef.ofBuf, cast_eq]
  refine ⟨?_, ?_, ?_, ?_, ?_, ?_, ?_, ?_, ?_, ?_⟩ <;> after_results <;> exact pad_band _ _ _ _ _ _ _ rfl rfl

theorem bands3 (X : Valuation τ sig (Elt F)) :
    StableHlo.after opsC3 X (Proc.devRef .tc main_v26) = band (X (Proc.devRef .tc main_v15)) z0 10
    ∧ StableHlo.after opsC3 X (Proc.devRef .tc main_v27) = band (X (Proc.devRef .tc main_v15)) z0 11
    ∧ StableHlo.after opsC3 X (Proc.devRef .tc main_v28) = band (X (Proc.devRef .tc main_v15)) z0 12
    ∧ StableHlo.after opsC3 X (Proc.devRef .tc main_v29) = band (X (Proc.devRef .tc main_v15)) z0 13
    ∧ StableHlo.after opsC3 X (Proc.devRef .tc main_v30) = band (X (Proc.devRef .tc main_v15)) z0 14
    ∧ StableHlo.after opsC3 X (Proc.devRef .tc main_v31) = band (X (Proc.devRef .tc main_v15)) z0 15
    ∧ StableHlo.after opsC3 X (Proc.devRef .tc main_v32) = band (X (Proc.devRef .tc main_v15)) z0 16
    ∧ StableHlo.after opsC3 X (Proc.devRef .tc main_v33) = band (X (Proc.devRef .tc main_v15)) z0 17
    ∧ StableHlo.after opsC3 X (Proc.devRef .tc main_v34) = band (X (Proc.devRef .tc main_v15)) z0 18
    ∧ StableHlo.after opsC3 X (Proc.devRef .tc main_v35) = band (X (Proc.devRef .tc main_v15)) z0 19 := by
  simp only [opsC3, StableHlo.TRef.binary, StableHlo.TRef.nullary, StableHlo.TRef.unary, StableHlo.TRef.toBuf, StableHlo.TRef.ofBuf, cast_eq]
  refine ⟨?_, ?_, ?_, ?_, ?_, ?_, ?_, ?_, ?_, ?_⟩ <;> after_results <;> exact pad_band _ _ _ _ _ _ _ rfl rfl

end Cert.Proof

end
-- ==== Proof.Weights.lean ====
/- # The dense kernels' operands -/
module

public import proofs.«01_k».proof.Proof.Bands
public import Idealize.ShloMosaic.Lib.StableHlo.RunRead
@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose)

variable {F : FTy → Type} [FloatOps F]

local notation "𝕄" => MT nD τ sig (HIx 2) (Elt F) ℕ UU ℕ

/-! ## Reshapes at an index -/

theorem mul_add_lt {a b i j : ℕ} (hi : i < a) (hj : j < b) : i * b + j < a * b :=
  calc i * b + j < i * b + b := Nat.add_lt_add_left hj _
    _ = (i + 1) * b := (Nat.succ_mul i b).symm
    _ ≤ a * b := Nat.mul_le_mul_right b hi

theorem sc12 {α : Type} {a b n : ℕ} [NeZero a] [NeZero b] [NeZero n] (x : (⟨1, ![n]⟩ : Shape).Idx → α) (h : (⟨1, ![n]⟩ : Shape).ShapeCasts ⟨2, ![a, b]⟩) (i j : ℕ)
    (hi : i < a) (hj : j < b) (hn : n = a * b) : shapeCast ⟨2, ![a, b]⟩ x h (n2 a b i j) = x (n1 n (i * b + j)) := by
  refine shapeCast_apply _ _ _ _ ?_
  rw [Shape.rowMajor_val_one, Shape.rowMajor_val_two, n2_0 hi, n2_1 hj, n1_0 (hn ▸ mul_add_lt hi hj)]
  rfl

theorem sc21 {α : Type} (a b : ℕ) {n : ℕ} [NeZero a] [NeZero b] [NeZero n] (x : (⟨2, ![a, b]⟩ : Shape).Idx → α) (h : (⟨2, ![a, b]⟩ : Shape).ShapeCasts ⟨1, ![n]⟩) (k : ℕ)
    (hk : k < n) (hn : n = a * b) : shapeCast ⟨1, ![n]⟩ x h (n1 n k) = x (n2 a b (k / b) (k % b)) := by
  have hb : 0 < b := Nat.pos_of_ne_zero (NeZero.ne b)
  refine shapeCast_apply _ _ _ _ ?_
  rw [Shape.rowMajor_val_one, Shape.rowMajor_val_two, n2_0 (Nat.div_lt_of_lt_mul (by rw [Nat.mul_comm, ← hn]; exact hk)), n2_1 (Nat.mod_lt _ hb), n1_0 hk]
  exact Nat.div_add_mod' k b

theorem sc23 {α : Type} {a b c n : ℕ} [NeZero a] [NeZero b] [NeZero c] [NeZero n] (x : (⟨2, ![n, c]⟩ : Shape).Idx → α) (h : (⟨2, ![n, c]⟩ : Shape).ShapeCasts ⟨3, ![a, b, c]⟩)
    (i j k : ℕ) (hi : i < a) (hj : j < b) (hk : k < c) (hn : n = a * b) : shapeCast ⟨3, ![a, b, c]⟩ x h (n3 a b c i j k) = x (n2 n c (i * b + j) k) := by
  refine shapeCast_apply _ _ _ _ ?_
  rw [Shape.rowMajor_val_two, Shape.rowMajor_val_three, n3_0 hi, n3_1 hj, n3_2 hk, n2_1 hk, n2_0 (hn ▸ mul_add_lt hi hj)]
  rfl

theorem sc32 {α : Type} (a b : ℕ) {c n : ℕ} [NeZero a] [NeZero b] [NeZero c] [NeZero n] (x : (⟨3, ![a, b, c]⟩ : Shape).Idx → α) (h : (⟨3, ![a, b, c]⟩ : Shape).ShapeCasts ⟨2, ![n, c]⟩)
    (i k : ℕ) (hi : i < n) (hk : k < c) (hn : n = a * b) : shapeCast ⟨2, ![n, c]⟩ x h (n2 n c i k) = x (n3 a b c (i / b) (i % b) k) := by
  have hb : 0 < b := Nat.pos_of_ne_zero (NeZero.ne b)
  refine shapeCast_apply _ _ _ _ ?_
  rw [Shape.rowMajor_val_two, Shape.rowMajor_val_three, n3_0 (Nat.div_lt_of_lt_mul (by rw [Nat.mul_comm, ← hn]; exact hi)), n3_1 (Nat.mod_lt _ hb), n3_2 hk, n2_1 hk, n2_0 hi]
  show (i / b * b + i % b) * c + k = i * c + k
  rw [Nat.div_add_mod']

theorem rev_at {α : Type} (x : S20x16x64.Idx → α) (i q j : ℕ) (hi : i < 20) (hq : q < 16) (hj : j < 64) :
    Host.reverse [0] x (n3 20 16 64 i q j) = x (n3 20 16 64 (19 - i) q j) := by
  refine congrArg x (n3_ext _ _ _ _ ?_ ?_ ?_)
  · show (n3 20 16 64 i q j 0).rev.val = _
    rw [Fin.val_rev, n3_0 hi]
    show 20 - _ = _
    omega
  · show (n3 20 16 64 i q j 1).val = q
    exact n3_1 hq
  · show (n3 20 16 64 i q j 2).val = j
    exact n3_2 hj

/-! ## The first part -/

/-- The weight with its blocks of sixteen rows reversed. -/
theorem v15_at (X : Valuation τ sig (Elt F)) (k j : ℕ) (hk : k < 320) (hj : j < 64) :
    (StableHlo.after opsC1 X (Proc.devRef .tc main_v15) : S320x64.Idx → Elt F .f32) (n2 320 64 k j)
      = (X (Proc.devRef .tc main_arg2) : S320x64.Idx → Elt F .f32) (n2 320 64 (16 * (19 - k / 16) + k % 16) j) := by
  unfold opsC1
  after_results
  refine (sc32 20 16 _ _ k j hk hj rfl).trans ?_
  refine (rev_at _ _ _ _ (by omega) (by omega) hj).trans ((sc23 (n := 320) _ _ (19 - k / 16) (k % 16) j (by omega) (by omega) hj rfl).trans ?_)
  rw [Nat.mul_comm]

/-- The last table row nineteen times. -/
theorem v12_at (X : Valuation τ sig (Elt F)) (y : ℕ) (hy : y < 304) :
    (StableHlo.after opsC1 X (Proc.devRef .tc main_v12) : S1x304.Idx → Elt F .f32) (n2 1 304 0 y)
      = (X (Proc.devRef .tc main_arg1) : S1001x16.Idx → Elt F .f32) (n2 1001 16 1000 (y % 16)) := by
  unfold opsC1
  after_results
  refine (sc12 _ _ 0 y (by omega) hy rfl).trans ?_
  rw [Nat.zero_mul, Nat.zero_add]
  refine (sc21 19 16 _ _ y hy rfl).trans ?_
  refine (broadcastInDim_apply _ _ _ _ (n2 1 16 0 (y % 16)) (Fin.forall_fin_two.2 ⟨rfl, ?_⟩)).trans ?_
  · show (n2 1 16 0 (y % 16) 1).val = (n2 19 16 (y / 16) (y % 16) 1).val
    rw [n2_1 (by omega), n2_1 (by omega)]
  refine (sc12 _ _ 0 (y % 16) (by omega) (by omega) rfl).trans ?_
  rw [Nat.zero_mul, Nat.zero_add]
  refine (sc21 1 16 _ _ (y % 16) (by omega) rfl).trans ?_
  refine extractStridedSlice_apply _ _ _ _ _ (Fin.forall_fin_two.2 ⟨?_, ?_⟩)
  · show (n2 1001 16 1000 (y % 16) 0).val = 1000 + (n2 1 16 (y % 16 / 16) (y % 16 % 16) 0).val
    rw [n2_0 (by omega), n2_0 (by omega)]; omega
  · show (n2 1001 16 1000 (y % 16) 1).val = 0 + (n2 1 16 (y % 16 / 16) (y % 16 % 16) 1).val
    rw [n2_1 (by omega), n2_1 (by omega)]; omega

/-! ## The shifted copies side by side -/

/-- The first sixteen copies, -/
def fst16 (Y : Valuation τ sig (Elt F)) : Fin 16 → S624x64.Idx → Elt F .f32 :=
  ![Y (Proc.devRef .tc main_v16), Y (Proc.devRef .tc main_v17), Y (Proc.devRef .tc main_v18), Y (Proc.devRef .tc main_v19), Y (Proc.devRef .tc main_v20), Y (Proc.devRef .tc main_v21), Y (Proc.devRef .tc main_v22), Y (Proc.devRef .tc main_v23), Y (Proc.devRef .tc main_v24), Y (Proc.devRef .tc main_v25), Y (Proc.devRef .tc main_v26), Y (Proc.devRef .tc main_v27), Y (Proc.devRef .tc main_v28), Y (Proc.devRef .tc main_v29), Y (Proc.devRef .tc main_v30), Y (Proc.devRef .tc main_v31)]
/-- and the last four. -/
def snd4 (Y : Valuation τ sig (Elt F)) : Fin 4 → S624x64.Idx → Elt F .f32 := ![Y (Proc.devRef .tc main_v32), Y (Proc.devRef .tc main_v33), Y (Proc.devRef .tc main_v34), Y (Proc.devRef .tc main_v35)]

/-- Several arrays side by side. -/
def beside (w n : ℕ) (f : Fin n → S624x64.Idx → Elt F .f32)
    (h : Shape.Concatenates ((List.ofFn fun i : Fin n => (⟨S624x64, f i⟩ : (s : Shape) × (s.Idx → Elt F .f32))).map (·.1)) ⟨2, ![624, w]⟩ 1) :
    (⟨2, ![624, w]⟩ : Shape).Idx → Elt F .f32 :=
  concatenate ⟨2, ![624, w]⟩ 1 (List.ofFn fun i : Fin n => (⟨S624x64, f i⟩ : (s : Shape) × (s.Idx → Elt F .f32))) h

theorem v36_eq (Y : Valuation τ sig (Elt F)) : StableHlo.after opsC4 Y (Proc.devRef .tc main_v36) = beside 1024 16 (fst16 Y)
    concatenates_S624x64_S624x64_S624x64_S624x64_S624x64_S624x64_S624x64_S624x64_S624x64_S624x64_S624x64_S624x64_S624x64_S624x64_S624x64_S624x64_S624x1024_d1 := by
  unfold opsC4
  after_results
  rfl

theorem v37_eq (Y : Valuation τ sig (Elt F)) : StableHlo.after opsC4 Y (Proc.devRef .tc main_v37) = beside 256 4 (snd4 Y)
    concatenates_S624x64_S624x64_S624x64_S624x64_S624x256_d1 := by
  unfold opsC4
  after_results
  rfl

theorem v38_eq (Y : Valuation τ sig (Elt F)) : StableHlo.after opsC4 Y (Proc.devRef .tc main_v38)
    = concatenate S624x1280 1 [⟨S624x1024, StableHlo.after opsC4 Y (Proc.devRef .tc main_v36)⟩, ⟨S624x256, StableHlo.after opsC4 Y (Proc.devRef .tc main_v37)⟩]
        concatenates_S624x1024_S624x256_S624x1280_d1 := by
  unfold opsC4
  after_results

theorem beside_at (w n : ℕ) [NeZero w] (f : Fin n → S624x64.Idx → Elt F .f32)
    (h : Shape.Concatenates ((List.ofFn fun i : Fin n => (⟨S624x64, f i⟩ : (s : Shape) × (s.Idx → Elt F .f32))).map (·.1)) ⟨2, ![624, w]⟩ 1)
    (y c : ℕ) (hy : y < 624) (hc : c < w) (hn : c / 64 < n) : beside w n f h (n2 624 w y c) = f ⟨c / 64, hn⟩ (n2 624 64 y (c % 64)) := by
  refine concatenate_ofFn_apply 1 f h rfl 64 rfl _ ⟨c / 64, hn⟩ ?_ _ ?_ ?_
  · show (n2 624 w y c 1).val / 64 = c / 64
    rw [n2_1 hc]
  · show (n2 624 64 y (c % 64) 1).val = (n2 624 w y c 1).val % 64
    rw [n2_1 hc, n2_1 (by omega)]
  · refine Fin.forall_fin_two.2 ⟨fun _ => ?_, fun hh => absurd rfl hh⟩
    show (n2 624 64 y (c % 64) 0).val = (n2 624 w y c 0).val
    rw [n2_0 hy, n2_0 hy]

theorem keepC3 (X : Valuation τ sig (Elt F)) (r : Ref sig .tc) (h : r ∉ opsC3_W) :
    StableHlo.after opsC3 (StableHlo.after opsC2 X) (Proc.devRef .tc r) = StableHlo.after opsC2 X (Proc.devRef .tc r) :=
  StableHlo.after_unwritten opsC3_W opsC3_writes h _

theorem C2_v15 (X : Valuation τ sig (Elt F)) : StableHlo.after opsC2 X (Proc.devRef .tc main_v15) = X (Proc.devRef .tc main_v15) :=
  StableHlo.after_unwritten opsC2_W opsC2_writes (by decide) _

set_option maxHeartbeats 4000000 in
theorem fst16_eq (X : Valuation τ sig (Elt F)) :
    fst16 (StableHlo.after opsC3 (StableHlo.after opsC2 X)) = fun n => band (X (Proc.devRef .tc main_v15) : S320x64.Idx → Elt F .f32) z0 n.val := by
  obtain ⟨a0, a1, a2, a3, a4, a5, a6, a7, a8, a9⟩ := bands2 X
  obtain ⟨b0, b1, b2, b3, b4, b5, -⟩ := bands3 (StableHlo.after opsC2 X)
  rw [C2_v15] at b0 b1 b2 b3 b4 b5
  refine funext fun n => ?_
  match n with
  | ⟨0, _⟩ => exact (keepC3 X main_v16 (by decide)).trans a0
  | ⟨1, _⟩ => exact (keepC3 X main_v17 (by decide)).trans a1
  | ⟨2, _⟩ => exact (keepC3 X main_v18 (by decide)).trans a2
  | ⟨3, _⟩ => exact (keepC3 X main_v19 (by decide)).trans a3
  | ⟨4, _⟩ => exact (keepC3 X main_v20 (by decide)).trans a4
  | ⟨5, _⟩ => exact (keepC3 X main_v21 (by decide)).trans a5
  | ⟨6, _⟩ => exact (keepC3 X main_v22 (by decide)).trans a6
  | ⟨7, _⟩ => exact (keepC3 X main_v23 (by decide)).trans a7
  | ⟨8, _⟩ => exact (keepC3 X main_v24 (by decide)).trans a8
  | ⟨9, _⟩ => exact (keepC3 X main_v25 (by decide)).trans a9
  | ⟨10, _⟩ => exact (b0)
  | ⟨11, _⟩ => exact (b1)
  | ⟨12, _⟩ => exact (b2)
  | ⟨13, _⟩ => exact (b3)
  | ⟨14, _⟩ => exact (b4)
  | ⟨15, _⟩ => exact (b5)
  | ⟨n + 16, h⟩ => exact absurd h (by omega)

theorem snd4_eq (X : Valuation τ sig (Elt F)) :
    snd4 (StableHlo.after opsC3 (StableHlo.after opsC2 X)) = fun n => band (X (Proc.devRef .tc main_v15) : S320x64.Idx → Elt F .f32) z0 (16 + n.val) := by
  obtain ⟨-, -, -, -, -, -, b6, b7, b8, b9⟩ := bands3 (StableHlo.after opsC2 X)
  rw [C2_v15] at b6 b7 b8 b9
  refine funext fun n => ?_
  match n with
  | ⟨0, _⟩ => exact b6
  | ⟨1, _⟩ => exact b7
  | ⟨2, _⟩ => exact b8
  | ⟨3, _⟩ => exact b9
  | ⟨n + 4, h⟩ => exact absurd h (by omega)

/-- The copies side by side, at an index. -/
theorem v38_at (X : Valuation τ sig (Elt F)) (y c : ℕ) (hy : y < 624) (hc : c < 1280) :
    (StableHlo.after opsC4 (StableHlo.after opsC3 (StableHlo.after opsC2 X)) (Proc.devRef .tc main_v38) : S624x1280.Idx → Elt F .f32) (n2 624 1280 y c)
      = band (X (Proc.devRef .tc main_v15) : S320x64.Idx → Elt F .f32) z0 (c / 64) (n2 624 64 y (c % 64)) := by
  rw [v38_eq]
  by_cases hl : c < 1024
  · refine (concatenate_pair_apply_left (t := S624x1280) (s₁ := S624x1024) (s₂ := S624x256) 1 _ _ _ _ rfl (n2 624 1024 y c) (Fin.forall_fin_two.2 ⟨?_, ?_⟩)).trans ?_
    · show (n2 624 1024 y c 0).val = (n2 624 1280 y c 0).val
      rw [n2_0 hy, n2_0 hy]
    · show (n2 624 1024 y c 1).val = (n2 624 1280 y c 1).val
      rw [n2_1 hl, n2_1 hc]
    rw [v36_eq]
    refine (beside_at 1024 16 _ _ y c hy hl (by omega)).trans ?_
    rw [fst16_eq]
  · refine (concatenate_pair_apply_right (t := S624x1280) (s₁ := S624x1024) (s₂ := S624x256) 1 _ _ _ _ rfl rfl (n2 624 256 y (c - 1024)) (Fin.forall_fin_two.2 ⟨fun _ => ?_, fun hh => absurd rfl hh⟩) ?_).trans ?_
    · show (n2 624 256 y (c - 1024) 0).val = (n2 624 1280 y c 0).val
      rw [n2_0 hy, n2_0 hy]
    · show (n2 624 256 y (c - 1024) 1).val + 1024 = (n2 624 1280 y c 1).val
      rw [n2_1 (by omega), n2_1 hc]; omega
    rw [v37_eq]
    refine (beside_at 256 4 _ _ y (c - 1024) hy (by omega) (by omega)).trans ?_
    rw [snd4_eq]
    show band _ z0 (16 + (c - 1024) / 64) (n2 624 64 y ((c - 1024) % 64)) = _
    rw [show 16 + (c - 1024) / 64 = c / 64 by omega, show (c - 1024) % 64 = c % 64 by omega]

/-! ## The last part -/

theorem trunc_at {s : Shape} (x : FVec Ideal s .f32) (h : FTy.bits .bf16 < FTy.bits .f32) (i : s.Idx) : truncf (F := Ideal) .bf16 x h i = x i := rfl

theorem v42_at (X : Valuation τ sig (Elt Ideal)) (c y : ℕ) (hc : c < 1280) (hy : y < 384) :
    (StableHlo.after opsC5 X (Proc.devRef .tc main_v42) : S1280x384.Idx → Elt Ideal .bf16) (n2 1280 384 c y)
      = if y < 320 then ((X (Proc.devRef .tc main_v38) : S624x1280.Idx → Elt Ideal .f32) (n2 624 1280 (304 + y) c))
        else sitofp (F := Ideal) .bf16 (constantI S_ 32 0#32) (Shape.Idx.first h_S_) := by
  simp only [opsC5, StableHlo.TRef.binary, StableHlo.TRef.nullary, StableHlo.TRef.unary, StableHlo.TRef.toBuf, StableHlo.TRef.ofBuf, cast_eq]
  after_results
  split
  next h =>
    refine (pad_apply_of_inside _ _ _ _ _ _ _ _ (n2 1280 320 c y) (Fin.forall_fin_two.2 ⟨?_, ?_⟩)).trans ?_
    · show (n2 1280 384 c y 0).val = 0 + (n2 1280 320 c y 0).val * (0 + 1)
      rw [n2_0 hc, n2_0 hc]; omega
    · show (n2 1280 384 c y 1).val = 0 + (n2 1280 320 c y 1).val * (0 + 1)
      rw [n2_1 hy, n2_1 h]; omega
    refine (trunc_at _ _ _).trans ?_
    refine (transpose_apply _ _ _ _ (n2 320 1280 y c) (Fin.forall_fin_two.2 ⟨?_, ?_⟩)).trans ?_
    · show (n2 320 1280 y c 1).val = (n2 1280 320 c y 0).val
      rw [n2_1 hc, n2_0 hc]
    · show (n2 320 1280 y c 0).val = (n2 1280 320 c y 1).val
      rw [n2_0 h, n2_1 h]
    refine extractStridedSlice_apply _ _ _ _ _ (Fin.forall_fin_two.2 ⟨?_, ?_⟩)
    · show (n2 624 1280 (304 + y) c 0).val = 304 + (n2 320 1280 y c 0).val
      rw [n2_0 (by omega), n2_0 h]
    · show (n2 624 1280 (304 + y) c 1).val = 0 + (n2 320 1280 y c 1).val
      rw [n2_1 hc, n2_1 hc]; omega
  next h =>
    refine pad_apply_of_not_inside _ _ _ _ _ _ _ _ 1 fun hh => h ?_
    have e := hh.2.2
    have e : ((n2 1280 384 c y 1).val - 0) / (0 + 1) < 320 := e
    rw [n2_1 hy] at e
    omega

theorem v44_at (X : Valuation τ sig (Elt F)) (c y : ℕ) (hc : c < 1280) (hy : y < 304) :
    (StableHlo.after opsC5 X (Proc.devRef .tc main_v44) : S1280x304.Idx → Elt F .f32) (n2 1280 304 c y)
      = (X (Proc.devRef .tc main_v38) : S624x1280.Idx → Elt F .f32) (n2 624 1280 y c) := by
  unfold opsC5
  after_results
  refine (transpose_apply _ _ _ _ (n2 304 1280 y c) (Fin.forall_fin_two.2 ⟨?_, ?_⟩)).trans ?_
  · show (n2 304 1280 y c 1).val = (n2 1280 304 c y 0).val
    rw [n2_1 hc, n2_0 hc]
  · show (n2 304 1280 y c 0).val = (n2 1280 304 c y 1).val
    rw [n2_0 hy, n2_1 hy]
  refine extractStridedSlice_apply _ _ _ _ _ (Fin.forall_fin_two.2 ⟨?_, ?_⟩)
  · show (n2 624 1280 y c 0).val = 0 + (n2 304 1280 y c 0).val
    rw [n2_0 (by omega), n2_0 hy]; omega
  · show (n2 624 1280 y c 1).val = 0 + (n2 304 1280 y c 1).val
    rw [n2_1 hc, n2_1 hc]; omega

theorem v48_at (X : Valuation τ sig (Elt F)) (c : ℕ) (hc : c < 1280) :
    (StableHlo.after opsC5 X (Proc.devRef .tc main_v48) : S1280x1.Idx → Elt F .f32) (n2 1280 1 c 0)
      = (X (Proc.devRef .tc main_arg3) : S64.Idx → Elt F .f32) (n1 64 (c % 64)) := by
  unfold opsC5
  after_results
  refine (sc12 (n := 1280) _ _ c 0 hc (by omega) rfl).trans ?_
  rw [Nat.mul_one, Nat.add_zero]
  refine (sc21 20 64 _ _ c hc rfl).trans ?_
  refine (broadcastInDim_apply _ _ _ _ (n2 1 64 0 (c % 64)) (Fin.forall_fin_two.2 ⟨rfl, ?_⟩)).trans ?_
  · show (n2 1 64 0 (c % 64) 1).val = (n2 20 64 (c / 64) (c % 64) 1).val
    rw [n2_1 (by omega), n2_1 (by omega)]
  refine (sc12 _ _ 0 (c % 64) (by omega) (by omega) rfl).trans ?_
  rw [Nat.zero_mul, Nat.zero_add]

theorem v50_at (X : Valuation τ sig (Elt Ideal)) (v j : ℕ) (hv : v < 1000) (hj : j < 64) :
    (StableHlo.after opsC5 X (Proc.devRef .tc main_v50) : S1000x64.Idx → Elt Ideal .bf16) (n2 1000 64 v j)
      = ((X (Proc.devRef .tc main_arg4) : S64x1000.Idx → Elt Ideal .f32) (n2 64 1000 j v)) := by
  unfold opsC5
  after_results
  refine (trunc_at _ _ _).trans (transpose_apply _ _ _ _ _ (Fin.forall_fin_two.2 ⟨?_, ?_⟩))
  · show (n2 64 1000 j v 1).val = (n2 1000 64 v j 0).val
    rw [n2_1 hv, n2_0 hv]
  · show (n2 64 1000 j v 0).val = (n2 1000 64 v j 1).val
    rw [n2_0 hj, n2_1 hj]

theorem v51_at (X : Valuation τ sig (Elt F)) (v : ℕ) (hv : v < 1000) :
    (StableHlo.after opsC5 X (Proc.devRef .tc main_v51) : S1000x1.Idx → Elt F .f32) (n2 1000 1 v 0)
      = (X (Proc.devRef .tc main_arg5) : S1000.Idx → Elt F .f32) (n1 1000 v) := by
  unfold opsC5
  after_results
  refine (sc12 (n := 1000) _ _ v 0 hv (by omega) rfl).trans ?_
  rw [Nat.mul_one, Nat.add_zero]

end Cert.Proof

end
-- ==== Proof.Point.lean ====
/- # One grid point of a dense kernel computes the reference's function -/
module

public import proofs.«01_k».proof.Proof.Idx
public import Idealize.ShloMosaic.Lib.MatmulPlain
@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose)

variable {F : FTy → Type} [FloatOps F]

local notation "𝕄" => MT nD τ sig (HIx 2) (Elt F) ℕ UU ℕ

theorem cst_zero {s : Shape} (i : s.Idx) : constant (F := Ideal) s .f32 0x00000000#32 i = (0 : EReal) := by
  show Ideal.ofBits .f32 0x00000000#32 = 0
  simp

/-- A product of two arrays along their second axes. -/
theorem mul_rows {M K N : ℕ} [NeZero M] [NeZero K] [NeZero N] {φ₁ φ₂ : FTy} (d : DotDims ⟨2, ![M, K]⟩ ⟨2, ![N, K]⟩ ⟨2, ![M, N]⟩)
    (hd : d = DotDims.transposedRhs M K N) (x : FVec Ideal ⟨2, ![M, K]⟩ φ₁) (y : FVec Ideal ⟨2, ![N, K]⟩ φ₂) (r c : ℕ) (hr : r < M) (hc : c < N) :
    matmul d none x y (constant (F := Ideal) ⟨2, ![M, N]⟩ .f32 0x00000000#32) (n2 M N r c) = ∑ k ∈ Finset.range K, x (n2 M K r k) * y (n2 N K c k) := by
  subst hd
  rw [← n2_ext (ValueIdx.ix2 (⟨r, hr⟩ : Fin M) (⟨c, hc⟩ : Fin N)) r c rfl rfl]
  refine (Ideal.matmul_transposedRhs_apply ..).trans ?_
  rw [cst_zero, zero_add,
    ← Fin.sum_univ_eq_sum_range (fun k => x (n2 M K r k) * y (n2 N K c k)) K]
  refine Finset.sum_congr rfl fun k _ => ?_
  rw [n2_ext (ValueIdx.ix2 (⟨r, hr⟩ : Fin M) k) r k rfl rfl, n2_ext (ValueIdx.ix2 (⟨c, hc⟩ : Fin N) k) c k rfl rfl]

/-- A product of two arrays along the first's second axis and the second's first. -/
theorem mul_plain {M K N : ℕ} [NeZero M] [NeZero K] [NeZero N] {φ₁ φ₂ : FTy} (d : DotDims ⟨2, ![M, K]⟩ ⟨2, ![K, N]⟩ ⟨2, ![M, N]⟩)
    (hd : d = DotDims.plain M K N) (x : FVec Ideal ⟨2, ![M, K]⟩ φ₁) (y : FVec Ideal ⟨2, ![K, N]⟩ φ₂) (r c : ℕ) (hr : r < M) (hc : c < N) :
    matmul d none x y (constant (F := Ideal) ⟨2, ![M, N]⟩ .f32 0x00000000#32) (n2 M N r c) = ∑ k ∈ Finset.range K, x (n2 M K r k) * y (n2 K N k c) := by
  subst hd
  rw [← n2_ext (ValueIdx.ix2 (⟨r, hr⟩ : Fin M) (⟨c, hc⟩ : Fin N)) r c rfl rfl]
  refine (Ideal.matmul_plain_apply ..).trans ?_
  rw [cst_zero, zero_add,
    ← Fin.sum_univ_eq_sum_range (fun k => x (n2 M K r k) * y (n2 K N k c)) K]
  refine Finset.sum_congr rfl fun k _ => ?_
  rw [n2_ext (ValueIdx.ix2 (⟨r, hr⟩ : Fin M) k) r k rfl rfl, n2_ext (ValueIdx.ix2 k (⟨c, hc⟩ : Fin N)) k c rfl rfl]

/-- One column spread over several. -/
theorem col_at {α : Type} {M N : ℕ} [NeZero M] [NeZero N] (x : (⟨2, ![M, 1]⟩ : Shape).Idx → α) (h : (⟨2, ![M, 1]⟩ : Shape).Broadcasts ⟨2, ![M, N]⟩) (r c : ℕ) (hr : r < M) :
    broadcastTo ⟨2, ![M, N]⟩ x h (n2 M N r c) = x (n2 M 1 r 0) := by
  refine broadcastTo_apply x h _ _ (Fin.forall_fin_two.2 ⟨?_, ?_⟩)
  · show (n2 M 1 r 0 0).val = if M = 1 then 0 else (n2 M N r c 0).val
    rw [n2_0 hr, n2_0 hr]
    split <;> omega
  · rfl

/-- The hidden layer of one grid point. -/
theorem pay4_at (x0 : Vec Ideal S256x384 .f32) (x1 : Vec Ideal S1x304 .f32) (x2 : Vec Ideal S640x384 .bf16) (x3 : Vec Ideal S640x304 .f32) (x4 : Vec Ideal S640x1 .f32)
    (k c : ℕ) (hk : k < 640) (hc : c < 256) :
    k2_pay4 (F := Ideal) x3 x1 x0 x2 x4 (n2 640 256 k c)
      = Ideal.tanh ((∑ y ∈ Finset.range 384, (x2 (n2 640 384 k y) : EReal) * x0 (n2 256 384 c y)) + (∑ y ∈ Finset.range 304, x3 (n2 640 304 k y) * x1 (n2 1 304 0 y))
          + x4 (n2 640 1 k 0)) := by
  unfold k2_pay4
  simp only [shapeCast_self]
  show Ideal.tanh ((matmul (F := Ideal) dot_S640x384_S256x384_S640x256_1_1_0_0_n_n none _ _ _ (n2 640 256 k c) + broadcastTo S640x256 _ _ (n2 640 256 k c) : EReal)
    + broadcastTo S640x256 _ _ (n2 640 256 k c)) = _
  rw [mul_rows dot_S640x384_S256x384_S640x256_1_1_0_0_n_n rfl _ _ k c hk hc, col_at _ _ k c hk, col_at _ _ k c hk,
    mul_rows dot_S640x304_S1x304_S640x1_1_1_0_0_n_n rfl _ _ k 0 hk (by omega)]
  rfl

set_option maxHeartbeats 0 in
/-- The result of one grid point. -/
theorem mlpOut_at (x0 : Vec Ideal S256x384 .f32) (x1 : Vec Ideal S1x304 .f32) (x2 : Vec Ideal S640x384 .bf16) (x3 : Vec Ideal S640x304 .f32) (x4 : Vec Ideal S640x1 .f32)
    (x5 : Vec Ideal S1000x64 .bf16) (x6 : Vec Ideal S1000x1 .f32) (y : S10x1000x256.Idx) :
    mlpOut (F := Ideal) x0 x1 x2 x3 x4 x5 x6 y
      = ((∑ j ∈ Finset.range 64, (x5 (n2 1000 64 (y 1).val j) : EReal) * k2_pay4 (F := Ideal) x3 x1 x0 x2 x4 (n2 640 256 (64 * (y 0).val + j) (y 2).val))
          + x6 (n2 1000 1 (y 1).val 0) : EReal) := by
  have h0 : (y 0).val < 10 := (y 0).isLt
  have h1 : (y 1).val < 1000 := (y 1).isLt
  have h2 : (y 2).val < 256 := (y 2).isLt
  unfold mlpOut mlpRow
  rw [n2_ext (Cert.Proof.ix2 (a := 1000) (b := 256) (y 1) (y 2)) (y 1).val (y 2).val rfl rfl]
  simp only [shapeCast_self]
  show (matmul (F := Ideal) dot_S1000x64_S64x256_S1000x256_1_0_0_1_n_n none _ _ _ (n2 1000 256 (y 1).val (y 2).val) + broadcastTo S1000x256 _ _ (n2 1000 256 (y 1).val (y 2).val) : EReal) = _
  rw [mul_plain dot_S1000x64_S64x256_S1000x256_1_0_0_1_n_n rfl _ _ _ _ h1 h2, col_at _ _ _ _ h1]
  congr 1
  refine Finset.sum_congr rfl fun j hj => ?_
  rw [Finset.mem_range] at hj
  congr 2
  exact n2_ext _ _ _ (congrArg (64 * (y 0).val + ·) (n2_0 hj)) (n2_1 h2)

/-- One grid point computes the logits of its rows and times, if its operands are the shared ones. -/
theorem point_eq (I : S4096x20.Idx → BitVec 32) (T : S1001x16.Idx → EReal) (W : S320x64.Idx → EReal) (β : S64.Idx → EReal) (W' : S64x1000.Idx → EReal) (β' : S1000.Idx → EReal)
    (x0 : Vec Ideal S256x384 .f32) (x1 : Vec Ideal S1x304 .f32) (x2 : Vec Ideal S640x384 .bf16) (x3 : Vec Ideal S640x304 .f32) (x4 : Vec Ideal S640x1 .f32)
    (x5 : Vec Ideal S1000x64 .bf16) (x6 : Vec Ideal S1000x1 .f32) (i j : ℕ) (hj : j < 2)
    (H0 : ∀ c y, c < 256 → y < 384 → x0 (n2 256 384 c y) = if y < 320 then word I T (256 * i + c) (304 + y) else (0 : EReal))
    (H1 : ∀ y, y < 304 → x1 (n2 1 304 0 y) = T (n2 1001 16 1000 (y % 16)))
    (H2 : ∀ k y, k < 640 → y < 384 → x2 (n2 640 384 k y) = if y < 320 then wAll W (304 + y) (640 * j + k) else (0 : EReal))
    (H3 : ∀ k y, k < 640 → y < 304 → x3 (n2 640 304 k y) = wAll W y (640 * j + k))
    (H4 : ∀ k, k < 640 → x4 (n2 640 1 k 0) = β (n1 64 (k % 64)))
    (H5 : ∀ v k, v < 1000 → k < 64 → x5 (n2 1000 64 v k) = W' (n2 64 1000 k v))
    (H6 : ∀ v, v < 1000 → x6 (n2 1000 1 v 0) = β' (n1 1000 v)) (y : S10x1000x256.Idx) :
    mlpOut (F := Ideal) x0 x1 x2 x3 x4 x5 x6 y = logit I T W β W' β' (256 * i + (y 2).val) (10 * j + (y 0).val) (y 1).val := by
  have h0 : (y 0).val < 10 := (y 0).isLt
  have h1 : (y 1).val < 1000 := (y 1).isLt
  have h2 : (y 2).val < 256 := (y 2).isLt
  rw [mlpOut_at, logit, H6 _ h1]
  congr 1
  refine Finset.sum_congr rfl fun u hu => ?_
  rw [Finset.mem_range] at hu
  rw [H5 _ _ h1 hu, mul_comm]
  congr 1
  rw [pay4_at _ _ _ _ _ _ _ (by omega) h2, unit, H4 _ (by omega), show (64 * (y 0).val + u) % 64 = u by omega]
  congr 2
  rw [← band_sum W (word I T (256 * i + (y 2).val)) (10 * j + (y 0).val) u (by omega) hu]
  have hcol : 640 * j + (64 * (y 0).val + u) = 64 * (10 * j + (y 0).val) + u := by omega
  congr 1
  · rw [show ∀ f : ℕ → EReal, (∑ y ∈ Finset.range 384, f y) = _ from fun f => Finset.sum_range_add f 320 64]
    rw [Finset.sum_eq_zero (s := Finset.range 64) fun q hq => ?_, add_zero]
    · refine Finset.sum_congr rfl fun q hq => ?_
      rw [Finset.mem_range] at hq
      rw [H2 _ _ (by omega) (by omega), H0 _ _ h2 (by omega), if_pos hq, if_pos hq, hcol]
    · rw [Finset.mem_range] at hq
      rw [H2 _ _ (by omega) (by omega), if_neg (by omega), zero_mul]
  · refine Finset.sum_congr rfl fun q hq => ?_
    rw [Finset.mem_range] at hq
    rw [H3 _ _ (by omega) hq, H1 _ hq, hcol, word, tok, if_pos (by omega)]

end Cert.Proof

end
-- ==== Proof.Region.lean ====
/- # The dense kernels' results -/
module

public import proofs.«01_k».proof.Proof.Point
public import proofs.«01_k».proof.Proof.Regs
public import Idealize.ShloMosaic.Lib.Pipeline.ValueKit.Partial
public import Idealize.ShloMosaic.Lib.Pipeline.FrameTail
@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose)

variable {F : FTy → Type} [FloatOps F]

local notation "𝕄" => MT nD τ sig (HIx 2) (Elt F) ℕ UU ℕ

/-! ## The two dense kernels' results -/

/-- The operands the two dense kernels share hold the table's padding row, the banded weight and the two layers' other parameters. -/
structure Operands (X : Valuation τ sig (Elt Ideal)) (T : S1001x16.Idx → EReal) (W : S320x64.Idx → EReal) (β : S64.Idx → EReal) (W' : S64x1000.Idx → EReal) (β' : S1000.Idx → EReal) : Prop where
  pad : ∀ y, y < 304 → (X (Proc.devRef .tc main_v12) : S1x304.Idx → EReal) (n2 1 304 0 y) = T (n2 1001 16 1000 (y % 16))
  lo : ∀ c y, c < 1280 → y < 384 → (X (Proc.devRef .tc main_v42) : S1280x384.Idx → EReal) (n2 1280 384 c y) = if y < 320 then wAll W (304 + y) c else 0
  hi : ∀ c y, c < 1280 → y < 304 → (X (Proc.devRef .tc main_v44) : S1280x304.Idx → EReal) (n2 1280 304 c y) = wAll W y c
  bias : ∀ c, c < 1280 → (X (Proc.devRef .tc main_v48) : S1280x1.Idx → EReal) (n2 1280 1 c 0) = β (n1 64 (c % 64))
  out : ∀ v j, v < 1000 → j < 64 → (X (Proc.devRef .tc main_v50) : S1000x64.Idx → EReal) (n2 1000 64 v j) = W' (n2 64 1000 j v)
  last : ∀ v, v < 1000 → (X (Proc.devRef .tc main_v51) : S1000x1.Idx → EReal) (n2 1000 1 v 0) = β' (n1 1000 v)

theorem ix2_0 : ∀ t : Fin cfg2.N, win2_0.index t = ![(grid2.coords t 0).val, 0] := (by decide +kernel : ∀ t : Fin grid2.N, _)
theorem ix2_1 : ∀ t : Fin cfg2.N, win2_1.index t = ![0, 0] := (by decide +kernel : ∀ t : Fin grid2.N, _)
theorem ix2_2 : ∀ t : Fin cfg2.N, win2_2.index t = ![(grid2.coords t 1).val, 0] := (by decide +kernel : ∀ t : Fin grid2.N, _)
theorem ix2_3 : ∀ t : Fin cfg2.N, win2_3.index t = ![(grid2.coords t 1).val, 0] := (by decide +kernel : ∀ t : Fin grid2.N, _)
theorem ix2_4 : ∀ t : Fin cfg2.N, win2_4.index t = ![(grid2.coords t 1).val, 0] := (by decide +kernel : ∀ t : Fin grid2.N, _)
theorem ix2_5 : ∀ t : Fin cfg2.N, win2_5.index t = ![0, 0] := (by decide +kernel : ∀ t : Fin grid2.N, _)
theorem ix2_6 : ∀ t : Fin cfg2.N, win2_6.index t = ![0, 0] := (by decide +kernel : ∀ t : Fin grid2.N, _)
theorem ix2_7 : ∀ t : Fin cfg2.N, win2_7.index t = ![(grid2.coords t 1).val, 0, (grid2.coords t 0).val] := (by decide +kernel : ∀ t : Fin grid2.N, _)

theorem ix3_0 : ∀ t : Fin cfg3.N, win3_0.index t = ![(grid3.coords t 0).val, 0] := (by decide +kernel : ∀ t : Fin grid3.N, _)
theorem ix3_1 : ∀ t : Fin cfg3.N, win3_1.index t = ![0, 0] := (by decide +kernel : ∀ t : Fin grid3.N, _)
theorem ix3_2 : ∀ t : Fin cfg3.N, win3_2.index t = ![(grid3.coords t 1).val, 0] := (by decide +kernel : ∀ t : Fin grid3.N, _)
theorem ix3_3 : ∀ t : Fin cfg3.N, win3_3.index t = ![(grid3.coords t 1).val, 0] := (by decide +kernel : ∀ t : Fin grid3.N, _)
theorem ix3_4 : ∀ t : Fin cfg3.N, win3_4.index t = ![(grid3.coords t 1).val, 0] := (by decide +kernel : ∀ t : Fin grid3.N, _)
theorem ix3_5 : ∀ t : Fin cfg3.N, win3_5.index t = ![0, 0] := (by decide +kernel : ∀ t : Fin grid3.N, _)
theorem ix3_6 : ∀ t : Fin cfg3.N, win3_6.index t = ![0, 0] := (by decide +kernel : ∀ t : Fin grid3.N, _)
theorem ix3_7 : ∀ t : Fin cfg3.N, win3_7.index t = ![(grid3.coords t 1).val, 0, (grid3.coords t 0).val + 4] := (by decide +kernel : ∀ t : Fin grid3.N, _)

/-- What the first dense kernel writes at a point. -/
theorem blk2_eq (X : Valuation τ sig (Elt Ideal)) (d : Dev nD) (I : S4096x20.Idx → BitVec 32) (T : S1001x16.Idx → EReal) (W : S320x64.Idx → EReal) (β : S64.Idx → EReal)
    (W' : S64x1000.Idx → EReal) (β' : S1000.Idx → EReal) (O : Operands X T W β W' β')
    (hE : ∀ b y, b < 1024 → y < 384 → (X (Proc.devRef .tc main_v3) : S1024x384.Idx → EReal) (n2 1024 384 b y) = if y < 320 then word I T (b) (304 + y) else 0)
    (t : Fin cfg2.N) (y : S10x1000x256.Idx) :
    mlpOut (F := Ideal) (iblk2 X d 0 t) (iblk2 X d 1 t) (iblk2 X d 2 t) (iblk2 X d 3 t) (iblk2 X d 4 t) (iblk2 X d 5 t) (iblk2 X d 6 t) y
      = logit I T W β W' β' (256 * (grid2.coords t 0).val + (y 2).val) (10 * (grid2.coords t 1).val + (y 0).val) (y 1).val := by
  have h0 : (grid2.coords t 0).val < 4 := (grid2.coords t 0).isLt
  have h1 : (grid2.coords t 1).val < 2 := (grid2.coords t 1).isLt
  refine point_eq I T W β W' β' _ _ _ _ _ _ _ (grid2.coords t 0).val _ h1 ?_ ?_ ?_ ?_ ?_ ?_ ?_ y
  · intro c q hc hq
    refine Eq.trans ?_ (hE _ q (by omega) hq)
    refine congrArg (X (Proc.devRef .tc main_v3) : S1024x384.Idx → EReal) (n2_ext _ _ _ ?_ ?_)
    · blk_simp [ix2_0]
      rw [n2_0 hc]; omega
    · blk_simp [ix2_0]
      rw [n2_1 hq]
  · intro q hq
    refine Eq.trans ?_ (O.pad q hq)
    refine congrArg (X (Proc.devRef .tc main_v12) : S1x304.Idx → EReal) (n2_ext _ _ _ ?_ ?_)
    · blk_simp [ix2_1]
    · blk_simp [ix2_1]
      rw [n2_1 hq]
  · intro c q hc hq
    refine Eq.trans ?_ (O.lo (640 * (grid2.coords t 1).val + c) q (by omega) hq)
    refine congrArg (X (Proc.devRef .tc main_v42) : S1280x384.Idx → EReal) (n2_ext _ _ _ ?_ ?_)
    · blk_simp [ix2_2]
      rw [n2_0 hc]; omega
    · blk_simp [ix2_2]
      rw [n2_1 hq]
  · intro c q hc hq
    refine Eq.trans ?_ (O.hi (640 * (grid2.coords t 1).val + c) q (by omega) hq)
    refine congrArg (X (Proc.devRef .tc main_v44) : S1280x304.Idx → EReal) (n2_ext _ _ _ ?_ ?_)
    · blk_simp [ix2_3]
      rw [n2_0 hc]; omega
    · blk_simp [ix2_3]
      rw [n2_1 hq]
  · intro c hc
    refine Eq.trans ?_ ((O.bias (640 * (grid2.coords t 1).val + c) (by omega)).trans (by rw [show (640 * (grid2.coords t 1).val + c) % 64 = c % 64 by omega]))
    refine congrArg (X (Proc.devRef .tc main_v48) : S1280x1.Idx → EReal) (n2_ext _ _ _ ?_ ?_)
    · blk_simp [ix2_4]
      rw [n2_0 hc]; omega
    · blk_simp [ix2_4]
  · intro v j hv hj
    refine Eq.trans ?_ (O.out v j hv hj)
    refine congrArg (X (Proc.devRef .tc main_v50) : S1000x64.Idx → EReal) (n2_ext _ _ _ ?_ ?_)
    · blk_simp [ix2_5]
      rw [n2_0 hv]
    · blk_simp [ix2_5]
      rw [n2_1 hj]
  · intro v hv
    refine Eq.trans ?_ (O.last v hv)
    refine congrArg (X (Proc.devRef .tc main_v51) : S1000x1.Idx → EReal) (n2_ext _ _ _ ?_ ?_)
    · blk_simp [ix2_6]
      rw [n2_0 hv]
    · blk_simp [ix2_6]

/-- What the second dense kernel writes at a point. -/
theorem blk3_eq (X : Valuation τ sig (Elt Ideal)) (d : Dev nD) (I : S4096x20.Idx → BitVec 32) (T : S1001x16.Idx → EReal) (W : S320x64.Idx → EReal) (β : S64.Idx → EReal)
    (W' : S64x1000.Idx → EReal) (β' : S1000.Idx → EReal) (O : Operands X T W β W' β')
    (hE : ∀ b y, b < 3072 → y < 384 → (X (Proc.devRef .tc main_v6) : S3072x384.Idx → EReal) (n2 3072 384 b y) = if y < 320 then word I T (1024 + b) (304 + y) else 0)
    (t : Fin cfg3.N) (y : S10x1000x256.Idx) :
    mlpOut (F := Ideal) (iblk3 X d 0 t) (iblk3 X d 1 t) (iblk3 X d 2 t) (iblk3 X d 3 t) (iblk3 X d 4 t) (iblk3 X d 5 t) (iblk3 X d 6 t) y
      = logit I T W β W' β' (256 * (4 + (grid3.coords t 0).val) + (y 2).val) (10 * (grid3.coords t 1).val + (y 0).val) (y 1).val := by
  have h0 : (grid3.coords t 0).val < 12 := (grid3.coords t 0).isLt
  have h1 : (grid3.coords t 1).val < 2 := (grid3.coords t 1).isLt
  refine point_eq I T W β W' β' _ _ _ _ _ _ _ (4 + (grid3.coords t 0).val) _ h1 ?_ ?_ ?_ ?_ ?_ ?_ ?_ y
  · intro c q hc hq
    refine Eq.trans ?_ ((hE (256 * (grid3.coords t 0).val + c) q (by omega) hq).trans (by rw [show 1024 + (256 * (grid3.coords t 0).val + c) = 256 * (4 + (grid3.coords t 0).val) + c by omega]))
    refine congrArg (X (Proc.devRef .tc main_v6) : S3072x384.Idx → EReal) (n2_ext _ _ _ ?_ ?_)
    · blk_simp [ix3_0]
      rw [n2_0 hc]; omega
    · blk_simp [ix3_0]
      rw [n2_1 hq]
  · intro q hq
    refine Eq.trans ?_ (O.pad q hq)
    refine congrArg (X (Proc.devRef .tc main_v12) : S1x304.Idx → EReal) (n2_ext _ _ _ ?_ ?_)
    · blk_simp [ix3_1]
    · blk_simp [ix3_1]
      rw [n2_1 hq]
  · intro c q hc hq
    refine Eq.trans ?_ (O.lo (640 * (grid3.coords t 1).val + c) q (by omega) hq)
    refine congrArg (X (Proc.devRef .tc main_v42) : S1280x384.Idx → EReal) (n2_ext _ _ _ ?_ ?_)
    · blk_simp [ix3_2]
      rw [n2_0 hc]; omega
    · blk_simp [ix3_2]
      rw [n2_1 hq]
  · intro c q hc hq
    refine Eq.trans ?_ (O.hi (640 * (grid3.coords t 1).val + c) q (by omega) hq)
    refine congrArg (X (Proc.devRef .tc main_v44) : S1280x304.Idx → EReal) (n2_ext _ _ _ ?_ ?_)
    · blk_simp [ix3_3]
      rw [n2_0 hc]; omega
    · blk_simp [ix3_3]
      rw [n2_1 hq]
  · intro c hc
    refine Eq.trans ?_ ((O.bias (640 * (grid3.coords t 1).val + c) (by omega)).trans (by rw [show (640 * (grid3.coords t 1).val + c) % 64 = c % 64 by omega]))
    refine congrArg (X (Proc.devRef .tc main_v48) : S1280x1.Idx → EReal) (n2_ext _ _ _ ?_ ?_)
    · blk_simp [ix3_4]
      rw [n2_0 hc]; omega
    · blk_simp [ix3_4]
  · intro v j hv hj
    refine Eq.trans ?_ (O.out v j hv hj)
    refine congrArg (X (Proc.devRef .tc main_v50) : S1000x64.Idx → EReal) (n2_ext _ _ _ ?_ ?_)
    · blk_simp [ix3_5]
      rw [n2_0 hv]
    · blk_simp [ix3_5]
      rw [n2_1 hj]
  · intro v hv
    refine Eq.trans ?_ (O.last v hv)
    refine congrArg (X (Proc.devRef .tc main_v51) : S1000x1.Idx → EReal) (n2_ext _ _ _ ?_ ?_)
    · blk_simp [ix3_6]
      rw [n2_0 hv]
    · blk_simp [ix3_6]

/-- The first dense kernel's rows of the result. -/
theorem out2_eq (X : Valuation τ sig (Elt Ideal)) (d : Dev nD) (I : S4096x20.Idx → BitVec 32) (T : S1001x16.Idx → EReal) (W : S320x64.Idx → EReal) (β : S64.Idx → EReal)
    (W' : S64x1000.Idx → EReal) (β' : S1000.Idx → EReal) (O : Operands X T W β W' β')
    (hE : ∀ b y, b < 1024 → y < 384 → (X (Proc.devRef .tc main_v3) : S1024x384.Idx → EReal) (n2 1024 384 b y) = if y < 320 then word I T b (304 + y) else 0)
    (i : S20x1000x4096.Idx) (hi : (i 2).val < 1024) :
    (aft2 X d (Proc.devRef .tc main_v52) : S20x1000x4096.Idx → EReal) i = logit I T W β W' β' (i 2).val (i 0).val (i 1).val := by
  refine (congrFun (Pipeline.afterRegion_arr (dat2 X d) X launch2.win.arr_inj 7) i).trans ?_
  refine ((dat2 X d).arrAt_apply_of_coversWhere 7 (fun i : S20x1000x4096.Idx => logit I T W β W' β' (i 2).val (i 0).val (i 1).val)
    (P := fun i : S20x1000x4096.Idx => (i 2).val / 256 < 4) (fun q => q (2 : Fin 3) < 4) (by decide +kernel) (fun t _ y => ?_) (fun j => Iff.rfl) i).trans (if_pos (by omega))
  refine (blk2_eq X d I T W β W' β' O hE t y).trans ?_
  congr 1
  · blk_simp [ix2_7]; omega
  · blk_simp [ix2_7]; omega
  · blk_simp [ix2_7]

/-- The whole result after the second dense kernel, if the first one's rows are there. -/
theorem out3_eq (X : Valuation τ sig (Elt Ideal)) (d : Dev nD) (I : S4096x20.Idx → BitVec 32) (T : S1001x16.Idx → EReal) (W : S320x64.Idx → EReal) (β : S64.Idx → EReal)
    (W' : S64x1000.Idx → EReal) (β' : S1000.Idx → EReal) (O : Operands X T W β W' β')
    (hE : ∀ b y, b < 3072 → y < 384 → (X (Proc.devRef .tc main_v6) : S3072x384.Idx → EReal) (n2 3072 384 b y) = if y < 320 then word I T (1024 + b) (304 + y) else 0)
    (hX : ∀ i : S20x1000x4096.Idx, (i 2).val < 1024 → (X (Proc.devRef .tc main_v53) : S20x1000x4096.Idx → EReal) i = logit I T W β W' β' (i 2).val (i 0).val (i 1).val) :
    (aft3 X d (Proc.devRef .tc main_v53) : S20x1000x4096.Idx → EReal) = fun i => logit I T W β W' β' (i 2).val (i 0).val (i 1).val := by
  refine (Pipeline.afterRegion_arr (dat3 X d) X launch3.win.arr_inj 7).trans ?_
  refine (dat3 X d).arrAt_eq_of_coversWhere_of_agree 7 _ (fun q => 4 ≤ q (2 : Fin 3)) (by decide +kernel) (fun t _ y => ?_) (fun j hj => ?_)
  · refine (blk3_eq X d I T W β W' β' O hE t y).trans ?_
    congr 1
    · blk_simp [ix3_7]; omega
    · blk_simp [ix3_7]; omega
    · blk_simp [ix3_7]
  · exact hX _ (by
      have hj' : ¬ 4 ≤ (j (2 : Fin 3)).val / 256 := hj
      show (j (2 : Fin 3)).val < 1024
      omega)

end Cert.Proof

end
-- ==== Proof.Value.lean ====
/- # The kernel computes the logits -/
module

public import proofs.«01_k».proof.Proof.Weights
public import proofs.«01_k».proof.Proof.Region
public import proofs.«01_k».proof.Proof.Pre
@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose)

variable {F : FTy → Type} [FloatOps F]

local notation "𝕄" => MT nD τ sig (HIx 2) (Elt F) ℕ UU ℕ

/-! ## The operands of the dense kernels -/

theorem z0_zero : (z0 (F := Ideal) : EReal) = 0 := by
  show (((0#32 : BitVec 32).toInt : ℝ) : EReal) = 0
  simp

/-- The shifted copies of the weight are the banded weight. -/
theorem v38_wAll (X : Valuation τ sig (Elt Ideal)) (y c : ℕ) (hy : y < 624) (hc : c < 1280) :
    (StableHlo.after opsC4 (StableHlo.after opsC3 (StableHlo.after opsC2 (StableHlo.after opsC1 X))) (Proc.devRef .tc main_v38) : S624x1280.Idx → EReal) (n2 624 1280 y c)
      = wAll (X (Proc.devRef .tc main_arg2) : S320x64.Idx → EReal) y c := by
  refine (v38_at (F := Ideal) _ y c hy hc).trans ?_
  unfold band wAll
  rw [n2_0 hy, n2_1 (by omega)]
  split
  next h => exact v15_at (F := Ideal) X _ _ (by omega) (by omega)
  next h => exact z0_zero

/-- What the first four parts do not write. -/
theorem keep4 (X : Valuation τ sig (Elt F)) (r : Ref sig .tc) (h : r ∉ opsC1_W ++ (opsC2_W ++ (opsC3_W ++ opsC4_W))) :
    StableHlo.after opsC4 (StableHlo.after opsC3 (StableHlo.after opsC2 (StableHlo.after opsC1 X))) (Proc.devRef .tc r) = X (Proc.devRef .tc r) := by
  simp only [List.mem_append, not_or] at h
  obtain ⟨h1, h2, h3, h4⟩ := h
  rw [StableHlo.after_unwritten opsC4_W opsC4_writes h4, StableHlo.after_unwritten opsC3_W opsC3_writes h3, StableHlo.after_unwritten opsC2_W opsC2_writes h2,
    StableHlo.after_unwritten opsC1_W opsC1_writes h1]

theorem C_eq (X : Valuation τ sig (Elt F)) :
    StableHlo.after opsC X = StableHlo.after opsC5 (StableHlo.after opsC4 (StableHlo.after opsC3 (StableHlo.after opsC2 (StableHlo.after opsC1 X)))) := by
  unfold opsC
  rw [StableHlo.after_append, StableHlo.after_append, StableHlo.after_append, StableHlo.after_append]

theorem C_v12 (X : Valuation τ sig (Elt F)) :
    StableHlo.after opsC X (Proc.devRef .tc main_v12) = StableHlo.after opsC1 X (Proc.devRef .tc main_v12) := by
  rw [C_eq, StableHlo.after_unwritten opsC5_W opsC5_writes (by decide), StableHlo.after_unwritten opsC4_W opsC4_writes (by decide),
    StableHlo.after_unwritten opsC3_W opsC3_writes (by decide), StableHlo.after_unwritten opsC2_W opsC2_writes (by decide)]

/-- The lines before the dense kernels leave their operands. -/
theorem operandsC (X : Valuation τ sig (Elt Ideal)) :
    Operands (StableHlo.after opsC X) (X (Proc.devRef .tc main_arg1)) (X (Proc.devRef .tc main_arg2)) (X (Proc.devRef .tc main_arg3)) (X (Proc.devRef .tc main_arg4))
      (X (Proc.devRef .tc main_arg5)) where
  pad y hy := by
    rw [C_v12]
    exact v12_at (F := Ideal) X y hy
  lo c y hc hy := by
    rw [C_eq]
    refine (v42_at _ c y hc hy).trans ?_
    split
    next h => exact v38_wAll X _ c (by omega) hc
    next h => exact z0_zero
  hi c y hc hy := by
    rw [C_eq]
    exact (v44_at (F := Ideal) _ c y hc hy).trans (v38_wAll X y c (by omega) hc)
  bias c hc := by
    rw [C_eq]
    exact (v48_at (F := Ideal) _ c hc).trans (congrFun (keep4 X main_arg3 (by decide)) _)
  out v j hv hj := by
    rw [C_eq]
    exact (v50_at _ v j hv hj).trans (congrFun (keep4 X main_arg4 (by decide)) _)
  last v hv := by
    rw [C_eq]
    exact (v51_at (F := Ideal) _ v hv).trans (congrFun (keep4 X main_arg5 (by decide)) _)

/-- Operands that keep their contents stay operands. -/
theorem Operands.keep {X Y : Valuation τ sig (Elt Ideal)} {T : S1001x16.Idx → EReal} {W : S320x64.Idx → EReal} {β : S64.Idx → EReal} {W' : S64x1000.Idx → EReal}
    {β' : S1000.Idx → EReal} (O : Operands X T W β W' β') (h : ∀ r, r ≠ main_v52 → r ≠ main_v53 → Y (Proc.devRef .tc r) = X (Proc.devRef .tc r)) : Operands Y T W β W' β' where
  pad y hy := (congrFun (h main_v12 (by decide) (by decide)) _).trans (O.pad y hy)
  lo c y hc hy := (congrFun (h main_v42 (by decide) (by decide)) _).trans (O.lo c y hc hy)
  hi c y hc hy := (congrFun (h main_v44 (by decide) (by decide)) _).trans (O.hi c y hc hy)
  bias c hc := (congrFun (h main_v48 (by decide) (by decide)) _).trans (O.bias c hc)
  out v j hv hj := (congrFun (h main_v50 (by decide) (by decide)) _).trans (O.out v j hv hj)
  last v hv := (congrFun (h main_v51 (by decide) (by decide)) _).trans (O.last v hv)

/-! ## What the gathers leave -/

section Gathers
variable (m : (ℓ : Loc nD τ sig) → Buf (Elt F) ℓ) (d : Dev nD)

/-- The padded table holds the table. -/
theorem VA_v0_at (r c : ℕ) (hr : r < 1001) (hc : c < 16) :
    (VA m d (Proc.devRef .tc main_v0) : S1008x128.Idx → Elt F .f32) (ixT r c) = (m (d, Proc.devRef .tc main_arg1) : S1001x16.Idx → Elt F .f32) (n2 1001 16 r c) := by
  unfold VA
  simp only [opsA, StableHlo.TRef.binary, StableHlo.TRef.nullary, StableHlo.TRef.unary, StableHlo.TRef.toBuf, StableHlo.TRef.ofBuf, cast_eq]
  after_results
  refine (pad_apply_of_inside _ _ _ _ _ _ _ _ (n2 1001 16 r c) (Fin.forall_fin_two.2 ⟨?_, ?_⟩)).trans rfl
  · show r % 1008 = 0 + (n2 1001 16 r c 0).val * (0 + 1)
    rw [n2_0 hr]; omega
  · show c % 128 = 0 + (n2 1001 16 r c 1).val * (0 + 1)
    rw [n2_1 hc]; omega

theorem ixN_n1 (N n : ℕ) [NeZero N] (h : n < N) : ixN N n = n1 N n := n1_ext _ _ (Nat.mod_eq_of_lt h)

/-- The first gather's list. -/
theorem f2_at (b p : ℕ) (hb : b < 1024) (hp : p < 20) :
    (VA m d (Proc.devRef .tc main_v2) : S20480.Idx → BitVec 32) (ixN 20480 (20 * b + p)) = (m (d, Proc.devRef .tc main_arg0) : S4096x20.Idx → BitVec 32) (n2 4096 20 b p) := by
  rw [VA_v2, ixN_n1 _ _ (by omega)]
  refine (sc21 1024 20 _ _ (20 * b + p) (by omega) rfl).trans ?_
  rw [show (20 * b + p) / 20 = b by omega, show (20 * b + p) % 20 = p by omega]
  refine extractStridedSlice_apply _ _ _ _ _ (Fin.forall_fin_two.2 ⟨?_, ?_⟩)
  · show (n2 4096 20 b p 0).val = 0 + (n2 1024 20 b p 0).val
    rw [n2_0 (by omega), n2_0 hb]; omega
  · show (n2 4096 20 b p 1).val = 0 + (n2 1024 20 b p 1).val
    rw [n2_1 hp, n2_1 hp]; omega

/-- The second gather's list. -/
theorem f5_at (X : Valuation τ sig (Elt F)) (b p : ℕ) (hb : b < 3072) (hp : p < 20) :
    (StableHlo.after opsB X (Proc.devRef .tc main_v5) : S61440.Idx → BitVec 32) (ixN 61440 (20 * b + p))
      = (X (Proc.devRef .tc main_arg0) : S4096x20.Idx → BitVec 32) (n2 4096 20 (1024 + b) p) := by
  rw [opsB_v5_val, ixN_n1 _ _ (by omega)]
  refine (sc21 3072 20 _ _ (20 * b + p) (by omega) rfl).trans ?_
  rw [show (20 * b + p) / 20 = b by omega, show (20 * b + p) % 20 = p by omega]
  refine extractStridedSlice_apply _ _ _ _ _ (Fin.forall_fin_two.2 ⟨?_, ?_⟩)
  · show (n2 4096 20 (1024 + b) p 0).val = 1024 + (n2 3072 20 b p 0).val
    rw [n2_0 (by omega), n2_0 hb]
  · show (n2 4096 20 (1024 + b) p 1).val = 0 + (n2 3072 20 b p 1).val
    rw [n2_1 hp, n2_1 hp]; omega

end Gathers

theorem fz_zero : (fz (F := Ideal) : EReal) = 0 := by
  show Ideal.ofBits .f32 0x00000000#32 = 0
  simp

/-- A gather's row is a row's twenty words of sixteen. -/
theorem gat_word (R N : ℕ) [NeZero R] [NeZero N] (tp : S1008x128.Idx → EReal) (w : (⟨1, ![N]⟩ : Shape).Idx → BitVec 32) (I : S4096x20.Idx → BitVec 32) (T : S1001x16.Idx → EReal) (o : ℕ)
    (hI : ∀ i, (I i).toNat < 1000) (hT : ∀ r c, r < 1001 → c < 16 → tp (ixT r c) = T (n2 1001 16 r c))
    (hw : ∀ b p, b < R → p < 20 → w (ixN N (20 * b + p)) = I (n2 4096 20 (o + b) p)) (b y : ℕ) (hb : b < R) (hy : y < 384) :
    gat (F := Ideal) R N tp w (n2 R 384 b y) = if y < 320 then word I T (o + b) (304 + y) else 0 := by
  unfold gat
  rw [n2_0 hb, n2_1 hy]
  split
  next h =>
    rw [hw b (y / 16) hb (by omega), hT _ _ (lt_trans (hI _) (by omega)) (by omega), word, tok, if_neg (by omega)]
    rw [show (304 + y) / 16 - 19 = y / 16 by omega, show (304 + y) % 16 = y % 16 by omega]
  next h => exact fz_zero

/-! ## The kernel computes the logits -/

section Val
variable (m : (ℓ : Loc nD τ sig) → Buf (Elt Ideal) ℓ) (d : Dev nD) (hm : InRange (F := Ideal) m)

theorem V2_keep (r : Ref sig .tc) (hA : r ∉ opsA_W) (hB : r ∉ opsB_W) (h3 : r ≠ main_v3) (h6 : r ≠ main_v6) : V2 m d hm (Proc.devRef .tc r) = m (d, Proc.devRef .tc r) := by
  rw [V2, Function.update_of_ne (devRef_ne h6), VB_off m d hm r hB h3]
  exact StableHlo.after_unwritten opsA_W opsA_writes hA _

theorem operands_VC : Operands (VC m d hm) (m (d, Proc.devRef .tc main_arg1)) (m (d, Proc.devRef .tc main_arg2)) (m (d, Proc.devRef .tc main_arg3))
    (m (d, Proc.devRef .tc main_arg4)) (m (d, Proc.devRef .tc main_arg5)) := by
  have h := operandsC (V2 m d hm)
  rw [V2_keep m d hm main_arg1 (by decide) (by decide) (by decide) (by decide), V2_keep m d hm main_arg2 (by decide) (by decide) (by decide) (by decide),
    V2_keep m d hm main_arg3 (by decide) (by decide) (by decide) (by decide), V2_keep m d hm main_arg4 (by decide) (by decide) (by decide) (by decide),
    V2_keep m d hm main_arg5 (by decide) (by decide) (by decide) (by decide)] at h
  exact h

theorem VD_keep (r : Ref sig .tc) (h2 : r ≠ main_v52) (h3 : r ≠ main_v53) : VD m d hm (Proc.devRef .tc r) = VC m d hm (Proc.devRef .tc r) := by
  unfold VD
  rw [StableHlo.after_unwritten opsD_W opsD_writes (by simpa [opsD_W] using h3), aft2_off d _ r h2]

theorem VD_v53 : VD m d hm (Proc.devRef .tc main_v53) = aft2 (VC m d hm) d (Proc.devRef .tc main_v52) := by
  unfold VD opsD
  after_results
  rfl

variable (hI : ∀ i : S4096x20.Idx, ((m (d, Proc.devRef .tc main_arg0) : S4096x20.Idx → BitVec 32) i).toNat < 1000)
include hI

theorem VC_v3_at (b y : ℕ) (hb : b < 1024) (hy : y < 384) : (VC m d hm (Proc.devRef .tc main_v3) : S1024x384.Idx → EReal) (n2 1024 384 b y)
    = if y < 320 then word (m (d, Proc.devRef .tc main_arg0)) (m (d, Proc.devRef .tc main_arg1)) b (304 + y) else 0 := by
  have e : VC m d hm (Proc.devRef .tc main_v3) = res0 (inp m hm) d := by
    unfold VC
    rw [StableHlo.after_unwritten opsC_W opsC_writes (by decide), V2, Function.update_of_ne (devRef_ne (by decide)), VB,
      StableHlo.after_unwritten opsB_W opsB_writes (by decide), V1, Function.update_self]
  rw [e]
  refine (gat_word 1024 20480 _ _ (m (d, Proc.devRef .tc main_arg0)) (m (d, Proc.devRef .tc main_arg1)) 0 hI (fun r c hr hc => VA_v0_at m d r c hr hc)
    (fun b p hb hp => ?_) b y hb hy).trans ?_
  · rw [Nat.zero_add]; exact f2_at m d b p hb hp
  · rw [Nat.zero_add]

theorem VD_v6_at (b y : ℕ) (hb : b < 3072) (hy : y < 384) : (VD m d hm (Proc.devRef .tc main_v6) : S3072x384.Idx → EReal) (n2 3072 384 b y)
    = if y < 320 then word (m (d, Proc.devRef .tc main_arg0)) (m (d, Proc.devRef .tc main_arg1)) (1024 + b) (304 + y) else 0 := by
  have e : VD m d hm (Proc.devRef .tc main_v6) = res1 (inp m hm) d := by
    rw [VD_keep m d hm main_v6 (by decide) (by decide)]
    unfold VC
    rw [StableHlo.after_unwritten opsC_W opsC_writes (by decide), V2, Function.update_self]
  rw [e]
  refine gat_word 3072 61440 _ _ (m (d, Proc.devRef .tc main_arg0)) (m (d, Proc.devRef .tc main_arg1)) 1024 hI (fun r c hr hc => VA_v0_at m d r c hr hc)
    (fun b p hb hp => (f5_at (VA m d) b p hb hp).trans ?_) b y hb hy
  exact congrFun (StableHlo.after_unwritten opsA_W opsA_writes (by decide) _) _

/-- What the second dense kernel leaves: every logit. -/
theorem aft3_val : (aft3 (VD m d hm) d (Proc.devRef .tc main_v53) : S20x1000x4096.Idx → EReal)
    = fun i => logit (m (d, Proc.devRef .tc main_arg0)) (m (d, Proc.devRef .tc main_arg1)) (m (d, Proc.devRef .tc main_arg2)) (m (d, Proc.devRef .tc main_arg3))
        (m (d, Proc.devRef .tc main_arg4)) (m (d, Proc.devRef .tc main_arg5)) (i 2).val (i 0).val (i 1).val :=
  out3_eq _ d _ _ _ _ _ _ ((operands_VC m d hm).keep (VD_keep m d hm)) (VD_v6_at m d hm hI) fun i hi => by
    rw [VD_v53]
    exact out2_eq _ d _ _ _ _ _ _ (operands_VC m d hm) (VC_v3_at m d hm hI) i hi

/-- The kernel computes the logits. -/
theorem VE_v54 (b t v : ℕ) (hb : b < 4096) (ht : t < 20) (hv : v < 1000) :
    (VE m d hm (Proc.devRef .tc main_v54) : S4096x20x1000.Idx → EReal) (n3 4096 20 1000 b t v)
      = logit (m (d, Proc.devRef .tc main_arg0)) (m (d, Proc.devRef .tc main_arg1)) (m (d, Proc.devRef .tc main_arg2)) (m (d, Proc.devRef .tc main_arg3))
        (m (d, Proc.devRef .tc main_arg4)) (m (d, Proc.devRef .tc main_arg5)) b t v := by
  unfold VE opsE
  after_results
  refine (transpose_apply _ _ _ _ (n3 20 1000 4096 t v b) fun a => ?_).trans ?_
  · match a with
    | ⟨0, _⟩ => show (n3 20 1000 4096 t v b 2).val = (n3 4096 20 1000 b t v 0).val; rw [n3_2 hb, n3_0 hb]
    | ⟨1, _⟩ => show (n3 20 1000 4096 t v b 0).val = (n3 4096 20 1000 b t v 1).val; rw [n3_0 ht, n3_1 ht]
    | ⟨2, _⟩ => show (n3 20 1000 4096 t v b 1).val = (n3 4096 20 1000 b t v 2).val; rw [n3_1 hv, n3_2 hv]
  refine (congrFun (aft3_val m d hm hI) _).trans ?_
  show logit _ _ _ _ _ _ (n3 20 1000 4096 t v b 2).val (n3 20 1000 4096 t v b 0).val (n3 20 1000 4096 t v b 1).val = _
  rw [n3_0 ht, n3_1 hv, n3_2 hb]

end Val

end Cert.Proof

end
-- ==== Proof.Ref.lean ====
/-
  The reference computes the logits.
-/
module

public import proofs.«01_k».proof.Proof.Idx
public import proofs.«01_k».proof.Proof.Gen.ReferenceIdeal.Run
public import Idealize.ShloMosaic.PureOps.Ideal.Laws
public import Idealize.ShloMosaic.Lib.Pointwise.ElementwiseCore
public import Idealize.ShloMosaic.Lib.ReduceAll
public import Idealize.ShloMosaic.Lib.Affine
public import Idealize.ShloMosaic.Lib.WordCmp
public import Idealize.ShloMosaic.Lib.Pipeline.Value
public import Idealize.ShloMosaic.Lib.ValueIdxCore

@[expose] public section

noncomputable section

namespace Cert.Proof.Ref

open Cert.ReferenceIdeal Cert.ReferenceIdeal.Gen

open Idealize.ShloMosaic
open Idealize.ShloMosaic.TcCoe

variable {F : FTy → Type} [FloatOps F]

/-! ## The reference's stages -/

/-- The padded sequence of tokens. -/
def seqV (I : IVec S4096x20 32) : IVec S4096x39 32 :=
  concatenate S4096x39 1 [⟨S4096x19, broadcastInDim S4096x19 ![] bcast_S_S4096x19 (constantI S_ 32 1000#32)⟩, ⟨S4096x20, I⟩] concatenates_S4096x19_S4096x20_S4096x39_d1

/-- The rows to read: a negative one counted from the end. -/
def idxV (s : IVec S4096x39 32) : IVec S4096x39x1 32 :=
  broadcastInDim S4096x39x1 ![0, 1] bcast_S4096x39_S4096x39x1_0_1
    (select (cmpi .slt s (broadcastInDim S4096x39 ![] bcast_S_S4096x39 (constantI S_ 32 0#32))) (addi s (broadcastInDim S4096x39 ![] bcast_S_S4096x39 (constantI S_ 32 1001#32))) s)

/-- Which of them the table has. -/
def okV (q : IVec S4096x39x1 32) : IVec S4096x39 1 :=
  Host.reduce IntOp.andi (andi (cmpi .sge q (broadcastInDim S4096x39x1 ![] bcast_S_S4096x39x1 (constantI S_ 32 0#32)))
      (cmpi .sle q (broadcastInDim S4096x39x1 ![0, 1, 2] bcast_S1x1x1_S4096x39x1_0_1_2 (broadcastInDim S1x1x1 ![2] bcast_S1_S1x1x1_2 (constantI S1 32 1000#32)))))
    (constantI S_ 1 1#1) reducesTo_S4096x39x1_S4096x39_d2 h_S_

/-- The embeddings. -/
def embV (T : FVec F S1001x16 .f32) (q : IVec S4096x39x1 32) : FVec F S4096x39x16 .f32 :=
  select (broadcastInDim S4096x39x16 ![0, 1] bcast_S4096x39_S4096x39x16_0_1 (okV q)) (Host.gather gather_S1001x16_S4096x39x1_S4096x39x16_2_0_n_n_0_2_116 T q)
    (broadcastInDim S4096x39x16 ![] bcast_S_S4096x39x16 (constant S_ .f32 0x7FC00000#32))

theorem slc (k : ℕ) : S4096x39x16.Slices ![0, 19 - k, 0] S4096x20x16 := by
  refine ⟨rfl, fun a => ?_⟩
  match a with
  | ⟨0, _⟩ => exact (show 0 + 4096 ≤ 4096 from le_rfl)
  | ⟨1, _⟩ => exact (show (19 - k) + 20 ≤ 39 by omega)
  | ⟨2, _⟩ => exact (show 0 + 16 ≤ 16 from le_rfl)

/-- The embeddings `k` places back. -/
def winV (E : FVec F S4096x39x16 .f32) (k : ℕ) : FVec F S4096x20x16 .f32 := extractStridedSlice S4096x20x16 ![0, 19 - k, 0] E (slc k)

/-- Several of them side by side. -/
def rowV (w n p : ℕ) (E : FVec F S4096x39x16 .f32)
    (h : Shape.Concatenates ((List.ofFn fun i : Fin n => (⟨S4096x20x16, winV E (p + i.val)⟩ : (s : Shape) × (s.Idx → Elt F .f32))).map (·.1)) ⟨3, ![4096, 20, w]⟩ 2) :
    FVec F ⟨3, ![4096, 20, w]⟩ .f32 := concatenate ⟨3, ![4096, 20, w]⟩ 2 (List.ofFn fun i : Fin n => (⟨S4096x20x16, winV E (p + i.val)⟩ : (s : Shape) × (s.Idx → Elt F .f32))) h

/-- The windows of twenty embeddings. -/
def winsV (E : FVec F S4096x39x16 .f32) : FVec F S4096x20x320 .f32 :=
  concatenate S4096x20x320 2 [⟨S4096x20x256, rowV 256 16 0 E concatenates_S4096x20x16_S4096x20x16_S4096x20x16_S4096x20x16_S4096x20x16_S4096x20x16_S4096x20x16_S4096x20x16_S4096x20x16_S4096x20x16_S4096x20x16_S4096x20x16_S4096x20x16_S4096x20x16_S4096x20x16_S4096x20x16_S4096x20x256_d2⟩,
    ⟨S4096x20x64, rowV 64 4 16 E concatenates_S4096x20x16_S4096x20x16_S4096x20x16_S4096x20x16_S4096x20x64_d2⟩] concatenates_S4096x20x256_S4096x20x64_S4096x20x320_d2

/-- The hidden layer. -/
def hidV (x : FVec F S4096x20x320 .f32) (W : FVec F S320x64 .f32) (β : FVec F S64 .f32) : FVec F S4096x20x64 .f32 :=
  Host.tanh (addf (Host.dotGeneral dot_S4096x20x320_S320x64_S4096x20x64_2_0_01_1_n_n none x W)
    (broadcastInDim S4096x20x64 ![0, 1, 2] bcast_S1x1x64_S4096x20x64_0_1_2 (broadcastInDim S1x1x64 ![2] bcast_S64_S1x1x64_2 β)))

/-- The result. -/
def outV (h : FVec F S4096x20x64 .f32) (W : FVec F S64x1000 .f32) (β : FVec F S1000 .f32) : FVec F S4096x20x1000 .f32 :=
  addf (Host.dotGeneral dot_S4096x20x64_S64x1000_S4096x20x1000_2_0_01_1_n_n none h W)
    (broadcastInDim S4096x20x1000 ![0, 1, 2] bcast_S1x1x1000_S4096x20x1000_0_1_2 (broadcastInDim S1x1x1000 ![2] bcast_S1000_S1x1x1000_2 β))

set_option maxRecDepth 8192 in
set_option maxHeartbeats 0 in
theorem res_eq (m : (ℓ : Loc nD τ sig) → Buf (Elt F) ℓ) (c : Dev nD) :
    Cert.ReferenceIdeal.Value.res_main_v34 m c
      = outV (hidV (winsV (embV (m ((c.tc : Thread nD τ).loc main_arg1)) (idxV (seqV (m ((c.tc : Thread nD τ).loc main_arg0)))))) (m ((c.tc : Thread nD τ).loc main_arg2))
          (m ((c.tc : Thread nD τ).loc main_arg3))) (m ((c.tc : Thread nD τ).loc main_arg4)) (m ((c.tc : Thread nD τ).loc main_arg5)) := by
  unfold Cert.ReferenceIdeal.Value.res_main_v34
  rfl

/-! ## The stages at an index -/

theorem seq_at (I : IVec S4096x20 32) (b p : ℕ) (hb : b < 4096) (hp : p < 39) : (seqV I (n2 4096 39 b p)).toNat = tok I b p := by
  unfold seqV tok
  by_cases hl : p < 19
  · rw [if_pos hl, concatenate_pair_apply_left (t := S4096x39) (s₁ := S4096x19) (s₂ := S4096x20) 1 _ _ _ _ rfl (n2 4096 19 b p) (Fin.forall_fin_two.2 ⟨?_, ?_⟩)]
    · rfl
    · show (n2 4096 19 b p 0).val = (n2 4096 39 b p 0).val
      rw [n2_0 hb, n2_0 hb]
    · show (n2 4096 19 b p 1).val = (n2 4096 39 b p 1).val
      rw [n2_1 hl, n2_1 hp]
  · rw [if_neg hl, concatenate_pair_apply_right (t := S4096x39) (s₁ := S4096x19) (s₂ := S4096x20) 1 _ _ _ _ rfl rfl (n2 4096 20 b (p - 19))
      (Fin.forall_fin_two.2 ⟨fun _ => ?_, fun hh => absurd rfl hh⟩) ?_]
    · show (n2 4096 20 b (p - 19) 1).val + 19 = (n2 4096 39 b p 1).val
      rw [n2_1 (by omega), n2_1 hp]; omega
    · show (n2 4096 20 b (p - 19) 0).val = (n2 4096 39 b p 0).val
      rw [n2_0 hb, n2_0 hb]

theorem seq_le (I : IVec S4096x20 32) (hI : ∀ i, (I i).toNat < 1000) (j : S4096x39.Idx) : (seqV I j).toNat ≤ 1000 := by
  rw [n2_ext j (j 0).val (j 1).val rfl rfl, seq_at I _ _ (j 0).isLt (j 1).isLt, tok]
  split
  · exact le_rfl
  · exact (hI _).le

theorem toInt_small (x : BitVec 32) (h : x.toNat ≤ 1000) : x.toInt = (x.toNat : ℤ) := by
  rw [BitVec.toInt_eq_toNat_cond, if_pos (by omega)]

theorem idx_at (s : IVec S4096x39 32) (hs : ∀ j, (s j).toNat ≤ 1000) (i : S4096x39x1.Idx) : idxV s i = s (n2 4096 39 (i 0).val (i 1).val) := by
  unfold idxV
  refine (broadcastInDim_apply _ _ _ _ (n2 4096 39 (i 0).val (i 1).val) (Fin.forall_fin_two.2 ⟨?_, ?_⟩)).trans ?_
  · exact n2_0 (i 0).isLt
  · exact n2_1 (i 1).isLt
  · show Scalar.select (IntOp.cmpi .slt (s _) 0#32) _ (s _) = s _
    rw [ValueIdx.eq_zero_of_ne_one (b := IntOp.cmpi .slt _ _) (fun h => ?_)]
    · rfl
    · have h1 := IntOp.cmpi_slt.mp h
      rw [toInt_small _ (hs _)] at h1
      have : (0#32 : BitVec 32).toInt = 0 := by decide
      omega

theorem ok_at (q : IVec S4096x39x1 32) (hq : ∀ i, (q i).toNat ≤ 1000) (j : S4096x39.Idx) : okV q j = 1#1 := by
  refine Host.reduce_andi_one _ _ _ _ j rfl fun i => ?_
  refine IntOp.andi_eq_one.mpr ⟨IntOp.cmpi_sge.mpr ?_, IntOp.cmpi_sle.mpr ?_⟩
  · show (0#32 : BitVec 32).toInt ≤ (q i).toInt
    rw [toInt_small _ (hq i)]
    have : (0#32 : BitVec 32).toInt = 0 := by decide
    omega
  · show (q i).toInt ≤ (1000#32 : BitVec 32).toInt
    rw [toInt_small _ (hq i)]
    have : (1000#32 : BitVec 32).toInt = 1000 := by decide
    have := hq i
    omega

theorem gather_at {α : Type} (T : S1001x16.Idx → α) (q : IVec S4096x39x1 32) (hq : ∀ i, (q i).toNat ≤ 1000) (b p w : ℕ) (hb : b < 4096) (hp : p < 39) (hw : w < 16) :
    Host.gather gather_S1001x16_S4096x39x1_S4096x39x16_2_0_n_n_0_2_116 T q (n3 4096 39 16 b p w) = T (n2 1001 16 (q (n3 4096 39 1 b p 0)).toNat w) := by
  have hsi : gather_S1001x16_S4096x39x1_S4096x39x16_2_0_n_n_0_2_116.siIdx (n3 4096 39 16 b p w) ⟨0, Nat.one_pos⟩ = n3 4096 39 1 b p 0 :=
    n3_ext _ b p 0 (n3_0 (b := 39) (c := 16) (j := p) (k := w) hb) (n3_1 (a := 4096) (c := 16) (i := b) (k := w) hp) rfl
  unfold Host.gather
  refine congrArg T (n2_ext _ _ _ ?_ ?_)
  · show min (q (gather_S1001x16_S4096x39x1_S4096x39x16_2_0_n_n_0_2_116.siIdx (n3 4096 39 16 b p w) ⟨0, Nat.one_pos⟩)).toInt.toNat 1000 + 0 + 0 = _
    rw [hsi, toInt_small _ (hq _)]
    have := hq (n3 4096 39 1 b p 0)
    omega
  · show 0 + 0 + (n3 4096 39 16 b p w 2).val = w
    rw [n3_2 hw]; omega

theorem emb_at (T : FVec F S1001x16 .f32) (s : IVec S4096x39 32) (hs : ∀ j, (s j).toNat ≤ 1000) (b p w : ℕ) (hb : b < 4096) (hp : p < 39) (hw : w < 16) :
    embV T (idxV s) (n3 4096 39 16 b p w) = T (n2 1001 16 (s (n2 4096 39 b p)).toNat w) := by
  have hq : ∀ i, (idxV s i).toNat ≤ 1000 := fun i => by rw [idx_at s hs]; exact hs _
  unfold embV
  show Scalar.select (broadcastInDim S4096x39x16 ![0, 1] bcast_S4096x39_S4096x39x16_0_1 (okV (idxV s)) (n3 4096 39 16 b p w)) _ _ = _
  rw [show broadcastInDim S4096x39x16 ![0, 1] bcast_S4096x39_S4096x39x16_0_1 (okV (idxV s)) (n3 4096 39 16 b p w) = 1#1 from ok_at _ hq _]
  refine (gather_at T _ hq b p w hb hp hw).trans ?_
  rw [idx_at s hs]
  congr 4
  exact congrArg₂ (n2 4096 39) (n3_0 (b := 39) (c := 1) (j := p) (k := 0) hb) (n3_1 (a := 4096) (c := 1) (i := b) (k := 0) hp)

theorem win_at (E : FVec F S4096x39x16 .f32) (k b t w : ℕ) (hk : k < 20) (hb : b < 4096) (ht : t < 20) (hw : w < 16) :
    winV E k (n3 4096 20 16 b t w) = E (n3 4096 39 16 b (19 - k + t) w) := by
  refine extractStridedSlice_apply _ _ _ _ _ fun a => ?_
  match a with
  | ⟨0, _⟩ => show (n3 4096 39 16 b (19 - k + t) w 0).val = 0 + (n3 4096 20 16 b t w 0).val; rw [n3_0 hb, n3_0 hb]; omega
  | ⟨1, _⟩ => show (n3 4096 39 16 b (19 - k + t) w 1).val = 19 - k + (n3 4096 20 16 b t w 1).val; rw [n3_1 (by omega), n3_1 ht]
  | ⟨2, _⟩ => show (n3 4096 39 16 b (19 - k + t) w 2).val = 0 + (n3 4096 20 16 b t w 2).val; rw [n3_2 hw, n3_2 hw]; omega

theorem row_at (w n p : ℕ) [NeZero w] (E : FVec F S4096x39x16 .f32) (h) (b t c : ℕ) (hp : p + n ≤ 20) (hb : b < 4096) (ht : t < 20) (hc : c < w) (hn : c / 16 < n) :
    rowV w n p E h (n3 4096 20 w b t c) = E (n3 4096 39 16 b (19 - (p + c / 16) + t) (c % 16)) := by
  refine (concatenate_ofFn_apply 2 (fun i : Fin n => winV E (p + i.val)) h rfl 16 rfl _ ⟨c / 16, hn⟩ ?_ (n3 4096 20 16 b t (c % 16)) ?_ ?_).trans
    (win_at E (p + c / 16) b t (c % 16) (by omega) hb ht (by omega))
  · show (n3 4096 20 w b t c 2).val / 16 = c / 16
    rw [n3_2 hc]
  · show (n3 4096 20 16 b t (c % 16) 2).val = (n3 4096 20 w b t c 2).val % 16
    rw [n3_2 (by omega), n3_2 hc]
  · intro a ha
    match a with
    | ⟨0, _⟩ => show (n3 4096 20 16 b t (c % 16) 0).val = (n3 4096 20 w b t c 0).val; rw [n3_0 hb, n3_0 hb]
    | ⟨1, _⟩ => show (n3 4096 20 16 b t (c % 16) 1).val = (n3 4096 20 w b t c 1).val; rw [n3_1 ht, n3_1 ht]
    | ⟨2, _⟩ => exact absurd rfl ha

theorem wins_at (E : FVec F S4096x39x16 .f32) (b t c : ℕ) (hb : b < 4096) (ht : t < 20) (hc : c < 320) :
    winsV E (n3 4096 20 320 b t c) = E (n3 4096 39 16 b (19 - c / 16 + t) (c % 16)) := by
  unfold winsV
  by_cases hl : c < 256
  · refine (concatenate_pair_apply_left (t := S4096x20x320) (s₁ := S4096x20x256) (s₂ := S4096x20x64) 2 _ _ _ _ rfl (n3 4096 20 256 b t c) fun a => ?_).trans ?_
    · match a with
      | ⟨0, _⟩ => show (n3 4096 20 256 b t c 0).val = (n3 4096 20 320 b t c 0).val; rw [n3_0 hb, n3_0 hb]
      | ⟨1, _⟩ => show (n3 4096 20 256 b t c 1).val = (n3 4096 20 320 b t c 1).val; rw [n3_1 ht, n3_1 ht]
      | ⟨2, _⟩ => show (n3 4096 20 256 b t c 2).val = (n3 4096 20 320 b t c 2).val; rw [n3_2 hl, n3_2 hc]
    · refine (row_at 256 16 0 E _ b t c (by omega) hb ht hl (by omega)).trans ?_
      rw [Nat.zero_add]
  · refine (concatenate_pair_apply_right (t := S4096x20x320) (s₁ := S4096x20x256) (s₂ := S4096x20x64) 2 _ _ _ _ rfl rfl (n3 4096 20 64 b t (c - 256)) (fun a ha => ?_) ?_).trans ?_
    · match a with
      | ⟨0, _⟩ => show (n3 4096 20 64 b t (c - 256) 0).val = (n3 4096 20 320 b t c 0).val; rw [n3_0 hb, n3_0 hb]
      | ⟨1, _⟩ => show (n3 4096 20 64 b t (c - 256) 1).val = (n3 4096 20 320 b t c 1).val; rw [n3_1 ht, n3_1 ht]
      | ⟨2, _⟩ => exact absurd rfl ha
    · show (n3 4096 20 64 b t (c - 256) 2).val + 256 = (n3 4096 20 320 b t c 2).val
      rw [n3_2 (by omega), n3_2 hc]; omega
    · refine (row_at 64 4 16 E _ b t (c - 256) (by omega) hb ht (by omega) (by omega)).trans ?_
      rw [show 16 + (c - 256) / 16 = c / 16 by omega, show (c - 256) % 16 = c % 16 by omega]

/-- A product of an array of rows of rows with a matrix. -/
theorem dot_at {A B K N : ℕ} [NeZero A] [NeZero B] [NeZero K] [NeZero N] (w : DotDims.WF ⟨3, ![A, B, K]⟩ ⟨2, ![K, N]⟩ ⟨3, ![A, B, N]⟩ [2] [0] [0, 1] [1] [] [])
    (d : DotDims ⟨3, ![A, B, K]⟩ ⟨2, ![K, N]⟩ ⟨3, ![A, B, N]⟩) (hd : d = ⟨[2], [0], [0, 1], [1], [], [], w⟩) (x : FVec Ideal ⟨3, ![A, B, K]⟩ .f32) (y : FVec Ideal ⟨2, ![K, N]⟩ .f32)
    (a b c : ℕ) (ha : a < A) (hb : b < B) (hc : c < N) :
    Host.dotGeneral d none x y (n3 A B N a b c) = ∑ k ∈ Finset.range K, x (n3 A B K a b k) * y (n2 K N k c) := by
  subst hd
  refine (Ideal.dotGeneral_apply ..).trans ?_
  rw [← Equiv.sum_comp (ValueIdx.contrEquiv1 _ K rfl rfl).symm, ← Fin.sum_univ_eq_sum_range (fun k => x (n3 A B K a b k) * y (n2 K N k c)) K]
  refine Finset.sum_congr rfl fun k _ => ?_
  have hk := ValueIdx.contrEquiv1_symm_val (⟨[2], [0], [0, 1], [1], [], [], w⟩ : DotDims ⟨3, ![A, B, K]⟩ ⟨2, ![K, N]⟩ ⟨3, ![A, B, N]⟩) K rfl rfl k
  exact congrArg₂ (fun p q => x p * y q)
    (n3_ext _ a b k.val (n3_0 (b := B) (c := N) (j := b) (k := c) ha) (n3_1 (a := A) (c := N) (i := a) (k := c) hb) hk)
    (n2_ext _ k.val c hk (n3_2 (a := A) (b := B) (i := a) (j := b) hc))

theorem bias_at {α : Type} {N : ℕ} [NeZero N] (β : (⟨1, ![N]⟩ : Shape).Idx → α) (hN : N ≠ 1) (h₁ : (⟨1, ![N]⟩ : Shape).BroadcastsInDim ⟨3, ![1, 1, N]⟩ ![2])
    (h₂ : (⟨3, ![1, 1, N]⟩ : Shape).BroadcastsInDim ⟨3, ![4096, 20, N]⟩ ![0, 1, 2]) (b t j : ℕ) (hj : j < N) :
    broadcastInDim ⟨3, ![4096, 20, N]⟩ ![0, 1, 2] h₂ (broadcastInDim ⟨3, ![1, 1, N]⟩ ![2] h₁ β) (n3 4096 20 N b t j) = β (n1 N j) := by
  refine (broadcastInDim_apply _ _ _ _ (n3 1 1 N 0 0 j) fun a => ?_).trans (broadcastInDim_apply _ _ _ _ (n1 N j) fun a => ?_)
  · match a with
    | ⟨0, _⟩ => rfl
    | ⟨1, _⟩ => rfl
    | ⟨2, _⟩ => show (n3 1 1 N 0 0 j 2).val = if N = 1 then 0 else (n3 4096 20 N b t j 2).val; rw [if_neg hN, n3_2 hj, n3_2 hj]
  · match a with
    | ⟨0, _⟩ => show (n1 N j 0).val = if N = 1 then 0 else (n3 1 1 N 0 0 j 2).val; rw [if_neg hN, n1_0 hj, n3_2 hj]

set_option maxRecDepth 16384 in
/-- The reference computes the logits. -/
theorem out_at (I : IVec S4096x20 32) (hI : ∀ i, (I i).toNat < 1000) (T : FVec Ideal S1001x16 .f32) (W : FVec Ideal S320x64 .f32) (β : FVec Ideal S64 .f32)
    (W' : FVec Ideal S64x1000 .f32) (β' : FVec Ideal S1000 .f32) (b t v : ℕ) (hb : b < 4096) (ht : t < 20) (hv : v < 1000) :
    outV (hidV (winsV (embV T (idxV (seqV I)))) W β) W' β' (n3 4096 20 1000 b t v) = logit I T W β W' β' b t v := by
  unfold outV logit
  refine congrArg₂ (fun p q : EReal => p + q) ((dot_at dot_S4096x20x64_S64x1000_S4096x20x1000_2_0_01_1_n_n_wf dot_S4096x20x64_S64x1000_S4096x20x1000_2_0_01_1_n_n rfl _ _ b t v hb ht hv).trans
    (Finset.sum_congr rfl fun j hj => ?_)) (bias_at β' (by decide) _ _ b t v hv)
  have hj := Finset.mem_range.1 hj
  refine congrArg (fun p : EReal => p * W' (n2 64 1000 j v)) ?_
  unfold hidV unit
  rw [Host.tanh_apply]
  rw [Ideal.hostUnary_tanh_def]
  refine congrArg Ideal.tanh ?_
  refine (congrArg₂ (fun p q : EReal => p + q) ((dot_at dot_S4096x20x320_S320x64_S4096x20x64_2_0_01_1_n_n_wf dot_S4096x20x320_S320x64_S4096x20x64_2_0_01_1_n_n rfl _ _ b t j hb ht hj).trans
    (Finset.sum_congr rfl fun k hk => ?_)) (bias_at β (by decide) _ _ b t j hj))
  have hk := Finset.mem_range.1 hk
  refine congrArg (fun p : EReal => p * W (n2 320 64 k j)) ?_
  rw [wins_at _ b t k hb ht hk, emb_at T _ (seq_le I hI) b _ _ hb (by omega) (by omega), seq_at I b _ hb (by omega), word,
    show (16 * (19 - k / 16 + t) + k % 16) / 16 = 19 - k / 16 + t by omega, show (16 * (19 - k / 16 + t) + k % 16) % 16 = k % 16 by omega]

end Cert.Proof.Ref

end
-- ==== Proof.Algebraic.lean ====
/- # The kernel and the reference compute the same -/
module

public import proofs.«01_k».proof.Proof.Value
public import proofs.«01_k».proof.Proof.Ref
public import proofs.«01_k».proof.Proof.Frames
@[expose] public section

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation BodyObligationLoose)

variable {F : FTy → Type} [FloatOps F]

local notation "𝕄" => MT nD τ sig (HIx 2) (Elt F) ℕ UU ℕ

theorem frame_ref_pre : Cert.quiescent_ReferenceIdeal_pre_in_vocab := fun m ρ _ => frame_ref m ρ trivial

/-- The kernel's result and the reference's are the same extended reals. -/
theorem value_eq (m : (ℓ : Loc nD τ sig) → Buf (Elt Ideal) ℓ) (hp : Cert.Pre_KernelIdeal m) (hm : InRange (F := Ideal) m) (c : Dev nD) :
    (Cert.Proof.Ref.outV (F := Ideal) (Cert.Proof.Ref.hidV (Cert.Proof.Ref.winsV (Cert.Proof.Ref.embV (m (c, Proc.devRef .tc main_arg1))
        (Cert.Proof.Ref.idxV (Cert.Proof.Ref.seqV (m (c, Proc.devRef .tc main_arg0)))))) (m (c, Proc.devRef .tc main_arg2)) (m (c, Proc.devRef .tc main_arg3)))
        (m (c, Proc.devRef .tc main_arg4)) (m (c, Proc.devRef .tc main_arg5)) : S4096x20x1000.Idx → EReal)
      = VE m c hm (Proc.devRef .tc main_v54) := by
  have hI : ∀ i : S4096x20.Idx, ((m (c, Proc.devRef .tc main_arg0) : S4096x20.Idx → BitVec 32) i).toNat < 1000 := idx_lt _ _ _ _ _ _ (hp c)
  funext i
  rw [n3_ext i _ _ _ rfl rfl rfl]
  exact (Cert.Proof.Ref.out_at _ hI _ _ _ _ _ _ _ _ (i 0).isLt (i 1).isLt (i 2).isLt).trans (VE_v54 m c hm hI _ _ _ (i 0).isLt (i 1).isLt (i 2).isLt).symm

theorem value_ref : Cert.algebraic_KernelIdeal_ReferenceIdeal := fun m g m' g' hp ha =>
  ⟨fun c => VE m c (inRange_ideal m hp) (Proc.devRef .tc main_v54),
    (θ_run (defs (F := Ideal)) _ _).mono (fun _ h c => ⟨h.1 c main_v54 rfl, QC_args (F := Ideal) h c⟩) (run_main (F := Ideal) m (inRange_ideal m hp) g),
    (θ_run (Cert.ReferenceIdeal.defs (F := Ideal)) _ _).mono (fun r h c => ⟨(h c).1.trans (by
      obtain ⟨h0, h1, h2, h3, h4, h5⟩ := ha c
      rw [Cert.Proof.Ref.res_eq, h0, h1, h2, h3, h4, h5]
      exact value_eq m hp (inRange_ideal m hp) c), (h c).2⟩) (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_in_vocab
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_vocab.Gen.facts,
  frame_kernel, frame_ideal, frame_ref, frame_ref_pre, trivial, value_ref⟩

end Cert.Proof

end
